-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S8192x8x128 : Shape := ⟨3, ![8192, 8, 128]⟩
abbrev S8192x8x64 : Shape := ⟨3, ![8192, 8, 64]⟩
abbrev S8192x64 : Shape := ⟨2, ![8192, 64]⟩
abbrev S2048x5632 : Shape := ⟨2, ![2048, 5632]⟩
abbrev S5632x2048 : Shape := ⟨2, ![5632, 2048]⟩
abbrev S_ : Shape := ⟨0, ![]⟩

class Facts : Prop where
  bcast_S_S8192x8x128 : S_.BroadcastsInDim S8192x8x128 (![] : Fin 0 → Fin S8192x8x128.rank)
  reducesTo_S8192x8x128_S_d0_1_2 : S8192x8x128.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg2 : FVec F S8192x8x128 .f32) (main_arg3 : FVec F S8192x64 .f32) (main_v14 : IVec S_ 1) (main_v16 : FVec F S8192x8x128 .f32) : IVec S_ 1 :=
  let main_v17 : IVec S8192x8x128 1 := cmpf .olt main_v16 main_arg2
  let main_cst_5 : FVec F S_ .f32 := constant S_ .f32 0x7F800000#32
  let main_v18 : FVec F S8192x8x128 .f32 := broadcastInDim S8192x8x128 ![] bcast_S_S8192x8x128 main_cst_5
  let main_v19 : IVec S8192x8x128 1 := cmpf .olt main_arg2 main_v18
  let main_v20 : IVec S8192x8x128 1 := andi main_v17 main_v19
  let main_c_6 : IVec S_ 1 := constantI S_ 1 1#1
  let main_v21 : IVec S_ 1 := (fun x v => Host.reduce IntOp.andi x v reducesTo_S8192x8x128_S_d0_1_2 h_S_) main_v20 main_c_6
  let main_v22 : IVec S_ 1 := andi main_v14 main_v21
  let main_cst_7 : FVec F S_ .f32 := constant S_ .f32 0x7F800000#32
  let main_v23 : FVec F S_ .f32 := Host.negf main_cst_7
  let main_v24 : FVec F S8192x64 .f32 := broadcastInDim S8192x64 ![] bcast_S_S8192x64 main_v23
  let main_v25 : IVec S8192x64 1 := cmpf .olt main_v24 main_arg3
  let main_cst_8 : FVec F S_ .f32 := constant S_ .f32 0x7F800000#32
  let main_v26 : FVec F S8192x64 .f32 := broadcastInDim S8192x64 ![] bcast_S_S8192x64 main_cst_8
  let main_v27 : IVec S8192x64 1 := cmpf .olt main_arg3 main_v26
  let main_v28 : IVec S8192x64 1 := andi main_v25 main_v27
  let main_c_9 : IVec S_ 1 := constantI S_ 1 1#1
  let main_v29 : IVec S_ 1 := (fun x v => Host.reduce IntOp.andi x v reducesTo_S8192x64_S_d0_1 h_S_) main_v28 main_c_9
  let main_v30 : IVec S_ 1 := andi main_v22 main_v29
  main_v30

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) (main_arg5 : FVec F S2048x5632 .f32) (main_arg6 : FVec F S2048x5632 .f32) (main_arg7 : FVec F S5632x2048 .f32) : IVec S_ 1 :=
  let main_cst : FVec F S_ .f32 := constant S_ .f32 0x7F800000#32
  let main_v0 : FVec F S_ .f32 := Host.negf main_cst
  let main_v1 : FVec F S8192x8x128 .f32 := broadcastInDim S8192x8x128 ![] bcast_S_S8192x8x128 main_v0
  let main_v2 : IVec S8192x8x128 1 := cmpf .olt main_v1 main_arg0
  let main_cst_0 : FVec F S_ .f32 := constant S_ .f32 0x7F800000#32
  let main_v3 : FVec F S8192x8x128 .f32 := broadcastInDim S8192x8x128 ![] bcast_S_S8192x8x128 main_cst_0
  let main_v4 : IVec S8192x8x128 1 := cmpf .olt main_arg0 main_v3
  let main_v5 : IVec S8192x8x128 1 := andi main_v2 main_v4
  let main_c : IVec S_ 1 := constantI S_ 1 1#1
  let main_v6 : IVec S_ 1 := (fun x v => Host.reduce IntOp.andi x v reducesTo_S8192x8x128_S_d0_1_2 h_S_) main_v5 main_c
  let main_cst_1 : FVec F S_ .f32 := constant S_ .f32 0x7F800000#32
  let main_v7 : FVec F S_ .f32 := Host.negf main_cst_1
  let main_v8 : FVec F S8192x8x64 .f32 := broadcastInDim S8192x8x64 ![] bcast_S_S8192x8x64 main_v7
  let main_v9 : IVec S8192x8x64 1 := cmpf .olt main_v8 main_arg1
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_arg1 main_v10
  let main_v12 : IVec S8192x8x64 1 := andi main_v9 main_v11
  let main_c_3 : IVec S_ 1 := constantI S_ 1 1#1
  let main_v13 : IVec S_ 1 := (fun x v => Host.reduce IntOp.andi x v reducesTo_S8192x8x64_S_d0_1_2 h_S_) main_v12 main_c_3
  let main_v14 : IVec S_ 1 := andi main_v6 main_v13
  let main_cst_4 : FVec F S_ .f32 := constant S_ .f32 0x7F800000#32
  let main_v15 : FVec F S_ .f32 := Host.negf main_cst_4
  let main_v16 : FVec F S8192x8x128 .f32 := broadcastInDim S8192x8x128 ![] bcast_S_S8192x8x128 main_v15
  fn_part1 (F := F) main_arg2 main_arg3 main_v14 main_v16
-- ==== Kernel.lean ====
abbrev S8192x8x128 : Shape := ⟨3, ![8192, 8, 128]⟩
abbrev S8192x8x64 : Shape := ⟨3, ![8192, 8, 64]⟩
abbrev S8192x64 : Shape := ⟨2, ![8192, 64]⟩
abbrev S2048x5632 : Shape := ⟨2, ![2048, 5632]⟩
abbrev S5632x2048 : Shape := ⟨2, ![5632, 2048]⟩
abbrev S_ : Shape := ⟨0, ![]⟩
abbrev S8192x8x256 : Shape := ⟨3, ![8192, 8, 256]⟩
abbrev S8x256x8192 : Shape := ⟨3, ![8, 256, 8192]⟩
abbrev S8192x128 : Shape := ⟨2, ![8192, 128]⟩
abbrev S8192x1x128 : Shape := ⟨3, ![8192, 1, 128]⟩
abbrev S8x8192x256 : Shape := ⟨3, ![8, 8192, 256]⟩
abbrev S8192x8x1 : Shape := ⟨3, ![8192, 8, 1]⟩
abbrev S8192x8x15 : Shape := ⟨3, ![8192, 8, 15]⟩
abbrev S8192x8x144 : Shape := ⟨3, ![8192, 8, 144]⟩
abbrev S32x256x8x144 : Shape := ⟨4, ![32, 256, 8, 144]⟩
abbrev S8x32x144x256 : Shape := ⟨4, ![8, 32, 144, 256]⟩
abbrev S8192x1024 : Shape := ⟨2, ![8192, 1024]⟩
abbrev S2x256x1024 : Shape := ⟨3, ![2, 256, 1024]⟩
abbrev S2x8192x256 : Shape := ⟨3, ![2, 8192, 256]⟩
abbrev S2x32x144x256 : Shape := ⟨4, ![2, 32, 144, 256]⟩
abbrev S64x5632 : Shape := ⟨2, ![64, 5632]⟩
abbrev S176x2048 : Shape := ⟨2, ![176, 2048]⟩
abbrev S1024x256 : Shape := ⟨2, ![1024, 256]⟩
abbrev S2x1x1024 : Shape := ⟨3, ![2, 1, 1024]⟩
abbrev S2x144x1024 : Shape := ⟨3, ![2, 144, 1024]⟩
abbrev S4x512x512 : Shape := ⟨3, ![4, 512, 512]⟩
abbrev S4x1x512 : Shape := ⟨3, ![4, 1, 512]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S144x512 : Shape := ⟨2, ![144, 512]⟩
abbrev S1x1x144x256 : Shape := ⟨4, ![1, 1, 144, 256]⟩
abbrev S144x256 : Shape := ⟨2, ![144, 256]⟩
abbrev S1x144x512 : Shape := ⟨3, ![1, 144, 512]⟩
abbrev S1x128x1024 : Shape := ⟨3, ![1, 128, 1024]⟩
abbrev S128x1024 : Shape := ⟨2, ![128, 1024]⟩
abbrev S1x1x1024 : Shape := ⟨3, ![1, 1, 1024]⟩
abbrev S1x1024 : Shape := ⟨2, ![1, 1024]⟩
abbrev S1024x128 : Shape := ⟨2, ![1024, 128]⟩

abbrev nBuf : Space → Nat
  | .hbm => 42
  | .vmem => 26
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S_, .f32⟩
  | .hbm, ⟨9, _⟩ => ⟨S8192x8x64, .f32⟩
  | .hbm, ⟨10, _⟩ => ⟨S8192x8x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x8x256, .f32⟩
  | .hbm, ⟨19, _⟩ => ⟨S8192x8x256, .f32⟩
  | .hbm, ⟨20, _⟩ => ⟨S8x256x8192, .f32⟩
  | .hbm, ⟨21, _⟩ => ⟨S8x256x8192, .bf16⟩
  | .hbm, ⟨22, _⟩ => ⟨S_, .f32⟩
  | .hbm, ⟨23, _⟩ => ⟨S8192x64, .f32⟩
  | .hbm, ⟨24, _⟩ => ⟨S8192x128, .f32⟩
  | .hbm, ⟨25, _⟩ => ⟨S8192x1x128, .f32⟩
  | .hbm, ⟨26, _⟩ => ⟨S8192x8x128, .f32⟩
  | .hbm, ⟨27, _⟩ => ⟨S8192x8x256, .f32⟩
  | .hbm, ⟨28, _⟩ => ⟨S8x8192x256, .f32⟩
  | .hbm, ⟨29, _⟩ => ⟨S8x8192x256, .bf16⟩
  | .hbm, ⟨30, _⟩ => ⟨S_, .f32⟩
  | .hbm, ⟨31, _⟩ => ⟨S8192x8x1, .f32⟩
  | .hbm, ⟨32, _⟩ => ⟨S_, .f32⟩
  | .hbm, ⟨33, _⟩ => ⟨S8192x8x15, .f32⟩
  | .hbm, ⟨34, _⟩ => ⟨S8192x8x144, .f32⟩
  | .hbm, ⟨35, _⟩ => ⟨S32x256x8x144, .f32⟩
  | .hbm, ⟨36, _⟩ => ⟨S8x32x144x256, .f32⟩
  | .hbm, ⟨37, _⟩ => ⟨S8x32x144x256, .bf16⟩
  | .hbm, ⟨38, _⟩ => ⟨S8192x1024, .f32⟩
  | .hbm, ⟨39, _⟩ => ⟨S2048x5632, .bf16⟩
  | .hbm, ⟨40, _⟩ => ⟨S2048x5632, .bf16⟩
  | .hbm, ⟨41, _⟩ => ⟨S5632x2048, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x8192x256, .bf16⟩
  | .local _ .vmem, ⟨3, _⟩ => ⟨S2x8192x256, .bf16⟩
  | .local _ .vmem, ⟨4, _⟩ => ⟨S2x32x144x256, .bf16⟩
  | .local _ .vmem, ⟨5, _⟩ => ⟨S2x32x144x256, .bf16⟩
  | .local _ .vmem, ⟨6, _⟩ => ⟨S64x5632, .f32⟩
  | .local _ .vmem, ⟨7, _⟩ => ⟨S64x5632, .f32⟩
  | .local _ .vmem, ⟨8, _⟩ => ⟨S64x5632, .f32⟩
  | .local _ .vmem, ⟨9, _⟩ => ⟨S64x5632, .f32⟩
  | .local _ .vmem, ⟨10, _⟩ => ⟨S176x2048, .f32⟩
  | .local _ .vmem, ⟨11, _⟩ => ⟨S176x2048, .f32⟩
  | .local _ .vmem, ⟨12, _⟩ => ⟨S1024x256, .f32⟩
  | .local _ .vmem, ⟨13, _⟩ => ⟨S1024x256, .f32⟩
  | .local _ .vmem, ⟨14, _⟩ => ⟨S64x5632, .bf16⟩
  | .local _ .vmem, ⟨15, _⟩ => ⟨S64x5632, .bf16⟩
  | .local _ .vmem, ⟨16, _⟩ => ⟨S64x5632, .bf16⟩
  | .local _ .vmem, ⟨17, _⟩ => ⟨S64x5632, .bf16⟩
  | .local _ .vmem, ⟨18, _⟩ => ⟨S176x2048, .bf16⟩
  | .local _ .vmem, ⟨19, _⟩ => ⟨S176x2048, .bf16⟩
  | .local _ .vmem, ⟨20, _⟩ => ⟨S2x1x1024, .f32⟩
  | .local _ .vmem, ⟨21, _⟩ => ⟨S2x144x1024, .f32⟩
  | .local _ .vmem, ⟨22, _⟩ => ⟨S4x512x512, .f32⟩
  | .local _ .vmem, ⟨23, _⟩ => ⟨S4x512x512, .f32⟩
  | .local _ .vmem, ⟨24, _⟩ => ⟨S4x1x512, .f32⟩
  | .local _ .vmem, ⟨25, _⟩ => ⟨S4x1x512, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
@[reducible] def k0_t1_loop (i : grid0.Coords) : Scf.Loop 32 :=
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_68 : BitVec 32 := 1#32
  ⟨c0_i32_67, v79, c1_i32_68⟩
def k0_mult2 (i : grid0.Coords) (k0_t1 : Fin (k0_t1_loop i).trips) : BitVec 32 :=
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_296 : BitVec 32 := 1#32
  let v395 : BitVec 32 := Scalar.addi v394 c1_i32_296
  let c512_i32_297 : BitVec 32 := 512#32
  let v396 : BitVec 32 := Scalar.muli v395 c512_i32_297
  v396
def k0_off1 (i : grid0.Coords) (k0_t1 : Fin (k0_t1_loop i).trips) : Fin 3 → Nat :=
  let c0_298 : Index := 0#32
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_296 : BitVec 32 := 1#32
  let v395 : BitVec 32 := Scalar.addi v394 c1_i32_296
  let c512_i32_297 : BitVec 32 := 512#32
  let v396 : BitVec 32 := Scalar.muli v395 c512_i32_297
  let v397 : BitVec 32 := v396
  let v398 : Index := Scalar.indexCast v397
  let c0_299 : Index := 0#32
  ![0, v398.toNat, 0]
def k0_off2 (i : grid0.Coords) (k0_t1 : Fin (k0_t1_loop i).trips) (c0_i32_322 : BitVec 32) : Fin 4 → Nat :=
  let c0_323 : Index := 0#32
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c2_i32_321 : BitVec 32 := 2#32
  let v426 : BitVec 32 := Scalar.muli v394 c2_i32_321
  let v427 : BitVec 32 := Scalar.addi v426 c0_i32_322
  let v428 : Index := Scalar.indexCast v427
  let c0_324 : Index := 0#32
  let c0_325 : Index := 0#32
  ![0, v428.toNat, 0, 0]
def k0_mult3 (i : grid0.Coords) (k0_t1 : Fin (k0_t1_loop i).trips) : BitVec 32 :=
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_342 : BitVec 32 := 1#32
  let v453 : BitVec 32 := Scalar.addi v394 c1_i32_342
  let c512_i32_343 : BitVec 32 := 512#32
  let v454 : BitVec 32 := Scalar.muli v453 c512_i32_343
  v454
def k0_mult4 (i : grid0.Coords) (k0_t1 : Fin (k0_t1_loop i).trips) : BitVec 32 :=
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_388 : BitVec 32 := 1#32
  let v511 : BitVec 32 := Scalar.addi v394 c1_i32_388
  let c512_i32_389 : BitVec 32 := 512#32
  let v512 : BitVec 32 := Scalar.muli v511 c512_i32_389
  v512
def k0_off3 (i : grid0.Coords) (k0_t1 : Fin (k0_t1_loop i).trips) : Fin 3 → Nat :=
  let c1_390 : Index := 1#32
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_388 : BitVec 32 := 1#32
  let v511 : BitVec 32 := Scalar.addi v394 c1_i32_388
  let c512_i32_389 : BitVec 32 := 512#32
  let v512 : BitVec 32 := Scalar.muli v511 c512_i32_389
  let v513 : BitVec 32 := v512
  let v514 : Index := Scalar.indexCast v513
  let c0_391 : Index := 0#32
  ![1, v514.toNat, 0]
def k0_off4 (i : grid0.Coords) (k0_t1 : Fin (k0_t1_loop i).trips) (c0_i32_414 : BitVec 32) : Fin 4 → Nat :=
  let c1_415 : Index := 1#32
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c2_i32_413 : BitVec 32 := 2#32
  let v542 : BitVec 32 := Scalar.muli v394 c2_i32_413
  let v543 : BitVec 32 := Scalar.addi v542 c0_i32_414
  let v544 : Index := Scalar.indexCast v543
  let c0_416 : Index := 0#32
  let c0_417 : Index := 0#32
  ![1, v544.toNat, 0, 0]
def k0_mult5 (i : grid0.Coords) (k0_t1 : Fin (k0_t1_loop i).trips) : BitVec 32 :=
  let c2_i32_295 : BitVec 32 := 2#32
  let c0_i32_67 : BitVec 32 := 0#32
  let c1_i32_68 : BitVec 32 := 1#32
  let arg18 : BitVec 32 := Scf.iv c0_i32_67 c1_i32_68 k0_t1
  let v394 : BitVec 32 := Scalar.muli c2_i32_295 arg18
  let c1_i32_434 : BitVec 32 := 1#32
  let v569 : BitVec 32 := Scalar.addi v394 c1_i32_434
  let c512_i32_435 : BitVec 32 := 512#32
  let v570 : BitVec 32 := Scalar.muli v569 c512_i32_435
  v570
def k0_mult6 (i : grid0.Coords) (k0_t1 : Fin (k0_t1_loop i).trips) : BitVec 32 :=
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_482 : BitVec 32 := 1#32
  let v629 : BitVec 32 := Scalar.addi v628 c1_i32_482
  let c512_i32_483 : BitVec 32 := 512#32
  let v630 : BitVec 32 := Scalar.muli v629 c512_i32_483
  v630
def k0_off5 (i : grid0.Coords) (k0_t1 : Fin (k0_t1_loop i).trips) : Fin 3 → Nat :=
  let c0_484 : Index := 0#32
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_482 : BitVec 32 := 1#32
  let v629 : BitVec 32 := Scalar.addi v628 c1_i32_482
  let c512_i32_483 : BitVec 32 := 512#32
  let v630 : BitVec 32 := Scalar.muli v629 c512_i32_483
  let v631 : BitVec 32 := v630
  let v632 : Index := Scalar.indexCast v631
  let c0_485 : Index := 0#32
  ![0, v632.toNat, 0]
def k0_off6 (i : grid0.Coords) (k0_t1 : Fin (k0_t1_loop i).trips) (c0_i32_508 : BitVec 32) : Fin 4 → Nat :=
  let c0_509 : Index := 0#32
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c2_i32_507 : BitVec 32 := 2#32
  let v660 : BitVec 32 := Scalar.muli v628 c2_i32_507
  let v661 : BitVec 32 := Scalar.addi v660 c0_i32_508
  let v662 : Index := Scalar.indexCast v661
  let c0_510 : Index := 0#32
  let c0_511 : Index := 0#32
  ![0, v662.toNat, 0, 0]
def k0_mult7 (i : grid0.Coords) (k0_t1 : Fin (k0_t1_loop i).trips) : BitVec 32 :=
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_528 : BitVec 32 := 1#32
  let v687 : BitVec 32 := Scalar.addi v628 c1_i32_528
  let c512_i32_529 : BitVec 32 := 512#32
  let v688 : BitVec 32 := Scalar.muli v687 c512_i32_529
  v688
def k0_mult8 (i : grid0.Coords) (k0_t1 : Fin (k0_t1_loop i).trips) : BitVec 32 :=
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_574 : BitVec 32 := 1#32
  let v745 : BitVec 32 := Scalar.addi v628 c1_i32_574
  let c512_i32_575 : BitVec 32 := 512#32
  let v746 : BitVec 32 := Scalar.muli v745 c512_i32_575
  v746
def k0_off7 (i : grid0.Coords) (k0_t1 : Fin (k0_t1_loop i).trips) : Fin 3 → Nat :=
  let c1_576 : Index := 1#32
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_574 : BitVec 32 := 1#32
  let v745 : BitVec 32 := Scalar.addi v628 c1_i32_574
  let c512_i32_575 : BitVec 32 := 512#32
  let v746 : BitVec 32 := Scalar.muli v745 c512_i32_575
  let v747 : BitVec 32 := v746
  let v748 : Index := Scalar.indexCast v747
  let c0_577 : Index := 0#32
  ![1, v748.toNat, 0]
def k0_off8 (i : grid0.Coords) (k0_t1 : Fin (k0_t1_loop i).trips) (c0_i32_600 : BitVec 32) : Fin 4 → Nat :=
  let c1_601 : Index := 1#32
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c2_i32_599 : BitVec 32 := 2#32
  let v776 : BitVec 32 := Scalar.muli v628 c2_i32_599
  let v777 : BitVec 32 := Scalar.addi v776 c0_i32_600
  let v778 : Index := Scalar.indexCast v777
  let c0_602 : Index := 0#32
  let c0_603 : Index := 0#32
  ![1, v778.toNat, 0, 0]
def k0_mult9 (i : grid0.Coords) (k0_t1 : Fin (k0_t1_loop i).trips) : BitVec 32 :=
  let c2_i32_480 : BitVec 32 := 2#32
  let c0_i32_67 : BitVec 32 := 0#32
  let c1_i32_68 : BitVec 32 := 1#32
  let arg18 : BitVec 32 := Scf.iv c0_i32_67 c1_i32_68 k0_t1
  let v627 : BitVec 32 := Scalar.muli c2_i32_480 arg18
  let c1_i32_481 : BitVec 32 := 1#32
  let v628 : BitVec 32 := Scalar.addi v627 c1_i32_481
  let c1_i32_620 : BitVec 32 := 1#32
  let v803 : BitVec 32 := Scalar.addi v628 c1_i32_620
  let c512_i32_621 : BitVec 32 := 512#32
  let v804 : BitVec 32 := Scalar.muli v803 c512_i32_621
  v804
@[reducible] def k0_t2_loop (i : grid0.Coords) : Scf.Loop 32 :=
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let v76 : BitVec 32 := Scalar.addi c0_i32_67 v75
  let c1_i32_69 : BitVec 32 := 1#32
  ⟨v79, v76, c1_i32_69⟩
def k0_mult10 (i : grid0.Coords) (k0_t2 : Fin (k0_t2_loop i).trips) : BitVec 32 :=
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_296 : BitVec 32 := 1#32
  let v395 : BitVec 32 := Scalar.addi v394 c1_i32_296
  let c512_i32_297 : BitVec 32 := 512#32
  let v396 : BitVec 32 := Scalar.muli v395 c512_i32_297
  v396
def k0_off9 (i : grid0.Coords) (k0_t2 : Fin (k0_t2_loop i).trips) : Fin 3 → Nat :=
  let c0_298 : Index := 0#32
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_296 : BitVec 32 := 1#32
  let v395 : BitVec 32 := Scalar.addi v394 c1_i32_296
  let c512_i32_297 : BitVec 32 := 512#32
  let v396 : BitVec 32 := Scalar.muli v395 c512_i32_297
  let v397 : BitVec 32 := v396
  let v398 : Index := Scalar.indexCast v397
  let c0_299 : Index := 0#32
  ![0, v398.toNat, 0]
def k0_off10 (i : grid0.Coords) (k0_t2 : Fin (k0_t2_loop i).trips) (c0_i32_322 : BitVec 32) : Fin 4 → Nat :=
  let c0_323 : Index := 0#32
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c2_i32_321 : BitVec 32 := 2#32
  let v426 : BitVec 32 := Scalar.muli v394 c2_i32_321
  let v427 : BitVec 32 := Scalar.addi v426 c0_i32_322
  let v428 : Index := Scalar.indexCast v427
  let c0_324 : Index := 0#32
  let c0_325 : Index := 0#32
  ![0, v428.toNat, 0, 0]
def k0_mult11 (i : grid0.Coords) (k0_t2 : Fin (k0_t2_loop i).trips) : BitVec 32 :=
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_342 : BitVec 32 := 1#32
  let v453 : BitVec 32 := Scalar.addi v394 c1_i32_342
  let c512_i32_343 : BitVec 32 := 512#32
  let v454 : BitVec 32 := Scalar.muli v453 c512_i32_343
  v454
def k0_mult12 (i : grid0.Coords) (k0_t2 : Fin (k0_t2_loop i).trips) : BitVec 32 :=
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_388 : BitVec 32 := 1#32
  let v511 : BitVec 32 := Scalar.addi v394 c1_i32_388
  let c512_i32_389 : BitVec 32 := 512#32
  let v512 : BitVec 32 := Scalar.muli v511 c512_i32_389
  v512
def k0_off11 (i : grid0.Coords) (k0_t2 : Fin (k0_t2_loop i).trips) : Fin 3 → Nat :=
  let c1_390 : Index := 1#32
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_388 : BitVec 32 := 1#32
  let v511 : BitVec 32 := Scalar.addi v394 c1_i32_388
  let c512_i32_389 : BitVec 32 := 512#32
  let v512 : BitVec 32 := Scalar.muli v511 c512_i32_389
  let v513 : BitVec 32 := v512
  let v514 : Index := Scalar.indexCast v513
  let c0_391 : Index := 0#32
  ![1, v514.toNat, 0]
def k0_off12 (i : grid0.Coords) (k0_t2 : Fin (k0_t2_loop i).trips) (c0_i32_414 : BitVec 32) : Fin 4 → Nat :=
  let c1_415 : Index := 1#32
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c2_i32_413 : BitVec 32 := 2#32
  let v542 : BitVec 32 := Scalar.muli v394 c2_i32_413
  let v543 : BitVec 32 := Scalar.addi v542 c0_i32_414
  let v544 : Index := Scalar.indexCast v543
  let c0_416 : Index := 0#32
  let c0_417 : Index := 0#32
  ![1, v544.toNat, 0, 0]
def k0_mult13 (i : grid0.Coords) (k0_t2 : Fin (k0_t2_loop i).trips) : BitVec 32 :=
  let c2_i32_295 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v394 : BitVec 32 := Scalar.muli c2_i32_295 arg18
  let c1_i32_434 : BitVec 32 := 1#32
  let v569 : BitVec 32 := Scalar.addi v394 c1_i32_434
  let c512_i32_435 : BitVec 32 := 512#32
  let v570 : BitVec 32 := Scalar.muli v569 c512_i32_435
  v570
def k0_mult14 (i : grid0.Coords) (k0_t2 : Fin (k0_t2_loop i).trips) : BitVec 32 :=
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_482 : BitVec 32 := 1#32
  let v629 : BitVec 32 := Scalar.addi v628 c1_i32_482
  let c512_i32_483 : BitVec 32 := 512#32
  let v630 : BitVec 32 := Scalar.muli v629 c512_i32_483
  v630
def k0_off13 (i : grid0.Coords) (k0_t2 : Fin (k0_t2_loop i).trips) : Fin 3 → Nat :=
  let c0_484 : Index := 0#32
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_482 : BitVec 32 := 1#32
  let v629 : BitVec 32 := Scalar.addi v628 c1_i32_482
  let c512_i32_483 : BitVec 32 := 512#32
  let v630 : BitVec 32 := Scalar.muli v629 c512_i32_483
  let v631 : BitVec 32 := v630
  let v632 : Index := Scalar.indexCast v631
  let c0_485 : Index := 0#32
  ![0, v632.toNat, 0]
def k0_off14 (i : grid0.Coords) (k0_t2 : Fin (k0_t2_loop i).trips) (c0_i32_508 : BitVec 32) : Fin 4 → Nat :=
  let c0_509 : Index := 0#32
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c2_i32_507 : BitVec 32 := 2#32
  let v660 : BitVec 32 := Scalar.muli v628 c2_i32_507
  let v661 : BitVec 32 := Scalar.addi v660 c0_i32_508
  let v662 : Index := Scalar.indexCast v661
  let c0_510 : Index := 0#32
  let c0_511 : Index := 0#32
  ![0, v662.toNat, 0, 0]
def k0_mult15 (i : grid0.Coords) (k0_t2 : Fin (k0_t2_loop i).trips) : BitVec 32 :=
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_528 : BitVec 32 := 1#32
  let v687 : BitVec 32 := Scalar.addi v628 c1_i32_528
  let c512_i32_529 : BitVec 32 := 512#32
  let v688 : BitVec 32 := Scalar.muli v687 c512_i32_529
  v688
def k0_mult16 (i : grid0.Coords) (k0_t2 : Fin (k0_t2_loop i).trips) : BitVec 32 :=
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_574 : BitVec 32 := 1#32
  let v745 : BitVec 32 := Scalar.addi v628 c1_i32_574
  let c512_i32_575 : BitVec 32 := 512#32
  let v746 : BitVec 32 := Scalar.muli v745 c512_i32_575
  v746
def k0_off15 (i : grid0.Coords) (k0_t2 : Fin (k0_t2_loop i).trips) : Fin 3 → Nat :=
  let c1_576 : Index := 1#32
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_574 : BitVec 32 := 1#32
  let v745 : BitVec 32 := Scalar.addi v628 c1_i32_574
  let c512_i32_575 : BitVec 32 := 512#32
  let v746 : BitVec 32 := Scalar.muli v745 c512_i32_575
  let v747 : BitVec 32 := v746
  let v748 : Index := Scalar.indexCast v747
  let c0_577 : Index := 0#32
  ![1, v748.toNat, 0]
def k0_off16 (i : grid0.Coords) (k0_t2 : Fin (k0_t2_loop i).trips) (c0_i32_600 : BitVec 32) : Fin 4 → Nat :=
  let c1_601 : Index := 1#32
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c2_i32_599 : BitVec 32 := 2#32
  let v776 : BitVec 32 := Scalar.muli v628 c2_i32_599
  let v777 : BitVec 32 := Scalar.addi v776 c0_i32_600
  let v778 : Index := Scalar.indexCast v777
  let c0_602 : Index := 0#32
  let c0_603 : Index := 0#32
  ![1, v778.toNat, 0, 0]
def k0_mult17 (i : grid0.Coords) (k0_t2 : Fin (k0_t2_loop i).trips) : BitVec 32 :=
  let c2_i32_480 : BitVec 32 := 2#32
  let c0_i32_67 : BitVec 32 := 0#32
  let arg1 : BitVec 32 := BitVec.ofNat 32 (i 1).val
  let v75 : BitVec 32 := Scalar.subi arg1 c0_i32_67
  let c1_i32 : BitVec 32 := 1#32
  let v77 : BitVec 32 := Scalar.divsi v75 c1_i32
  let v78 : BitVec 32 := Scalar.muli v77 c1_i32
  let v79 : BitVec 32 := Scalar.addi c0_i32_67 v78
  let c1_i32_69 : BitVec 32 := 1#32
  let arg18 : BitVec 32 := Scf.iv v79 c1_i32_69 k0_t2
  let v627 : BitVec 32 := Scalar.muli c2_i32_480 arg18
  let c1_i32_481 : BitVec 32 := 1#32
  let v628 : BitVec 32 := Scalar.addi v627 c1_i32_481
  let c1_i32_620 : BitVec 32 := 1#32
  let v803 : BitVec 32 := Scalar.addi v628 c1_i32_620
  let c512_i32_621 : BitVec 32 := 512#32
  let v804 : BitVec 32 := Scalar.muli v803 c512_i32_621
  v804
def k0_mult18 (i : grid0.Coords) : BitVec 32 :=
  let arg1 : BitVec 32 := BitVec.ofNat 32 (i 1).val
  let c2_i32 : BitVec 32 := 2#32
  let v17 : BitVec 32 := Scalar.muli arg1 c2_i32
  let c1_i32_70 : BitVec 32 := 1#32
  let v80 : BitVec 32 := Scalar.addi v17 c1_i32_70
  let c512_i32 : BitVec 32 := 512#32
  let v81 : BitVec 32 := Scalar.muli v80 c512_i32
  v81
def k0_off17 (i : grid0.Coords) : Fin 3 → Nat :=
  let c0_71 : Index := 0#32
  let arg1 : BitVec 32 := BitVec.ofNat 32 (i 1).val
  let c2_i32 : BitVec 32 := 2#32
  let v17 : BitVec 32 := Scalar.muli arg1 c2_i32
  let c1_i32_70 : BitVec 32 := 1#32
  let v80 : BitVec 32 := Scalar.addi v17 c1_i32_70
  let c512_i32 : BitVec 32 := 512#32
  let v81 : BitVec 32 := Scalar.muli v80 c512_i32
  let v82 : BitVec 32 := v81
  let v83 : Index := Scalar.indexCast v82
  let c0_72 : Index := 0#32
  ![0, v83.toNat, 0]
def k0_off18 (i : grid0.Coords) : Fin 3 → Nat :=
  let c1_84 : Index := 1#32
  let arg1 : BitVec 32 := BitVec.ofNat 32 (i 1).val
  let c2_i32 : BitVec 32 := 2#32
  let v17 : BitVec 32 := Scalar.muli arg1 c2_i32
  let c1_i32_70 : BitVec 32 := 1#32
  let v80 : BitVec 32 := Scalar.addi v17 c1_i32_70
  let c512_i32 : BitVec 32 := 512#32
  let v81 : BitVec 32 := Scalar.muli v80 c512_i32
  let v82 : BitVec 32 := v81
  let v97 : Index := Scalar.indexCast v82
  let c0_85 : Index := 0#32
  ![1, v97.toNat, 0]
def k0_off19 (i : grid0.Coords) (c0_i32_107 : BitVec 32) : Fin 4 → Nat :=
  let c0_108 : Index := 0#32
  let arg1 : BitVec 32 := BitVec.ofNat 32 (i 1).val
  let c2_i32 : BitVec 32 := 2#32
  let v17 : BitVec 32 := Scalar.muli arg1 c2_i32
  let c2_i32_106 : BitVec 32 := 2#32
  let v130 : BitVec 32 := Scalar.muli v17 c2_i32_106
  let v131 : BitVec 32 := Scalar.addi v130 c0_i32_107
  let v132 : Index := Scalar.indexCast v131
  let c0_109 : Index := 0#32
  let c0_110 : Index := 0#32
  ![0, v132.toNat, 0, 0]
def k0_off20 (i : grid0.Coords) (c0_i32_168 : BitVec 32) : Fin 4 → Nat :=
  let c1_169 : Index := 1#32
  let arg1 : BitVec 32 := BitVec.ofNat 32 (i 1).val
  let c2_i32 : BitVec 32 := 2#32
  let v17 : BitVec 32 := Scalar.muli arg1 c2_i32
  let c2_i32_167 : BitVec 32 := 2#32
  let v217 : BitVec 32 := Scalar.muli v17 c2_i32_167
  let v218 : BitVec 32 := Scalar.addi v217 c0_i32_168
  let v219 : Index := Scalar.indexCast v218
  let c0_170 : Index := 0#32
  let c0_171 : Index := 0#32
  ![1, v219.toNat, 0, 0]
def k0_off21 (i : grid0.Coords) (c0_i32_230 : BitVec 32) : Fin 4 → Nat :=
  let c0_231 : Index := 0#32
  let arg1 : BitVec 32 := BitVec.ofNat 32 (i 1).val
  let c2_i32 : BitVec 32 := 2#32
  let v17 : BitVec 32 := Scalar.muli arg1 c2_i32
  let c1_i32_219 : BitVec 32 := 1#32
  let v285 : BitVec 32 := Scalar.addi v17 c1_i32_219
  let c2_i32_229 : BitVec 32 := 2#32
  let v305 : BitVec 32 := Scalar.muli v285 c2_i32_229
  let v306 : BitVec 32 := Scalar.addi v305 c0_i32_230
  let v307 : Index := Scalar.indexCast v306
  let c0_232 : Index := 0#32
  let c0_233 : Index := 0#32
  ![0, v307.toNat, 0, 0]
def k0_off22 (i : grid0.Coords) (c0_i32_260 : BitVec 32) : Fin 4 → Nat :=
  let c1_261 : Index := 1#32
  let arg1 : BitVec 32 := BitVec.ofNat 32 (i 1).val
  let c2_i32 : BitVec 32 := 2#32
  let v17 : BitVec 32 := Scalar.muli arg1 c2_i32
  let c1_i32_219 : BitVec 32 := 1#32
  let v285 : BitVec 32 := Scalar.addi v17 c1_i32_219
  let c2_i32_259 : BitVec 32 := 2#32
  let v351 : BitVec 32 := Scalar.muli v285 c2_i32_259
  let v352 : BitVec 32 := Scalar.addi v351 c0_i32_260
  let v353 : Index := Scalar.indexCast v352
  let c0_262 : Index := 0#32
  let c0_263 : Index := 0#32
  ![1, v353.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x128 : Shape := ⟨3, ![8192, 8, 128]⟩
abbrev S8192x8x64 : Shape := ⟨3, ![8192, 8, 64]⟩
abbrev S8192x64 : Shape := ⟨2, ![8192, 64]⟩
abbrev S2048x5632 : Shape := ⟨2, ![2048, 5632]⟩
abbrev S5632x2048 : Shape := ⟨2, ![5632, 2048]⟩
abbrev S_ : Shape := ⟨0, ![]⟩
abbrev S8x8192x8192 : Shape := ⟨3, ![8, 8192, 8192]⟩
abbrev S8192x8192x8 : Shape := ⟨3, ![8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8192x8192x8, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x128x8192, .f32⟩
  | .hbm, ⟨44, _⟩ => ⟨S8192x8x128, .f32⟩
  | .hbm, ⟨45, _⟩ => ⟨S8192x1024, .f32⟩
  | .hbm, ⟨46, _⟩ => ⟨S2048x5632, .bf16⟩
  | .hbm, ⟨47, _⟩ => ⟨S2048x5632, .bf16⟩
  | .hbm, ⟨48, _⟩ => ⟨S5632x2048, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel3.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S2048x2048, .f32⟩
  | .local _ .vmem, ⟨5, _⟩ => ⟨S256x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x2048, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c10_i32 : BitVec 32 := 10#32
  let v11 : BitVec 1 := Scalar.cmpi .slt arg1 c10_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c10_i32_7 : BitVec 32 := 10#32
  let v14 : BitVec 1 := Scalar.cmpi .eq arg1 c10_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S7168x2048 : Shape := ⟨2, ![7168, 2048]⟩
abbrev S_ : Shape := ⟨0, ![]⟩
abbrev S7168x5632 : Shape := ⟨2, ![7168, 5632]⟩
abbrev S7168 : Shape := ⟨1, ![7168]⟩
abbrev S7168x1 : Shape := ⟨2, ![7168, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .hbm, ⟨7, _⟩ => ⟨S7168x2048, .f32⟩
  | .hbm, ⟨8, _⟩ => ⟨S_, .f32⟩
  | .hbm, ⟨9, _⟩ => ⟨S7168x2048, .f32⟩
  | .hbm, ⟨10, _⟩ => ⟨S7168x2048, .f32⟩
  | .hbm, ⟨11, _⟩ => ⟨S7168x5632, .f32⟩
  | .hbm, ⟨12, _⟩ => ⟨S7168x5632, .f32⟩
  | .hbm, ⟨13, _⟩ => ⟨S7168x5632, .f32⟩
  | .hbm, ⟨14, _⟩ => ⟨S_, .f32⟩
  | .hbm, ⟨15, _⟩ => ⟨S7168x5632, .f32⟩
  | .hbm, ⟨16, _⟩ => ⟨S7168x5632, .f32⟩
  | .hbm, ⟨17, _⟩ => ⟨S_, .f32⟩
  | .hbm, ⟨18, _⟩ => ⟨S7168x5632, .f32⟩
  | .hbm, ⟨19, _⟩ => ⟨S7168x5632, .f32⟩
  | .hbm, ⟨20, _⟩ => ⟨S7168x5632, .f32⟩
  | .hbm, ⟨21, _⟩ => ⟨S7168x5632, .f32⟩
  | .hbm, ⟨22, _⟩ => ⟨S7168x5632, .f32⟩
  | .hbm, ⟨23, _⟩ => ⟨S7168x2048, .f32⟩
  | .hbm, ⟨24, _⟩ => ⟨S_, .f32⟩
  | .hbm, ⟨25, _⟩ => ⟨S7168x2048, .f32⟩
  | .hbm, ⟨26, _⟩ => ⟨S7168x2048, .f32⟩
  | .hbm, ⟨27, _⟩ => ⟨S7168x2048, .f32⟩
  | .hbm, ⟨28, _⟩ => ⟨S_, .f32⟩
  | .hbm, ⟨29, _⟩ => ⟨S7168, .f32⟩
  | .hbm, ⟨30, _⟩ => ⟨S7168x1, .f32⟩
  | .hbm, ⟨31, _⟩ => ⟨S_, .f32⟩
  | .hbm, ⟨32, _⟩ => ⟨S7168x1, .f32⟩
  | .hbm, ⟨33, _⟩ => ⟨S7168x1, .f32⟩
  | .hbm, ⟨34, _⟩ => ⟨S7168x2048, .f32⟩
  | .hbm, ⟨35, _⟩ => ⟨S7168x2048, .f32⟩
  | .hbm, ⟨36, _⟩ => ⟨S7168x2048, .f32⟩
  | .hbm, ⟨37, _⟩ => ⟨S_, .f32⟩
  | .hbm, ⟨38, _⟩ => ⟨S7168, .f32⟩
  | .hbm, ⟨39, _⟩ => ⟨S7168x1, .f32⟩
  | .hbm, ⟨40, _⟩ => ⟨S_, .f32⟩
  | .hbm, ⟨41, _⟩ => ⟨S7168x1, .f32⟩
  | .hbm, ⟨42, _⟩ => ⟨S7168x1, .f32⟩
  | .hbm, ⟨43, _⟩ => ⟨S_, .f32⟩
  | .hbm, ⟨44, _⟩ => ⟨S7168x1, .f32⟩
  | .hbm, ⟨45, _⟩ => ⟨S7168x1, .f32⟩
  | .hbm, ⟨46, _⟩ => ⟨S7168x1, .f32⟩
  | .hbm, ⟨47, _⟩ => ⟨S7168x2048, .f32⟩
  | .hbm, ⟨48, _⟩ => ⟨S7168x2048, .f32⟩
  | .hbm, ⟨49, _⟩ => ⟨S7168x2048, .f32⟩
  | .hbm, ⟨50, _⟩ => ⟨S7168x2048, .f32⟩
  | .hbm, ⟨51, _⟩ => ⟨S7168x2048, .f32⟩
  | .hbm, ⟨52, _⟩ => ⟨S7168x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1x1024 : Shape := ⟨2, ![1, 1024]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1x1024, .f32⟩
  | .hbm, ⟨4, _⟩ => ⟨S1x1024, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S2048x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S2048x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S8192x2048 : Shape := ⟨2, ![8192, 2048]⟩
abbrev S1x1024 : Shape := ⟨2, ![1, 1024]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1x1024, .f32⟩
  | .hbm, ⟨4, _⟩ => ⟨S1x1024, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .local _ .vmem, ⟨0, _⟩ => ⟨S1024x2048, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1024x2048, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c21_i32 : BitVec 32 := 21#32
  let v3 : BitVec 1 := Scalar.cmpi .slt arg1 c21_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c21_i32_2 : BitVec 32 := 21#32
  let v6 : BitVec 1 := Scalar.cmpi .eq arg1 c21_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== Reference6Ideal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S_ : Shape := ⟨0, ![]⟩
abbrev S1024x5632 : Shape := ⟨2, ![1024, 5632]⟩
abbrev S1024 : Shape := ⟨1, ![1024]⟩
abbrev S1024x1 : Shape := ⟨2, ![1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x5632, .f32⟩
  | .hbm, ⟨11, _⟩ => ⟨S1024x5632, .f32⟩
  | .hbm, ⟨12, _⟩ => ⟨S1024x5632, .f32⟩
  | .hbm, ⟨13, _⟩ => ⟨S_, .f32⟩
  | .hbm, ⟨14, _⟩ => ⟨S1024x5632, .f32⟩
  | .hbm, ⟨15, _⟩ => ⟨S1024x5632, .f32⟩
  | .hbm, ⟨16, _⟩ => ⟨S_, .f32⟩
  | .hbm, ⟨17, _⟩ => ⟨S1024x5632, .f32⟩
  | .hbm, ⟨18, _⟩ => ⟨S1024x5632, .f32⟩
  | .hbm, ⟨19, _⟩ => ⟨S1024x5632, .f32⟩
  | .hbm, ⟨20, _⟩ => ⟨S1024x5632, .f32⟩
  | .hbm, ⟨21, _⟩ => ⟨S1024x5632, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x1, .f32⟩
  | .hbm, ⟨46, _⟩ => ⟨S1024x2048, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S2048x5632, .bf16⟩
  | .hbm, ⟨53, _⟩ => ⟨S2048x5632, .bf16⟩
  | .hbm, ⟨54, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Steps.lean ====
module

public import proofs.«01_k».proof.Proof.Gen.KernelIdeal.Frame
public import proofs.«01_k».proof.Proof.Gen.KernelIdeal.Loops
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The scores of one block of keys against one chain's queries, as the kernel keeps them. -/
abbrev saP (k : Vec F S1x512x256 .bf16) (q : Vec F S1x256x512 .bf16) : FVec F S1x512x512 .f32 := k0_pay3 k q
/-- The largest score of each query in that block. -/
abbrev maP (k : Vec F S1x512x256 .bf16) (q : Vec F S1x256x512 .bf16) : FVec F S1x1x512 .f32 := k0_pay4 k q
/-- The running maximum after a block whose maxima are `ma`. -/
abbrev mP (ma m : Vec F S1x1x512 .f32) : FVec F S1x1x512 .f32 := k0_pay10 (k0_pay6 ma m)
/-- The weighted sums after a block of scores `sa` with maxima `ma`, before it the maximum `m` and the sums `acc`. -/
abbrev accP (sa : Vec F S1x512x512 .f32) (ma m : Vec F S1x1x512 .f32) (v0 v1 : Vec F S1x1x144x256 .bf16)
    (acc : Vec F S1x144x512 .f32) : FVec F S1x144x512 .f32 :=
  k0_pay9 (k0_pay7 ma m) (k0_pay8 sa ma m) (Scalar.ofBits .f32 0x00000000#32) v0 v1 acc
/-- What the running maximum starts from. -/
abbrev m0P : FVec F S2x1x1024 .f32 := k0_pay154 (F := F)
/-- What the sums start from. -/
abbrev acc0P : FVec F S2x144x1024 .f32 := k0_pay155 (F := F)

theorem q_inb (h u : Fin 2) : ∀ a, (![h.val, 0, 512 * u.val] : Fin 3 → ℕ) a + S1x256x512.size a ≤ S2x256x1024.size a := by
  revert h u; decide
theorem k_inb (h : Fin 2) (kb : Fin 16) : ∀ a, (![h.val, 512 * kb.val, 0] : Fin 3 → ℕ) a + S1x512x256.size a ≤ S2x8192x256.size a := by
  revert h kb; decide
theorem v_inb (h : Fin 2) (j : Fin 32) : ∀ a, (![h.val, j.val, 0, 0] : Fin 4 → ℕ) a + S1x1x144x256.size a ≤ S2x32x144x256.size a := by
  revert h j; decide
theorem m_inb (h u : Fin 2) : ∀ a, (![h.val, 0, 512 * u.val] : Fin 3 → ℕ) a + S1x1x512.size a ≤ S2x1x1024.size a := by
  revert h u; decide
theorem acc_inb (h u : Fin 2) : ∀ a, (![h.val, 0, 512 * u.val] : Fin 3 → ℕ) a + S1x144x512.size a ≤ S2x144x1024.size a := by
  revert h u; decide
theorem sa_inb (h u : Fin 2) : ∀ a, (![2 * h.val + u.val, 0, 0] : Fin 3 → ℕ) a + S1x512x512.size a ≤ S4x512x512.size a := by
  revert h u; decide
theorem ma_inb (h u : Fin 2) : ∀ a, (![2 * h.val + u.val, 0, 0] : Fin 3 → ℕ) a + S1x1x512.size a ≤ S4x1x512.size a := by
  revert h u; decide

/-- The queries of chain `(h, u)`: head `h` of the pair, half `u` of the tile. -/
def qW (x0 : Vec F S2x256x1024 .bf16) (h u : Fin 2) : Vec F S1x256x512 .bf16 :=
  VecWindow.window x0 ![h.val, 0, 512 * u.val] S1x256x512.size (q_inb h u)
/-- Block `kb` of the keys of head `h`. -/
def kW (x1 : Vec F S2x8192x256 .bf16) (h : Fin 2) (kb : Fin 16) : Vec F S1x512x256 .bf16 :=
  VecWindow.window x1 ![h.val, 512 * kb.val, 0] S1x512x256.size (k_inb h kb)
/-- Chunk `j` of the values of head `h`. -/
def vW (x2 : Vec F S2x32x144x256 .bf16) (h : Fin 2) (j : Fin 32) : Vec F S1x1x144x256 .bf16 :=
  VecWindow.window x2 ![h.val, j.val, 0, 0] S1x1x144x256.size (v_inb h j)
def mW (y : Vec F S2x1x1024 .f32) (h u : Fin 2) : Vec F S1x1x512 .f32 :=
  VecWindow.window y ![h.val, 0, 512 * u.val] S1x1x512.size (m_inb h u)
def accW (y : Vec F S2x144x1024 .f32) (h u : Fin 2) : Vec F S1x144x512 .f32 :=
  VecWindow.window y ![h.val, 0, 512 * u.val] S1x144x512.size (acc_inb h u)
def saW (y : Vec F S4x512x512 .f32) (h u : Fin 2) : Vec F S1x512x512 .f32 :=
  VecWindow.window y ![2 * h.val + u.val, 0, 0] S1x512x512.size (sa_inb h u)
def maW (y : Vec F S4x1x512 .f32) (h u : Fin 2) : Vec F S1x1x512 .f32 :=
  VecWindow.window y ![2 * h.val + u.val, 0, 0] S1x1x512.size (ma_inb h u)

/-- The scores of block `kb` for chain `(h, u)`. -/
def saC (x0 : Vec F S2x256x1024 .bf16) (x1 : Vec F S2x8192x256 .bf16) (h u : Fin 2) (kb : ℕ) : Vec F S1x512x512 .f32 :=
  saP (kW x1 h (Fin.ofNat 16 kb)) (qW x0 h u)
/-- Their maxima. -/
def maC (x0 : Vec F S2x256x1024 .bf16) (x1 : Vec F S2x8192x256 .bf16) (h u : Fin 2) (kb : ℕ) : Vec F S1x1x512 .f32 :=
  maP (kW x1 h (Fin.ofNat 16 kb)) (qW x0 h u)
/-- The running maximum of chain `(h, u)` after `kb` blocks. -/
def mSt (x0 : Vec F S2x256x1024 .bf16) (x1 : Vec F S2x8192x256 .bf16) (h u : Fin 2) : ℕ → Vec F S1x1x512 .f32
  | 0 => mW m0P h u
  | kb + 1 => mP (maC x0 x1 h u kb) (mSt x0 x1 h u kb)
/-- The weighted sums of chain `(h, u)` after `kb` blocks. -/
def accSt (x0 : Vec F S2x256x1024 .bf16) (x1 : Vec F S2x8192x256 .bf16) (x2 : Vec F S2x32x144x256 .bf16) (h u : Fin 2) : ℕ → Vec F S1x144x512 .f32
  | 0 => accW acc0P h u
  | kb + 1 => accP (saC x0 x1 h u kb) (maC x0 x1 h u kb) (mSt x0 x1 h u kb) (vW x2 h (Fin.ofNat 32 (2 * kb)))
      (vW x2 h (Fin.ofNat 32 (2 * kb + 1))) (accSt x0 x1 x2 h u kb)

/-- Chain `(h, u)`'s part of the state before block `kb`: its maximum and sums over the blocks before, and the scores of
    block `kb` with their maxima already computed. -/
def InvC (x0 : Vec F S2x256x1024 .bf16) (x1 : Vec F S2x8192x256 .bf16) (x2 : Vec F S2x32x144x256 .bf16) (kb : ℕ)
    (y12 : Vec F S2x1x1024 .f32) (y13 : Vec F S2x144x1024 .f32) (y14 : Vec F S4x512x512 .f32) (y16 : Vec F S4x1x512 .f32) (h u : Fin 2) : Prop :=
  mW y12 h u = mSt x0 x1 h u kb ∧ accW y13 h u = accSt x0 x1 x2 h u kb ∧ saW y14 h u = saC x0 x1 h u kb ∧ maW y16 h u = maC x0 x1 h u kb

namespace View

open Idealize.ShloMosaic.View

variable {sig : RefSig} {κ : Kind} {sp : Space} {s : Shape} {e : EltTy} {Val : EltTy → Type}

/-- A window of a list of stores whose newest covers exactly that window is the newest's payload. -/
theorem window_same (v : View sig κ sp s e) (f : v.ty.Contents Val) {off off' size : Fin s.rank → ℕ} (inb : ∀ a, off a + size a ≤ s.size a)
    (inb' : ∀ a, off' a + size a ≤ s.size a) (w : (Rect.unit off size inb).shape.Idx → Val e) (L : List (View.Piece Val s e)) (h : off = off') :
    VecWindow.window (v.read Val (v.writes Val f (⟨Rect.unit off size inb, w⟩ :: L))) off' size inb' = w := by
  subst h
  rw [View.read_writes_cons_put v f inb w L rfl]
  exact VecWindow.window_put_same _ _ _ _ _

/-- A window apart from the newest store on some axis is that of the stores before. -/
theorem window_skip (v : View sig κ sp s e) (f : v.ty.Contents Val) {off size off' size' : Fin s.rank → ℕ} (inb : ∀ a, off a + size a ≤ s.size a)
    (inb' : ∀ a, off' a + size' a ≤ s.size a) (w : (Rect.unit off size inb).shape.Idx → Val e) (L : List (View.Piece Val s e)) (a : Fin s.rank)
    (ha : off' a + size' a ≤ off a ∨ off a + size a ≤ off' a) :
    VecWindow.window (v.read Val (v.writes Val f (⟨Rect.unit off size inb, w⟩ :: L))) off' size' inb'
      = VecWindow.window (v.read Val (v.writes Val f L)) off' size' inb' := by
  rw [View.read_writes_cons_put v f inb w L rfl]
  exact VecWindow.window_put_of_disjoint _ _ _ _ _ inb' _ a ha

variable [∀ e, Nonempty (Val e)]

/-- A load of what the newest store wrote reads its payload. -/
theorem cov_same (v : View sig κ sp s e) {off off' size : Fin s.rank → ℕ} (inb : ∀ a, off a + size a ≤ s.size a)
    (inb' : ∀ a, off' a + size a ≤ s.size a) (w : (Rect.unit off size inb).shape.Idx → Val e) (L : List (View.Piece Val s e)) (h : off = off') :
    v.readCov (⟨Rect.unit off size inb, w⟩ :: L) (Rect.unit off' size inb').toLoadRect = w :=
  window_same v v.junk inb inb' w L h

/-- A load apart from the newest store reads the stores before. -/
theorem cov_skip (v : View sig κ sp s e) {off size off' size' : Fin s.rank → ℕ} (inb : ∀ a, off a + size a ≤ s.size a)
    (inb' : ∀ a, off' a + size' a ≤ s.size a) (w : (Rect.unit off size inb).shape.Idx → Val e) (L : List (View.Piece Val s e)) (a : Fin s.rank)
    (ha : off' a + size' a ≤ off a ∨ off a + size a ≤ off' a) :
    v.readCov (⟨Rect.unit off size inb, w⟩ :: L) (Rect.unit off' size' inb').toLoadRect
      = v.readCov L (Rect.unit off' size' inb').toLoadRect :=
  window_skip v v.junk inb inb' w L a ha

end View

theorem saP_congr {k k' : Vec F S1x512x256 .bf16} {q q' : Vec F S1x256x512 .bf16} (h1 : k = k') (h2 : q = q') : saP k q = saP k' q' := by
  rw [h1, h2]
theorem maP_congr {k k' : Vec F S1x512x256 .bf16} {q q' : Vec F S1x256x512 .bf16} (h1 : k = k') (h2 : q = q') : maP k q = maP k' q' := by
  rw [h1, h2]
theorem mP_congr {ma ma' m m' : Vec F S1x1x512 .f32} (h1 : ma = ma') (h2 : m = m') : mP ma m = mP ma' m' := by
  rw [h1, h2]
theorem accP_congr {sa sa' : Vec F S1x512x512 .f32} {ma ma' m m' : Vec F S1x1x512 .f32} {v0 v0' v1 v1' : Vec F S1x1x144x256 .bf16}
    {acc acc' : Vec F S1x144x512 .f32} (h1 : sa = sa') (h2 : ma = ma') (h3 : m = m') (h4 : v0 = v0') (h5 : v1 = v1') (h6 : acc = acc') :
    accP sa ma m v0 v1 acc = accP sa' ma' m' v0' v1' acc' := by
  rw [h1, h2, h3, h4, h5, h6]

theorem m_fin {κ : Kind} {sp : Space} (v : View sig κ sp S2x1x1024 .f32) (f : v.ty.Contents (Elt F)) (i0 : ∀ a, (![0, 0, 0] : Fin 3 → ℕ) a + S1x1x512.size a ≤ S2x1x1024.size a) (i1 : ∀ a, (![0, 0, 512] : Fin 3 → ℕ) a + S1x1x512.size a ≤ S2x1x1024.size a) (i2 : ∀ a, (![1, 0, 0] : Fin 3 → ℕ) a + S1x1x512.size a ≤ S2x1x1024.size a) (i3 : ∀ a, (![1, 0, 512] : Fin 3 → ℕ) a + S1x1x512.size a ≤ S2x1x1024.size a) (w0 w1 w2 w3 : Vec F S1x1x512 .f32) (L : List (View.Piece (Elt F) S2x1x1024 .f32)) :
    mW (v.read (Elt F) (v.writes (Elt F) f (⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: ⟨Rect.unit (s := S2x1x1024) ![0, 0, 0] S1x1x512.size i0, w0⟩ :: L))) 0 0 = w0 ∧ mW (v.read (Elt F) (v.writes (Elt F) f (⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: ⟨Rect.unit (s := S2x1x1024) ![0, 0, 0] S1x1x512.size i0, w0⟩ :: L))) 0 1 = w1 ∧ mW (v.read (Elt F) (v.writes (Elt F) f (⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: ⟨Rect.unit (s := S2x1x1024) ![0, 0, 0] S1x1x512.size i0, w0⟩ :: L))) 1 0 = w2 ∧ mW (v.read (Elt F) (v.writes (Elt F) f (⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: ⟨Rect.unit (s := S2x1x1024) ![0, 0, 0] S1x1x512.size i0, w0⟩ :: L))) 1 1 = w3 := by
  refine ⟨?_, ?_, ?_, ?_⟩
  · exact (View.window_skip _ _ _ _ _ _ 0 (by decide)).trans ((View.window_skip _ _ _ _ _ _ 0 (by decide)).trans ((View.window_skip _ _ _ _ _ _ 2 (by decide)).trans (View.window_same _ _ _ _ _ _ rfl)))
  · exact (View.window_skip _ _ _ _ _ _ 0 (by decide)).trans ((View.window_skip _ _ _ _ _ _ 0 (by decide)).trans (View.window_same _ _ _ _ _ _ rfl))
  · exact (View.window_skip _ _ _ _ _ _ 2 (by decide)).trans (View.window_same _ _ _ _ _ _ rfl)
  · exact View.window_same _ _ _ _ _ _ rfl
theorem m_cov0 {κ : Kind} {sp : Space} (v : View sig κ sp S2x1x1024 .f32) (i0 : ∀ a, (![0, 0, 0] : Fin 3 → ℕ) a + S1x1x512.size a ≤ S2x1x1024.size a) (i1 : ∀ a, (![0, 0, 512] : Fin 3 → ℕ) a + S1x1x512.size a ≤ S2x1x1024.size a) (i2 : ∀ a, (![1, 0, 0] : Fin 3 → ℕ) a + S1x1x512.size a ≤ S2x1x1024.size a) (i3 : ∀ a, (![1, 0, 512] : Fin 3 → ℕ) a + S1x1x512.size a ≤ S2x1x1024.size a) ( w3 w2 w1 w0 : Vec F S1x1x512 .f32) (L : List (View.Piece (Elt F) S2x1x1024 .f32)) :
    v.readCov (⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: ⟨Rect.unit (s := S2x1x1024) ![0, 0, 0] S1x1x512.size i0, w0⟩ :: L) (Rect.unit (s := S2x1x1024) ![0, 0, 0] S1x1x512.size i0).toLoadRect = w0 :=
  (View.cov_skip _ _ _ _ _ 0 (by decide)).trans ((View.cov_skip _ _ _ _ _ 0 (by decide)).trans ((View.cov_skip _ _ _ _ _ 2 (by decide)).trans (View.cov_same _ _ _ _ _ rfl)))
theorem m_cov1 {κ : Kind} {sp : Space} (v : View sig κ sp S2x1x1024 .f32) (i0 : ∀ a, (![0, 0, 0] : Fin 3 → ℕ) a + S1x1x512.size a ≤ S2x1x1024.size a) (i1 : ∀ a, (![0, 0, 512] : Fin 3 → ℕ) a + S1x1x512.size a ≤ S2x1x1024.size a) (i2 : ∀ a, (![1, 0, 0] : Fin 3 → ℕ) a + S1x1x512.size a ≤ S2x1x1024.size a) (i3 : ∀ a, (![1, 0, 512] : Fin 3 → ℕ) a + S1x1x512.size a ≤ S2x1x1024.size a) (u0 w3 w2 w1 : Vec F S1x1x512 .f32) (L : List (View.Piece (Elt F) S2x1x1024 .f32)) :
    v.readCov (⟨Rect.unit (s := S2x1x1024) ![0, 0, 0] S1x1x512.size i0, u0⟩ :: ⟨Rect.unit (s := S2x1x1024) ![1, 0, 512] S1x1x512.size i3, w3⟩ :: ⟨Rect.unit (s := S2x1x1024) ![1, 0, 0] S1x1x512.size i2, w2⟩ :: ⟨Rect.unit (s := S2x1x1024) ![0, 0, 512] S1x1x512.size i1, w1⟩ :: L) (Rect.unit (s := S2x1x1024) ![0, 0, 512] S1x1x512.size i1).toLoadRect = w1 :=
  (View.cov_skip _ _ _ _ _ 2 (by decide)).trans ((View.cov_skip _ _ _ _ _ 0 (by decide)).trans ((View.cov_skip _ _ _ _ _ 0 (by decide)).trans (View.cov_same _ _ _ _ _ rfl)))
theorem m_cov2 {κ : Kind} {sp : Space} (v : View sig κ sp S2x1x1024 .f32) (i0 : ∀ a, (![0, 0, 0] : Fin 3 → ℕ) a + S1x1x512.size a ≤ S2x1x1024.size a) (i1 : ∀ a, (![0, 0, 512] : Fin 3 → ℕ) a + S1x1x512.size a ≤ S2x1x1024.size a) (i2 : ∀ a, (![1, 0, 0] : Fin 3 → ℕ) a + S1x1x512.size a ≤ S2x1x1024.size a) (i3 : ∀ a, (![1, 0, 512] : Fin 3 → ℕ) a + S1x1x512.size a ≤ S2x1x1024.size a) (u1 u0 w3 w2 : Vec F S1x1x512 .f32) (L : List (View.Piece (Elt F) S2x1x1024 .f32)) :
    v.readCov (⟨Rect.unit (s := S2x1x1024) ![0, 0, 512] S1x1x512.size i1, u1⟩ :: ⟨Rect.unit (s := S2x1x1024) ![0, 0, 0] S1x1x512.size i0, u0⟩ :: ⟨Rect.unit (s := S2x1x1024) ![1, 0, 512] S1x1x512.size i3, w3⟩ :: ⟨Rect.unit (s := S2x1x1024) ![1, 0, 0] S1x1x512.size i2, w2⟩ :: L) (Rect.unit (s := S2x1x1024) ![1, 0, 0] S1x1x512.size i2).toLoadRect = w2 :=
  (View.cov_skip _ _ _ _ _ 0 (by decide)).trans ((View.cov_skip _ _ _ _ _ 0 (by decide)).trans ((View.cov_skip _ _ _ _ _ 2 (by decide)).trans (View.cov_same _ _ _ _ _ rfl)))
theorem m_cov3 {κ : Kind} {sp : Space} (v : View sig κ sp S2x1x1024 .f32) (i0 : ∀ a, (![0, 0, 0] : Fin 3 → ℕ) a + S1x1x512.size a ≤ S2x1x1024.size a) (i1 : ∀ a, (![0, 0, 512] : Fin 3 → ℕ) a + S1x1x512.size a ≤ S2x1x1024.size a) (i2 : ∀ a, (![1, 0, 0] : Fin 3 → ℕ) a + S1x1x512.size a ≤ S2x1x1024.size a) (i3 : ∀ a, (![1, 0, 512] : Fin 3 → ℕ) a + S1x1x512.size a ≤ S2x1x1024.size a) (u2 u1 u0 w3 : Vec F S1x1x512 .f32) (L : List (View.Piece (Elt F) S2x1x1024 .f32)) :
    v.readCov (⟨Rect.unit (s := S2x1x1024) ![1, 0, 0] S1x1x512.size i2, u2⟩ :: ⟨Rect.unit (s := S2x1x1024) ![0, 0, 512] S1x1x512.size i1, u1⟩ :: ⟨Rect.unit (s := S2x1x1024) ![0, 0, 0] S1x1x512.size i0, u0⟩ :: ⟨Rect.unit (s := S2x1x1024) ![1, 0, 512] S1x1x512.size i3, w3⟩ :: L) (Rect.unit (s := S2x1x1024) ![1, 0, 512] S1x1x512.size i3).toLoadRect = w3 :=
  (View.cov_skip _ _ _ _ _ 2 (by decide)).trans ((View.cov_skip _ _ _ _ _ 0 (by decide)).trans ((View.cov_skip _ _ _ _ _ 0 (by decide)).trans (View.cov_same _ _ _ _ _ rfl)))
theorem acc_fin {κ : Kind} {sp : Space} (v : View sig κ sp S2x144x1024 .f32) (f : v.ty.Contents (Elt F)) (i0 : ∀ a, (![0, 0, 0] : Fin 3 → ℕ) a + S1x144x512.size a ≤ S2x144x1024.size a) (i1 : ∀ a, (![0, 0, 512] : Fin 3 → ℕ) a + S1x144x512.size a ≤ S2x144x1024.size a) (i2 : ∀ a, (![1, 0, 0] : Fin 3 → ℕ) a + S1x144x512.size a ≤ S2x144x1024.size a) (i3 : ∀ a, (![1, 0, 512] : Fin 3 → ℕ) a + S1x144x512.size a ≤ S2x144x1024.size a) (w0 w1 w2 w3 : Vec F S1x144x512 .f32) (L : List (View.Piece (Elt F) S2x144x1024 .f32)) :
    accW (v.read (Elt F) (v.writes (Elt F) f (⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: ⟨Rect.unit (s := S2x144x1024) ![0, 0, 0] S1x144x512.size i0, w0⟩ :: L))) 0 0 = w0 ∧ accW (v.read (Elt F) (v.writes (Elt F) f (⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: ⟨Rect.unit (s := S2x144x1024) ![0, 0, 0] S1x144x512.size i0, w0⟩ :: L))) 0 1 = w1 ∧ accW (v.read (Elt F) (v.writes (Elt F) f (⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: ⟨Rect.unit (s := S2x144x1024) ![0, 0, 0] S1x144x512.size i0, w0⟩ :: L))) 1 0 = w2 ∧ accW (v.read (Elt F) (v.writes (Elt F) f (⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: ⟨Rect.unit (s := S2x144x1024) ![0, 0, 0] S1x144x512.size i0, w0⟩ :: L))) 1 1 = w3 := by
  refine ⟨?_, ?_, ?_, ?_⟩
  · exact (View.window_skip _ _ _ _ _ _ 0 (by decide)).trans ((View.window_skip _ _ _ _ _ _ 0 (by decide)).trans ((View.window_skip _ _ _ _ _ _ 2 (by decide)).trans (View.window_same _ _ _ _ _ _ rfl)))
  · exact (View.window_skip _ _ _ _ _ _ 0 (by decide)).trans ((View.window_skip _ _ _ _ _ _ 0 (by decide)).trans (View.window_same _ _ _ _ _ _ rfl))
  · exact (View.window_skip _ _ _ _ _ _ 2 (by decide)).trans (View.window_same _ _ _ _ _ _ rfl)
  · exact View.window_same _ _ _ _ _ _ rfl
theorem acc_cov0 {κ : Kind} {sp : Space} (v : View sig κ sp S2x144x1024 .f32) (i0 : ∀ a, (![0, 0, 0] : Fin 3 → ℕ) a + S1x144x512.size a ≤ S2x144x1024.size a) (i1 : ∀ a, (![0, 0, 512] : Fin 3 → ℕ) a + S1x144x512.size a ≤ S2x144x1024.size a) (i2 : ∀ a, (![1, 0, 0] : Fin 3 → ℕ) a + S1x144x512.size a ≤ S2x144x1024.size a) (i3 : ∀ a, (![1, 0, 512] : Fin 3 → ℕ) a + S1x144x512.size a ≤ S2x144x1024.size a) ( w3 w2 w1 w0 : Vec F S1x144x512 .f32) (L : List (View.Piece (Elt F) S2x144x1024 .f32)) :
    v.readCov (⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: ⟨Rect.unit (s := S2x144x1024) ![0, 0, 0] S1x144x512.size i0, w0⟩ :: L) (Rect.unit (s := S2x144x1024) ![0, 0, 0] S1x144x512.size i0).toLoadRect = w0 :=
  (View.cov_skip _ _ _ _ _ 0 (by decide)).trans ((View.cov_skip _ _ _ _ _ 0 (by decide)).trans ((View.cov_skip _ _ _ _ _ 2 (by decide)).trans (View.cov_same _ _ _ _ _ rfl)))
theorem acc_cov1 {κ : Kind} {sp : Space} (v : View sig κ sp S2x144x1024 .f32) (i0 : ∀ a, (![0, 0, 0] : Fin 3 → ℕ) a + S1x144x512.size a ≤ S2x144x1024.size a) (i1 : ∀ a, (![0, 0, 512] : Fin 3 → ℕ) a + S1x144x512.size a ≤ S2x144x1024.size a) (i2 : ∀ a, (![1, 0, 0] : Fin 3 → ℕ) a + S1x144x512.size a ≤ S2x144x1024.size a) (i3 : ∀ a, (![1, 0, 512] : Fin 3 → ℕ) a + S1x144x512.size a ≤ S2x144x1024.size a) (u0 w3 w2 w1 : Vec F S1x144x512 .f32) (L : List (View.Piece (Elt F) S2x144x1024 .f32)) :
    v.readCov (⟨Rect.unit (s := S2x144x1024) ![0, 0, 0] S1x144x512.size i0, u0⟩ :: ⟨Rect.unit (s := S2x144x1024) ![1, 0, 512] S1x144x512.size i3, w3⟩ :: ⟨Rect.unit (s := S2x144x1024) ![1, 0, 0] S1x144x512.size i2, w2⟩ :: ⟨Rect.unit (s := S2x144x1024) ![0, 0, 512] S1x144x512.size i1, w1⟩ :: L) (Rect.unit (s := S2x144x1024) ![0, 0, 512] S1x144x512.size i1).toLoadRect = w1 :=
  (View.cov_skip _ _ _ _ _ 2 (by decide)).trans ((View.cov_skip _ _ _ _ _ 0 (by decide)).trans ((View.cov_skip _ _ _ _ _ 0 (by decide)).trans (View.cov_same _ _ _ _ _ rfl)))
theorem acc_cov2 {κ : Kind} {sp : Space} (v : View sig κ sp S2x144x1024 .f32) (i0 : ∀ a, (![0, 0, 0] : Fin 3 → ℕ) a + S1x144x512.size a ≤ S2x144x1024.size a) (i1 : ∀ a, (![0, 0, 512] : Fin 3 → ℕ) a + S1x144x512.size a ≤ S2x144x1024.size a) (i2 : ∀ a, (![1, 0, 0] : Fin 3 → ℕ) a + S1x144x512.size a ≤ S2x144x1024.size a) (i3 : ∀ a, (![1, 0, 512] : Fin 3 → ℕ) a + S1x144x512.size a ≤ S2x144x1024.size a) (u1 u0 w3 w2 : Vec F S1x144x512 .f32) (L : List (View.Piece (Elt F) S2x144x1024 .f32)) :
    v.readCov (⟨Rect.unit (s := S2x144x1024) ![0, 0, 512] S1x144x512.size i1, u1⟩ :: ⟨Rect.unit (s := S2x144x1024) ![0, 0, 0] S1x144x512.size i0, u0⟩ :: ⟨Rect.unit (s := S2x144x1024) ![1, 0, 512] S1x144x512.size i3, w3⟩ :: ⟨Rect.unit (s := S2x144x1024) ![1, 0, 0] S1x144x512.size i2, w2⟩ :: L) (Rect.unit (s := S2x144x1024) ![1, 0, 0] S1x144x512.size i2).toLoadRect = w2 :=
  (View.cov_skip _ _ _ _ _ 0 (by decide)).trans ((View.cov_skip _ _ _ _ _ 0 (by decide)).trans ((View.cov_skip _ _ _ _ _ 2 (by decide)).trans (View.cov_same _ _ _ _ _ rfl)))
theorem acc_cov3 {κ : Kind} {sp : Space} (v : View sig κ sp S2x144x1024 .f32) (i0 : ∀ a, (![0, 0, 0] : Fin 3 → ℕ) a + S1x144x512.size a ≤ S2x144x1024.size a) (i1 : ∀ a, (![0, 0, 512] : Fin 3 → ℕ) a + S1x144x512.size a ≤ S2x144x1024.size a) (i2 : ∀ a, (![1, 0, 0] : Fin 3 → ℕ) a + S1x144x512.size a ≤ S2x144x1024.size a) (i3 : ∀ a, (![1, 0, 512] : Fin 3 → ℕ) a + S1x144x512.size a ≤ S2x144x1024.size a) (u2 u1 u0 w3 : Vec F S1x144x512 .f32) (L : List (View.Piece (Elt F) S2x144x1024 .f32)) :
    v.readCov (⟨Rect.unit (s := S2x144x1024) ![1, 0, 0] S1x144x512.size i2, u2⟩ :: ⟨Rect.unit (s := S2x144x1024) ![0, 0, 512] S1x144x512.size i1, u1⟩ :: ⟨Rect.unit (s := S2x144x1024) ![0, 0, 0] S1x144x512.size i0, u0⟩ :: ⟨Rect.unit (s := S2x144x1024) ![1, 0, 512] S1x144x512.size i3, w3⟩ :: L) (Rect.unit (s := S2x144x1024) ![1, 0, 512] S1x144x512.size i3).toLoadRect = w3 :=
  (View.cov_skip _ _ _ _ _ 2 (by decide)).trans ((View.cov_skip _ _ _ _ _ 0 (by decide)).trans ((View.cov_skip _ _ _ _ _ 0 (by decide)).trans (View.cov_same _ _ _ _ _ rfl)))
theorem sa_fin {κ : Kind} {sp : Space} (v : View sig κ sp S4x512x512 .f32) (f : v.ty.Contents (Elt F)) (i0 : ∀ a, (![0, 0, 0] : Fin 3 → ℕ) a + S1x512x512.size a ≤ S4x512x512.size a) (i1 : ∀ a, (![1, 0, 0] : Fin 3 → ℕ) a + S1x512x512.size a ≤ S4x512x512.size a) (i2 : ∀ a, (![2, 0, 0] : Fin 3 → ℕ) a + S1x512x512.size a ≤ S4x512x512.size a) (i3 : ∀ a, (![3, 0, 0] : Fin 3 → ℕ) a + S1x512x512.size a ≤ S4x512x512.size a) (w0 w1 w2 w3 : Vec F S1x512x512 .f32) (L : List (View.Piece (Elt F) S4x512x512 .f32)) :
    saW (v.read (Elt F) (v.writes (Elt F) f (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L))) 0 0 = w0 ∧ saW (v.read (Elt F) (v.writes (Elt F) f (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L))) 0 1 = w1 ∧ saW (v.read (Elt F) (v.writes (Elt F) f (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L))) 1 0 = w2 ∧ saW (v.read (Elt F) (v.writes (Elt F) f (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L))) 1 1 = w3 := by
  refine ⟨?_, ?_, ?_, ?_⟩
  · exact (View.window_skip _ _ _ _ _ _ 0 (by decide)).trans ((View.window_skip _ _ _ _ _ _ 0 (by decide)).trans ((View.window_skip _ _ _ _ _ _ 0 (by decide)).trans (View.window_same _ _ _ _ _ _ rfl)))
  · exact (View.window_skip _ _ _ _ _ _ 0 (by decide)).trans ((View.window_skip _ _ _ _ _ _ 0 (by decide)).trans (View.window_same _ _ _ _ _ _ rfl))
  · exact (View.window_skip _ _ _ _ _ _ 0 (by decide)).trans (View.window_same _ _ _ _ _ _ rfl)
  · exact View.window_same _ _ _ _ _ _ rfl
theorem sa_cov0 {κ : Kind} {sp : Space} (v : View sig κ sp S4x512x512 .f32) (i0 : ∀ a, (![0, 0, 0] : Fin 3 → ℕ) a + S1x512x512.size a ≤ S4x512x512.size a) (i1 : ∀ a, (![1, 0, 0] : Fin 3 → ℕ) a + S1x512x512.size a ≤ S4x512x512.size a) (i2 : ∀ a, (![2, 0, 0] : Fin 3 → ℕ) a + S1x512x512.size a ≤ S4x512x512.size a) (i3 : ∀ a, (![3, 0, 0] : Fin 3 → ℕ) a + S1x512x512.size a ≤ S4x512x512.size a) ( w3 w2 w1 w0 : Vec F S1x512x512 .f32) (L : List (View.Piece (Elt F) S4x512x512 .f32)) :
    v.readCov (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: ⟨Rect.unit (s := S4x512x512) ![0, 0, 0] S1x512x512.size i0, w0⟩ :: L) (Rect.unit (s := S4x512x512) ![0, 0, 0] S1x512x512.size i0).toLoadRect = w0 :=
  (View.cov_skip _ _ _ _ _ 0 (by decide)).trans ((View.cov_skip _ _ _ _ _ 0 (by decide)).trans ((View.cov_skip _ _ _ _ _ 0 (by decide)).trans (View.cov_same _ _ _ _ _ rfl)))
theorem sa_cov1 {κ : Kind} {sp : Space} (v : View sig κ sp S4x512x512 .f32) (i1 : ∀ a, (![1, 0, 0] : Fin 3 → ℕ) a + S1x512x512.size a ≤ S4x512x512.size a) (i2 : ∀ a, (![2, 0, 0] : Fin 3 → ℕ) a + S1x512x512.size a ≤ S4x512x512.size a) (i3 : ∀ a, (![3, 0, 0] : Fin 3 → ℕ) a + S1x512x512.size a ≤ S4x512x512.size a) ( w3 w2 w1 : Vec F S1x512x512 .f32) (L : List (View.Piece (Elt F) S4x512x512 .f32)) :
    v.readCov (⟨Rect.unit (s := S4x512x512) ![3, 0, 0] S1x512x512.size i3, w3⟩ :: ⟨Rect.unit (s := S4x512x512) ![2, 0, 0] S1x512x512.size i2, w2⟩ :: ⟨Rect.unit (s := S4x512x512) ![1, 0, 0] S1x512x512.size i1, w1⟩ :: L) (Rect.unit (s := S4x512x512) ![1, 0, 0] S1x512x512.size i1).toLoadRect = w1 :=
  (View.cov_skip _ _ _ _ _ 0 (by decide)).trans ((View.cov_skip _ _ _ _ _ 0 (by decide)).trans (View.cov_same _ _ _ _ _ rfl))
theorem sa_cov2 {κ : Kind} {sp : Space} (v : View sig κ sp S4x512x512 .f32) (i2 : ∀ a, (![2, 0, 0] : Fin 3 → ℕ) a + S1x512x512.size a ≤ S4x512x512.size a) (i3 : ∀ a, (![3, 0, 0] : Fin 3 → ℕ) a + S1x512x512.size a ≤ S4x512x512.size a) ( w3 w2 : Vec F S1x512x512 .f32) (L : List (View.Piece (Elt F) S4x512x512 .f32)) :
    v.readCov (⟨Rect.unit (s := S4x512x512) ![3, 0, 0] S1x512x512.size i3, w3⟩ :: ⟨Rect.unit (s := S4x512x512) ![2, 0, 0] S1x512x512.size i2, w2⟩ :: L) (Rect.unit (s := S4x512x512) ![2, 0, 0] S1x512x512.size i2).toLoadRect = w2 :=
  (View.cov_skip _ _ _ _ _ 0 (by decide)).trans (View.cov_same _ _ _ _ _ rfl)
theorem sa_cov3 {κ : Kind} {sp : Space} (v : View sig κ sp S4x512x512 .f32) (i3 : ∀ a, (![3, 0, 0] : Fin 3 → ℕ) a + S1x512x512.size a ≤ S4x512x512.size a) ( w3 : Vec F S1x512x512 .f32) (L : List (View.Piece (Elt F) S4x512x512 .f32)) :
    v.readCov (⟨Rect.unit (s := S4x512x512) ![3, 0, 0] S1x512x512.size i3, w3⟩ :: L) (Rect.unit (s := S4x512x512) ![3, 0, 0] S1x512x512.size i3).toLoadRect = w3 :=
  View.cov_same _ _ _ _ _ rfl
theorem ma_fin {κ : Kind} {sp : Space} (v : View sig κ sp S4x1x512 .f32) (f : v.ty.Contents (Elt F)) (i0 : ∀ a, (![0, 0, 0] : Fin 3 → ℕ) a + S1x1x512.size a ≤ S4x1x512.size a) (i1 : ∀ a, (![1, 0, 0] : Fin 3 → ℕ) a + S1x1x512.size a ≤ S4x1x512.size a) (i2 : ∀ a, (![2, 0, 0] : Fin 3 → ℕ) a + S1x1x512.size a ≤ S4x1x512.size a) (i3 : ∀ a, (![3, 0, 0] : Fin 3 → ℕ) a + S1x1x512.size a ≤ S4x1x512.size a) (w0 w1 w2 w3 : Vec F S1x1x512 .f32) (L : List (View.Piece (Elt F) S4x1x512 .f32)) :
    maW (v.read (Elt F) (v.writes (Elt F) f (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L))) 0 0 = w0 ∧ maW (v.read (Elt F) (v.writes (Elt F) f (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L))) 0 1 = w1 ∧ maW (v.read (Elt F) (v.writes (Elt F) f (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L))) 1 0 = w2 ∧ maW (v.read (Elt F) (v.writes (Elt F) f (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L))) 1 1 = w3 := by
  refine ⟨?_, ?_, ?_, ?_⟩
  · exact (View.window_skip _ _ _ _ _ _ 0 (by decide)).trans ((View.window_skip _ _ _ _ _ _ 0 (by decide)).trans ((View.window_skip _ _ _ _ _ _ 0 (by decide)).trans (View.window_same _ _ _ _ _ _ rfl)))
  · exact (View.window_skip _ _ _ _ _ _ 0 (by decide)).trans ((View.window_skip _ _ _ _ _ _ 0 (by decide)).trans (View.window_same _ _ _ _ _ _ rfl))
  · exact (View.window_skip _ _ _ _ _ _ 0 (by decide)).trans (View.window_same _ _ _ _ _ _ rfl)
  · exact View.window_same _ _ _ _ _ _ rfl
theorem ma_cov0 {κ : Kind} {sp : Space} (v : View sig κ sp S4x1x512 .f32) (i0 : ∀ a, (![0, 0, 0] : Fin 3 → ℕ) a + S1x1x512.size a ≤ S4x1x512.size a) (i1 : ∀ a, (![1, 0, 0] : Fin 3 → ℕ) a + S1x1x512.size a ≤ S4x1x512.size a) (i2 : ∀ a, (![2, 0, 0] : Fin 3 → ℕ) a + S1x1x512.size a ≤ S4x1x512.size a) (i3 : ∀ a, (![3, 0, 0] : Fin 3 → ℕ) a + S1x1x512.size a ≤ S4x1x512.size a) ( w3 w2 w1 w0 : Vec F S1x1x512 .f32) (L : List (View.Piece (Elt F) S4x1x512 .f32)) :
    v.readCov (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: ⟨Rect.unit (s := S4x1x512) ![0, 0, 0] S1x1x512.size i0, w0⟩ :: L) (Rect.unit (s := S4x1x512) ![0, 0, 0] S1x1x512.size i0).toLoadRect = w0 :=
  (View.cov_skip _ _ _ _ _ 0 (by decide)).trans ((View.cov_skip _ _ _ _ _ 0 (by decide)).trans ((View.cov_skip _ _ _ _ _ 0 (by decide)).trans (View.cov_same _ _ _ _ _ rfl)))
theorem ma_cov1 {κ : Kind} {sp : Space} (v : View sig κ sp S4x1x512 .f32) (i1 : ∀ a, (![1, 0, 0] : Fin 3 → ℕ) a + S1x1x512.size a ≤ S4x1x512.size a) (i2 : ∀ a, (![2, 0, 0] : Fin 3 → ℕ) a + S1x1x512.size a ≤ S4x1x512.size a) (i3 : ∀ a, (![3, 0, 0] : Fin 3 → ℕ) a + S1x1x512.size a ≤ S4x1x512.size a) ( w3 w2 w1 : Vec F S1x1x512 .f32) (L : List (View.Piece (Elt F) S4x1x512 .f32)) :
    v.readCov (⟨Rect.unit (s := S4x1x512) ![3, 0, 0] S1x1x512.size i3, w3⟩ :: ⟨Rect.unit (s := S4x1x512) ![2, 0, 0] S1x1x512.size i2, w2⟩ :: ⟨Rect.unit (s := S4x1x512) ![1, 0, 0] S1x1x512.size i1, w1⟩ :: L) (Rect.unit (s := S4x1x512) ![1, 0, 0] S1x1x512.size i1).toLoadRect = w1 :=
  (View.cov_skip _ _ _ _ _ 0 (by decide)).trans ((View.cov_skip _ _ _ _ _ 0 (by decide)).trans (View.cov_same _ _ _ _ _ rfl))
theorem ma_cov2 {κ : Kind} {sp : Space} (v : View sig κ sp S4x1x512 .f32) (i2 : ∀ a, (![2, 0, 0] : Fin 3 → ℕ) a + S1x1x512.size a ≤ S4x1x512.size a) (i3 : ∀ a, (![3, 0, 0] : Fin 3 → ℕ) a + S1x1x512.size a ≤ S4x1x512.size a) ( w3 w2 : Vec F S1x1x512 .f32) (L : List (View.Piece (Elt F) S4x1x512 .f32)) :
    v.readCov (⟨Rect.unit (s := S4x1x512) ![3, 0, 0] S1x1x512.size i3, w3⟩ :: ⟨Rect.unit (s := S4x1x512) ![2, 0, 0] S1x1x512.size i2, w2⟩ :: L) (Rect.unit (s := S4x1x512) ![2, 0, 0] S1x1x512.size i2).toLoadRect = w2 :=
  (View.cov_skip _ _ _ _ _ 0 (by decide)).trans (View.cov_same _ _ _ _ _ rfl)
theorem ma_cov3 {κ : Kind} {sp : Space} (v : View sig κ sp S4x1x512 .f32) (i3 : ∀ a, (![3, 0, 0] : Fin 3 → ℕ) a + S1x1x512.size a ≤ S4x1x512.size a) ( w3 : Vec F S1x1x512 .f32) (L : List (View.Piece (Elt F) S4x1x512 .f32)) :
    v.readCov (⟨Rect.unit (s := S4x1x512) ![3, 0, 0] S1x1x512.size i3, w3⟩ :: L) (Rect.unit (s := S4x1x512) ![3, 0, 0] S1x1x512.size i3).toLoadRect = w3 :=
  View.cov_same _ _ _ _ _ rfl

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Proof.KernelIdeal

end
-- ==== Proof.Trip0.lean ====
module

public import proofs.«01_k».proof.Proof.Gen.KernelIdeal.Frame
public import proofs.«01_k».proof.Proof.Gen.KernelIdeal.Loops
public import proofs.«01_k».proof.Proof.Steps

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trip0 (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (arg1 v17 v18 : BitVec 32) (v52 : FVec F S512x512 .f32) (k : Fin (k0_t1_loop i).trips) (f2 : Bf (F := F) c arg2) (f3 : Bf (F := F) c arg3) (f4 : Bf (F := F) c arg4) (f12 : Bf (F := F) c arg12) (f13 : Bf (F := F) c arg13) (f14 : Bf (F := F) c arg14) (f15 : Bf (F := F) c arg15) (f16 : Bf (F := F) c arg16) (f17 : Bf (F := F) c arg17)
  : iprop(pt c arg2 f2 ∗ pt c arg3 f3 ∗ pt c arg4 f4 ∗ pt c arg12 f12 ∗ pt c arg13 f13 ∗ pt c arg14 f14 ∗ pt c arg15 f15 ∗ pt c arg16 f16 ∗ pt c arg17 f17)
   ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v18 v52 k ())
     (fun _ => iprop(∃ g2, pt c arg2 g2 ∗ ∃ g3, pt c arg3 g3 ∗ ∃ g4, pt c arg4 g4 ∗ ∃ g12, pt c arg12 g12 ∗ ∃ g13, pt c arg13 g13 ∗ ∃ g14, pt c arg14 g14 ∗ ∃ g15, pt c arg15 g15 ∗ ∃ g16, pt c arg16 g16 ∗ ∃ g17, pt c arg17 g17)) := by
  unfold Gen.k0_t1_body
  iintro ⟨H2, H3, H4, H12, H13, H14, H15, H16, H17⟩
  sl_exec_parts
  sl_step
  sl_close

end Cert.Proof.KernelIdeal
end
-- ==== Proof.Trip.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.Trip0

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {c : Dev nD} {i : grid0.Coords} {arg2 : Memref sig .tc .vmem S2x256x1024 .bf16} {arg3 : Memref sig .tc .vmem S2x8192x256 .bf16} {arg4 : Memref sig .tc .vmem S2x32x144x256 .bf16} {arg12 : Memref sig .tc .vmem S2x1x1024 .f32} {arg13 : Memref sig .tc .vmem S2x144x1024 .f32} {arg14 : Memref sig .tc .vmem S4x512x512 .f32} {arg15 : Memref sig .tc .vmem S4x512x512 .f32} {arg16 : Memref sig .tc .vmem S4x1x512 .f32} {arg17 : Memref sig .tc .vmem S4x1x512 .f32} {k : Fin (k0_t1_loop i).trips} {f2 : Bf (F := F) c arg2} {f3 : Bf (F := F) c arg3} {f4 : Bf (F := F) c arg4} {f12 : Bf (F := F) c arg12} {f13 : Bf (F := F) c arg13} {f14 : Bf (F := F) c arg14} {f15 : Bf (F := F) c arg15} {f16 : Bf (F := F) c arg16} {f17 : Bf (F := F) c arg17}
/-- A block of keys the trip loads. -/
theorem kL00 : (View.readAt (Elt F) arg3.view (Rect.unit (s := S2x8192x256) (k0_off1 i k) S1x512x256.size (k0_off1_inb i k)).toLoadRect f3) = kW (arg3.view.read (Elt F) f3) 0 (Fin.ofNat 16 (2 * k.val + 1)) :=
  have hk : k.val < 7 := lt_of_lt_of_le k.isLt (k0_t1_abs i).2.1
  View.readAt_unit _ _ _ (by rw [k0_off1_eq]; funext a; fin_cases a <;> simp <;> omega) _
/-- A chunk of values the trip loads. -/
theorem vL000 : (View.readAt (Elt F) arg4.view (Rect.unit (s := S2x32x144x256) (k0_off2 i k 0#32) S1x1x144x256.size (k0_off2_inb i k 0)).toLoadRect f4) = vW (arg4.view.read (Elt F) f4) 0 (Fin.ofNat 32 (2 * (2 * k.val))) :=
  have hk : k.val < 7 := lt_of_lt_of_le k.isLt (k0_t1_abs i).2.1
  View.readAt_unit _ _ _ (by refine (k0_off2_eq i k 0).trans ?_; funext a; fin_cases a <;> simp <;> omega) _
/-- A chunk of values the trip loads. -/
theorem vL001 : (View.readAt (Elt F) arg4.view (Rect.unit (s := S2x32x144x256) (k0_off2 i k 1#32) S1x1x144x256.size (k0_off2_inb i k 1)).toLoadRect f4) = vW (arg4.view.read (Elt F) f4) 0 (Fin.ofNat 32 (2 * (2 * k.val) + 1)) :=
  have hk : k.val < 7 := lt_of_lt_of_le k.isLt (k0_t1_abs i).2.1
  View.readAt_unit _ _ _ (by refine (k0_off2_eq i k 1).trans ?_; funext a; fin_cases a <;> simp <;> omega) _
/-- A block of keys the trip loads. -/
theorem kL01 : (View.readAt (Elt F) arg3.view (Rect.unit (s := S2x8192x256) (k0_off5 i k) S1x512x256.size (k0_off5_inb i k)).toLoadRect f3) = kW (arg3.view.read (Elt F) f3) 0 (Fin.ofNat 16 (2 * k.val + 2)) :=
  have hk : k.val < 7 := lt_of_lt_of_le k.isLt (k0_t1_abs i).2.1
  View.readAt_unit _ _ _ (by rw [k0_off5_eq]; funext a; fin_cases a <;> simp <;> omega) _
/-- A chunk of values the trip loads. -/
theorem vL010 : (View.readAt (Elt F) arg4.view (Rect.unit (s := S2x32x144x256) (k0_off6 i k 0#32) S1x1x144x256.size (k0_off6_inb i k 0)).toLoadRect f4) = vW (arg4.view.read (Elt F) f4) 0 (Fin.ofNat 32 (2 * (2 * k.val + 1))) :=
  have hk : k.val < 7 := lt_of_lt_of_le k.isLt (k0_t1_abs i).2.1
  View.readAt_unit _ _ _ (by refine (k0_off6_eq i k 0).trans ?_; funext a; fin_cases a <;> simp <;> omega) _
/-- A chunk of values the trip loads. -/
theorem vL011 : (View.readAt (Elt F) arg4.view (Rect.unit (s := S2x32x144x256) (k0_off6 i k 1#32) S1x1x144x256.size (k0_off6_inb i k 1)).toLoadRect f4) = vW (arg4.view.read (Elt F) f4) 0 (Fin.ofNat 32 (2 * (2 * k.val + 1) + 1)) :=
  have hk : k.val < 7 := lt_of_lt_of_le k.isLt (k0_t1_abs i).2.1
  View.readAt_unit _ _ _ (by refine (k0_off6_eq i k 1).trans ?_; funext a; fin_cases a <;> simp <;> omega) _
/-- A block of keys the trip loads. -/
theorem kL10 : (View.readAt (Elt F) arg3.view (Rect.unit (s := S2x8192x256) (k0_off3 i k) S1x512x256.size (k0_off3_inb i k)).toLoadRect f3) = kW (arg3.view.read (Elt F) f3) 1 (Fin.ofNat 16 (2 * k.val + 1)) :=
  have hk : k.val < 7 := lt_of_lt_of_le k.isLt (k0_t1_abs i).2.1
  View.readAt_unit _ _ _ (by rw [k0_off3_eq]; funext a; fin_cases a <;> simp <;> omega) _
/-- A chunk of values the trip loads. -/
theorem vL100 : (View.readAt (Elt F) arg4.view (Rect.unit (s := S2x32x144x256) (k0_off4 i k 0#32) S1x1x144x256.size (k0_off4_inb i k 0)).toLoadRect f4) = vW (arg4.view.read (Elt F) f4) 1 (Fin.ofNat 32 (2 * (2 * k.val))) :=
  have hk : k.val < 7 := lt_of_lt_of_le k.isLt (k0_t1_abs i).2.1
  View.readAt_unit _ _ _ (by refine (k0_off4_eq i k 0).trans ?_; funext a; fin_cases a <;> simp <;> omega) _
/-- A chunk of values the trip loads. -/
theorem vL101 : (View.readAt (Elt F) arg4.view (Rect.unit (s := S2x32x144x256) (k0_off4 i k 1#32) S1x1x144x256.size (k0_off4_inb i k 1)).toLoadRect f4) = vW (arg4.view.read (Elt F) f4) 1 (Fin.ofNat 32 (2 * (2 * k.val) + 1)) :=
  have hk : k.val < 7 := lt_of_lt_of_le k.isLt (k0_t1_abs i).2.1
  View.readAt_unit _ _ _ (by refine (k0_off4_eq i k 1).trans ?_; funext a; fin_cases a <;> simp <;> omega) _
/-- A block of keys the trip loads. -/
theorem kL11 : (View.readAt (Elt F) arg3.view (Rect.unit (s := S2x8192x256) (k0_off7 i k) S1x512x256.size (k0_off7_inb i k)).toLoadRect f3) = kW (arg3.view.read (Elt F) f3) 1 (Fin.ofNat 16 (2 * k.val + 2)) :=
  have hk : k.val < 7 := lt_of_lt_of_le k.isLt (k0_t1_abs i).2.1
  View.readAt_unit _ _ _ (by rw [k0_off7_eq]; funext a; fin_cases a <;> simp <;> omega) _
/-- A chunk of values the trip loads. -/
theorem vL110 : (View.readAt (Elt F) arg4.view (Rect.unit (s := S2x32x144x256) (k0_off8 i k 0#32) S1x1x144x256.size (k0_off8_inb i k 0)).toLoadRect f4) = vW (arg4.view.read (Elt F) f4) 1 (Fin.ofNat 32 (2 * (2 * k.val + 1))) :=
  have hk : k.val < 7 := lt_of_lt_of_le k.isLt (k0_t1_abs i).2.1
  View.readAt_unit _ _ _ (by refine (k0_off8_eq i k 0).trans ?_; funext a; fin_cases a <;> simp <;> omega) _
/-- A chunk of values the trip loads. -/
theorem vL111 : (View.readAt (Elt F) arg4.view (Rect.unit (s := S2x32x144x256) (k0_off8 i k 1#32) S1x1x144x256.size (k0_off8_inb i k 1)).toLoadRect f4) = vW (arg4.view.read (Elt F) f4) 1 (Fin.ofNat 32 (2 * (2 * k.val + 1) + 1)) :=
  have hk : k.val < 7 := lt_of_lt_of_le k.isLt (k0_t1_abs i).2.1
  View.readAt_unit _ _ _ (by refine (k0_off8_eq i k 1).trans ?_; funext a; fin_cases a <;> simp <;> omega) _
/-- The queries of one chain, as loaded. -/
theorem qL0 : (View.readAt (Elt F) arg2.view (Rect.unit (s := S2x256x1024) ![0, 0, 0] S1x256x512.size (by decide)).toLoadRect f2) = qW (arg2.view.read (Elt F) f2) 0 0 := View.readAt_unit _ _ _ (by decide) _
theorem mL0 : (View.readAt (Elt F) arg12.view (Rect.unit (s := S2x1x1024) ![0, 0, 0] S1x1x512.size (by decide)).toLoadRect f12) = mW (arg12.view.read (Elt F) f12) 0 0 := View.readAt_unit _ _ _ (by decide) _
theorem accL0 : (View.readAt (Elt F) arg13.view (Rect.unit (s := S2x144x1024) ![0, 0, 0] S1x144x512.size (by decide)).toLoadRect f13) = accW (arg13.view.read (Elt F) f13) 0 0 := View.readAt_unit _ _ _ (by decide) _
theorem saL0 : (View.readAt (Elt F) arg14.view (Rect.unit (s := S4x512x512) ![0, 0, 0] S1x512x512.size (by decide)).toLoadRect f14) = saW (arg14.view.read (Elt F) f14) 0 0 := View.readAt_unit _ _ _ (by decide) _
theorem maL0 : (View.readAt (Elt F) arg16.view (Rect.unit (s := S4x1x512) ![0, 0, 0] S1x1x512.size (by decide)).toLoadRect f16) = maW (arg16.view.read (Elt F) f16) 0 0 := View.readAt_unit _ _ _ (by decide) _
/-- The scores the first half of the trip leaves for the second. -/
theorem covSa0 : arg15.view.readCov (trip0.sl.H15_4 c i arg2 arg3 k f2 f3) (Rect.unit (s := S4x512x512) ![0, 0, 0] S1x512x512.size (by decide)).toLoadRect = saP (View.readAt (Elt F) arg3.view (Rect.unit (s := S2x8192x256) (k0_off1 i k) S1x512x256.size (k0_off1_inb i k)).toLoadRect f3) (View.readAt (Elt F) arg2.view (Rect.unit (s := S2x256x1024) ![0, 0, 0] S1x256x512.size (by decide)).toLoadRect f2) := by
  refine (sa_cov0 _ _ _ _ _ _ _ _ _ _ ).trans ?_
  rfl
/-- Their maxima. -/
theorem covMa0 : arg17.view.readCov (trip0.sl.H17_4 c i arg2 arg3 k f2 f3) (Rect.unit (s := S4x1x512) ![0, 0, 0] S1x1x512.size (by decide)).toLoadRect = maP (View.readAt (Elt F) arg3.view (Rect.unit (s := S2x8192x256) (k0_off1 i k) S1x512x256.size (k0_off1_inb i k)).toLoadRect f3) (View.readAt (Elt F) arg2.view (Rect.unit (s := S2x256x1024) ![0, 0, 0] S1x256x512.size (by decide)).toLoadRect f2) := by
  refine (ma_cov0 _ _ _ _ _ _ _ _ _ _ ).trans ?_
  rfl
/-- The running maximum after the first half. -/
theorem covM0 : arg12.view.readCov (trip0.sl.H12_4 c arg12 arg16 f12 f16) (Rect.unit (s := S2x1x1024) ![0, 0, 0] S1x1x512.size (by decide)).toLoadRect = mP (View.readAt (Elt F) arg16.view (Rect.unit (s := S4x1x512) ![0, 0, 0] S1x1x512.size (by decide)).toLoadRect f16) (View.readAt (Elt F) arg12.view (Rect.unit (s := S2x1x1024) ![0, 0, 0] S1x1x512.size (by decide)).toLoadRect f12) := by
  refine (m_cov0 _ _ _ _ _ _ _ _ _ _ ).trans ?_
  rfl
/-- The sums after the first half. -/
theorem covAcc0 : arg13.view.readCov (trip0.sl.H13_4 c i arg4 arg12 arg13 arg14 arg16 k f4 f12 f13 f14 f16) (Rect.unit (s := S2x144x1024) ![0, 0, 0] S1x144x512.size (by decide)).toLoadRect = accP (View.readAt (Elt F) arg14.view (Rect.unit (s := S4x512x512) ![0, 0, 0] S1x512x512.size (by decide)).toLoadRect f14) (View.readAt (Elt F) arg16.view (Rect.unit (s := S4x1x512) ![0, 0, 0] S1x1x512.size (by decide)).toLoadRect f16) (View.readAt (Elt F) arg12.view (Rect.unit (s := S2x1x1024) ![0, 0, 0] S1x1x512.size (by decide)).toLoadRect f12) (View.readAt (Elt F) arg4.view (Rect.unit (s := S2x32x144x256) (k0_off2 i k 0#32) S1x1x144x256.size (k0_off2_inb i k 0)).toLoadRect f4) (View.readAt (Elt F) arg4.view (Rect.unit (s := S2x32x144x256) (k0_off2 i k 1#32) S1x1x144x256.size (k0_off2_inb i k 1)).toLoadRect f4) (View.readAt (Elt F) arg13.view (Rect.unit (s := S2x144x1024) ![0, 0, 0] S1x144x512.size (by decide)).toLoadRect f13) := by
  refine (acc_cov0 _ _ _ _ _ _ _ _ _ _ ).trans ?_
  rfl
/-- One chain's state after the trip. -/
theorem chain0 (hI : InvC (arg2.view.read (Elt F) f2) (arg3.view.read (Elt F) f3) (arg4.view.read (Elt F) f4) (2 * k.val) (arg12.view.read (Elt F) f12) (arg13.view.read (Elt F) f13) (arg14.view.read (Elt F) f14) (arg16.view.read (Elt F) f16) 0 0) :
    mP (arg17.view.readCov (trip0.sl.H17_4 c i arg2 arg3 k f2 f3) (Rect.unit (s := S4x1x512) ![0, 0, 0] S1x1x512.size (by decide)).toLoadRect) (arg12.view.readCov (trip0.sl.H12_4 c arg12 arg16 f12 f16) (Rect.unit (s := S2x1x1024) ![0, 0, 0] S1x1x512.size (by decide)).toLoadRect) = mSt (arg2.view.read (Elt F) f2) (arg3.view.read (Elt F) f3) 0 0 (2 * k.val + 2) ∧
    accP (arg15.view.readCov (trip0.sl.H15_4 c i arg2 arg3 k f2 f3) (Rect.unit (s := S4x512x512) ![0, 0, 0] S1x512x512.size (by decide)).toLoadRect) (arg17.view.readCov (trip0.sl.H17_4 c i arg2 arg3 k f2 f3) (Rect.unit (s := S4x1x512) ![0, 0, 0] S1x1x512.size (by decide)).toLoadRect) (arg12.view.readCov (trip0.sl.H12_4 c arg12 arg16 f12 f16) (Rect.unit (s := S2x1x1024) ![0, 0, 0] S1x1x512.size (by decide)).toLoadRect) (View.readAt (Elt F) arg4.view (Rect.unit (s := S2x32x144x256) (k0_off6 i k 0#32) S1x1x144x256.size (k0_off6_inb i k 0)).toLoadRect f4) (View.readAt (Elt F) arg4.view (Rect.unit (s := S2x32x144x256) (k0_off6 i k 1#32) S1x1x144x256.size (k0_off6_inb i k 1)).toLoadRect f4) (arg13.view.readCov (trip0.sl.H13_4 c i arg4 arg12 arg13 arg14 arg16 k f4 f12 f13 f14 f16) (Rect.unit (s := S2x144x1024) ![0, 0, 0] S1x144x512.size (by decide)).toLoadRect) = accSt (arg2.view.read (Elt F) f2) (arg3.view.read (Elt F) f3) (arg4.view.read (Elt F) f4) 0 0 (2 * k.val + 2) ∧
    saP (View.readAt (Elt F) arg3.view (Rect.unit (s := S2x8192x256) (k0_off5 i k) S1x512x256.size (k0_off5_inb i k)).toLoadRect f3) (View.readAt (Elt F) arg2.view (Rect.unit (s := S2x256x1024) ![0, 0, 0] S1x256x512.size (by decide)).toLoadRect f2) = saC (arg2.view.read (Elt F) f2) (arg3.view.read (Elt F) f3) 0 0 (2 * k.val + 2) ∧ maP (View.readAt (Elt F) arg3.view (Rect.unit (s := S2x8192x256) (k0_off5 i k) S1x512x256.size (k0_off5_inb i k)).toLoadRect f3) (View.readAt (Elt F) arg2.view (Rect.unit (s := S2x256x1024) ![0, 0, 0] S1x256x512.size (by decide)).toLoadRect f2) = maC (arg2.view.read (Elt F) f2) (arg3.view.read (Elt F) f3) 0 0 (2 * k.val + 2) := by
  obtain ⟨hm, ha, hs, hx⟩ := hI
  have e1 : arg12.view.readCov (trip0.sl.H12_4 c arg12 arg16 f12 f16) (Rect.unit (s := S2x1x1024) ![0, 0, 0] S1x1x512.size (by decide)).toLoadRect = mSt (arg2.view.read (Elt F) f2) (arg3.view.read (Elt F) f3) 0 0 (2 * k.val + 1) :=
    covM0.trans (mP_congr (maL0.trans hx) (mL0.trans hm))
  have e2 : arg15.view.readCov (trip0.sl.H15_4 c i arg2 arg3 k f2 f3) (Rect.unit (s := S4x512x512) ![0, 0, 0] S1x512x512.size (by decide)).toLoadRect = saC (arg2.view.read (Elt F) f2) (arg3.view.read (Elt F) f3) 0 0 (2 * k.val + 1) := covSa0.trans (saP_congr kL00 qL0)
  have e3 : arg17.view.readCov (trip0.sl.H17_4 c i arg2 arg3 k f2 f3) (Rect.unit (s := S4x1x512) ![0, 0, 0] S1x1x512.size (by decide)).toLoadRect = maC (arg2.view.read (Elt F) f2) (arg3.view.read (Elt F) f3) 0 0 (2 * k.val + 1) := covMa0.trans (maP_congr kL00 qL0)
  have e4 : arg13.view.readCov (trip0.sl.H13_4 c i arg4 arg12 arg13 arg14 arg16 k f4 f12 f13 f14 f16) (Rect.unit (s := S2x144x1024) ![0, 0, 0] S1x144x512.size (by decide)).toLoadRect = accSt (arg2.view.read (Elt F) f2) (arg3.view.read (Elt F) f3) (arg4.view.read (Elt F) f4) 0 0 (2 * k.val + 1) :=
    covAcc0.trans (accP_congr (saL0.trans hs) (maL0.trans hx) (mL0.trans hm) vL000 vL001 (accL0.trans ha))
  exact ⟨mP_congr e3 e1, accP_congr e2 e3 e1 vL010 vL011 e4, saP_congr kL01 qL0, maP_congr kL01 qL0⟩
/-- The queries of one chain, as loaded. -/
theorem qL1 : (View.readAt (Elt F) arg2.view (Rect.unit (s := S2x256x1024) ![0, 0, 512] S1x256x512.size (by decide)).toLoadRect f2) = qW (arg2.view.read (Elt F) f2) 0 1 := View.readAt_unit _ _ _ (by decide) _
theorem mL1 : (View.readAt (Elt F) arg12.view (Rect.unit (s := S2x1x1024) ![0, 0, 512] S1x1x512.size (by decide)).toLoadRect f12) = mW (arg12.view.read (Elt F) f12) 0 1 := View.readAt_unit _ _ _ (by decide) _
theorem accL1 : (View.readAt (Elt F) arg13.view (Rect.unit (s := S2x144x1024) ![0, 0, 512] S1x144x512.size (by decide)).toLoadRect f13) = accW (arg13.view.read (Elt F) f13) 0 1 := View.readAt_unit _ _ _ (by decide) _
theorem saL1 : (View.readAt (Elt F) arg14.view (Rect.unit (s := S4x512x512) ![1, 0, 0] S1x512x512.size (by decide)).toLoadRect f14) = saW (arg14.view.read (Elt F) f14) 0 1 := View.readAt_unit _ _ _ (by decide) _
theorem maL1 : (View.readAt (Elt F) arg16.view (Rect.unit (s := S4x1x512) ![1, 0, 0] S1x1x512.size (by decide)).toLoadRect f16) = maW (arg16.view.read (Elt F) f16) 0 1 := View.readAt_unit _ _ _ (by decide) _
/-- The scores the first half of the trip leaves for the second. -/
theorem covSa1 : arg15.view.readCov (trip0.sl.H15_4 c i arg2 arg3 k f2 f3) (Rect.unit (s := S4x512x512) ![1, 0, 0] S1x512x512.size (by decide)).toLoadRect = saP (View.readAt (Elt F) arg3.view (Rect.unit (s := S2x8192x256) (k0_off1 i k) S1x512x256.size (k0_off1_inb i k)).toLoadRect f3) (View.readAt (Elt F) arg2.view (Rect.unit (s := S2x256x1024) ![0, 0, 512] S1x256x512.size (by decide)).toLoadRect f2) := by
  refine (sa_cov1 _ _ _ _ _ _ _ _ ).trans ?_
  rfl
/-- Their maxima. -/
theorem covMa1 : arg17.view.readCov (trip0.sl.H17_4 c i arg2 arg3 k f2 f3) (Rect.unit (s := S4x1x512) ![1, 0, 0] S1x1x512.size (by decide)).toLoadRect = maP (View.readAt (Elt F) arg3.view (Rect.unit (s := S2x8192x256) (k0_off1 i k) S1x512x256.size (k0_off1_inb i k)).toLoadRect f3) (View.readAt (Elt F) arg2.view (Rect.unit (s := S2x256x1024) ![0, 0, 512] S1x256x512.size (by decide)).toLoadRect f2) := by
  refine (ma_cov1 _ _ _ _ _ _ _ _ ).trans ?_
  rfl
/-- The running maximum after the first half. -/
theorem covM1 : arg12.view.readCov (trip0.sl.H12_5 c i arg2 arg3 arg12 arg16 arg17 k f2 f3 f12 f16) (Rect.unit (s := S2x1x1024) ![0, 0, 512] S1x1x512.size (by decide)).toLoadRect = mP (View.readAt (Elt F) arg16.view (Rect.unit (s := S4x1x512) ![1, 0, 0] S1x1x512.size (by decide)).toLoadRect f16) (View.readAt (Elt F) arg12.view (Rect.unit (s := S2x1x1024) ![0, 0, 512] S1x1x512.size (by decide)).toLoadRect f12) := by
  refine (m_cov1 _ _ _ _ _ _ _ _ _ _ ).trans ?_
  rfl
/-- The sums after the first half. -/
theorem covAcc1 : arg13.view.readCov (trip0.sl.H13_5 c i arg2 arg3 arg4 arg12 arg13 arg14 arg15 arg16 arg17 k f2 f3 f4 f12 f13 f14 f16) (Rect.unit (s := S2x144x1024) ![0, 0, 512] S1x144x512.size (by decide)).toLoadRect = accP (View.readAt (Elt F) arg14.view (Rect.unit (s := S4x512x512) ![1, 0, 0] S1x512x512.size (by decide)).toLoadRect f14) (View.readAt (Elt F) arg16.view (Rect.unit (s := S4x1x512) ![1, 0, 0] S1x1x512.size (by decide)).toLoadRect f16) (View.readAt (Elt F) arg12.view (Rect.unit (s := S2x1x1024) ![0, 0, 512] S1x1x512.size (by decide)).toLoadRect f12) (View.readAt (Elt F) arg4.view (Rect.unit (s := S2x32x144x256) (k0_off2 i k 0#32) S1x1x144x256.size (k0_off2_inb i k 0)).toLoadRect f4) (View.readAt (Elt F) arg4.view (Rect.unit (s := S2x32x144x256) (k0_off2 i k 1#32) S1x1x144x256.size (k0_off2_inb i k 1)).toLoadRect f4) (View.readAt (Elt F) arg13.view (Rect.unit (s := S2x144x1024) ![0, 0, 512] S1x144x512.size (by decide)).toLoadRect f13) := by
  refine (acc_cov1 _ _ _ _ _ _ _ _ _ _ ).trans ?_
  rfl
/-- One chain's state after the trip. -/
theorem chain1 (hI : InvC (arg2.view.read (Elt F) f2) (arg3.view.read (Elt F) f3) (arg4.view.read (Elt F) f4) (2 * k.val) (arg12.view.read (Elt F) f12) (arg13.view.read (Elt F) f13) (arg14.view.read (Elt F) f14) (arg16.view.read (Elt F) f16) 0 1) :
    mP (arg17.view.readCov (trip0.sl.H17_4 c i arg2 arg3 k f2 f3) (Rect.unit (s := S4x1x512) ![1, 0, 0] S1x1x512.size (by decide)).toLoadRect) (arg12.view.readCov (trip0.sl.H12_5 c i arg2 arg3 arg12 arg16 arg17 k f2 f3 f12 f16) (Rect.unit (s := S2x1x1024) ![0, 0, 512] S1x1x512.size (by decide)).toLoadRect) = mSt (arg2.view.read (Elt F) f2) (arg3.view.read (Elt F) f3) 0 1 (2 * k.val + 2) ∧
    accP (arg15.view.readCov (trip0.sl.H15_4 c i arg2 arg3 k f2 f3) (Rect.unit (s := S4x512x512) ![1, 0, 0] S1x512x512.size (by decide)).toLoadRect) (arg17.view.readCov (trip0.sl.H17_4 c i arg2 arg3 k f2 f3) (Rect.unit (s := S4x1x512) ![1, 0, 0] S1x1x512.size (by decide)).toLoadRect) (arg12.view.readCov (trip0.sl.H12_5 c i arg2 arg3 arg12 arg16 arg17 k f2 f3 f12 f16) (Rect.unit (s := S2x1x1024) ![0, 0, 512] S1x1x512.size (by decide)).toLoadRect) (View.readAt (Elt F) arg4.view (Rect.unit (s := S2x32x144x256) (k0_off6 i k 0#32) S1x1x144x256.size (k0_off6_inb i k 0)).toLoadRect f4) (View.readAt (Elt F) arg4.view (Rect.unit (s := S2x32x144x256) (k0_off6 i k 1#32) S1x1x144x256.size (k0_off6_inb i k 1)).toLoadRect f4) (arg13.view.readCov (trip0.sl.H13_5 c i arg2 arg3 arg4 arg12 arg13 arg14 arg15 arg16 arg17 k f2 f3 f4 f12 f13 f14 f16) (Rect.unit (s := S2x144x1024) ![0, 0, 512] S1x144x512.size (by decide)).toLoadRect) = accSt (arg2.view.read (Elt F) f2) (arg3.view.read (Elt F) f3) (arg4.view.read (Elt F) f4) 0 1 (2 * k.val + 2) ∧
    saP (View.readAt (Elt F) arg3.view (Rect.unit (s := S2x8192x256) (k0_off5 i k) S1x512x256.size (k0_off5_inb i k)).toLoadRect f3) (View.readAt (Elt F) arg2.view (Rect.unit (s := S2x256x1024) ![0, 0, 512] S1x256x512.size (by decide)).toLoadRect f2) = saC (arg2.view.read (Elt F) f2) (arg3.view.read (Elt F) f3) 0 1 (2 * k.val + 2) ∧ maP (View.readAt (Elt F) arg3.view (Rect.unit (s := S2x8192x256) (k0_off5 i k) S1x512x256.size (k0_off5_inb i k)).toLoadRect f3) (View.readAt (Elt F) arg2.view (Rect.unit (s := S2x256x1024) ![0, 0, 512] S1x256x512.size (by decide)).toLoadRect f2) = maC (arg2.view.read (Elt F) f2) (arg3.view.read (Elt F) f3) 0 1 (2 * k.val + 2) := by
  obtain ⟨hm, ha, hs, hx⟩ := hI
  have e1 : arg12.view.readCov (trip0.sl.H12_5 c i arg2 arg3 arg12 arg16 arg17 k f2 f3 f12 f16) (Rect.unit (s := S2x1x1024) ![0, 0, 512] S1x1x512.size (by decide)).toLoadRect = mSt (arg2.view.read (Elt F) f2) (arg3.view.read (Elt F) f3) 0 1 (2 * k.val + 1) :=
    covM1.trans (mP_congr (maL1.trans hx) (mL1.trans hm))
  have e2 : arg15.view.readCov (trip0.sl.H15_4 c i arg2 arg3 k f2 f3) (Rect.unit (s := S4x512x512) ![1, 0, 0] S1x512x512.size (by decide)).toLoadRect = saC (arg2.view.read (Elt F) f2) (arg3.view.read (Elt F) f3) 0 1 (2 * k.val + 1) := covSa1.trans (saP_congr kL00 qL1)
  have e3 : arg17.view.readCov (trip0.sl.H17_4 c i arg2 arg3 k f2 f3) (Rect.unit (s := S4x1x512) ![1, 0, 0] S1x1x512.size (by decide)).toLoadRect = maC (arg2.view.read (Elt F) f2) (arg3.view.read (Elt F) f3) 0 1 (2 * k.val + 1) := covMa1.trans (maP_congr kL00 qL1)
  have e4 : arg13.view.readCov (trip0.sl.H13_5 c i arg2 arg3 arg4 arg12 arg13 arg14 arg15 arg16 arg17 k f2 f3 f4 f12 f13 f14 f16) (Rect.unit (s := S2x144x1024) ![0, 0, 512] S1x144x512.size (by decide)).toLoadRect = accSt (arg2.view.read (Elt F) f2) (arg3.view.read (Elt F) f3) (arg4.view.read (Elt F) f4) 0 1 (2 * k.val + 1) :=
    covAcc1.trans (accP_congr (saL1.trans hs) (maL1.trans hx) (mL1.trans hm) vL000 vL001 (accL1.trans ha))
  exact ⟨mP_congr e3 e1, accP_congr e2 e3 e1 vL010 vL011 e4, saP_congr kL01 qL1, maP_congr kL01 qL1⟩
/-- The queries of one chain, as loaded. -/
theorem qL2 : (View.readAt (Elt F) arg2.view (Rect.unit (s := S2x256x1024) ![1, 0, 0] S1x256x512.size (by decide)).toLoadRect f2) = qW (arg2.view.read (Elt F) f2) 1 0 := View.readAt_unit _ _ _ (by decide) _
theorem mL2 : (View.readAt (Elt F) arg12.view (Rect.unit (s := S2x1x1024) ![1, 0, 0] S1x1x512.size (by decide)).toLoadRect f12) = mW (arg12.view.read (Elt F) f12) 1 0 := View.readAt_unit _ _ _ (by decide) _
theorem accL2 : (View.readAt (Elt F) arg13.view (Rect.unit (s := S2x144x1024) ![1, 0, 0] S1x144x512.size (by decide)).toLoadRect f13) = accW (arg13.view.read (Elt F) f13) 1 0 := View.readAt_unit _ _ _ (by decide) _
theorem saL2 : (View.readAt (Elt F) arg14.view (Rect.unit (s := S4x512x512) ![2, 0, 0] S1x512x512.size (by decide)).toLoadRect f14) = saW (arg14.view.read (Elt F) f14) 1 0 := View.readAt_unit _ _ _ (by decide) _
theorem maL2 : (View.readAt (Elt F) arg16.view (Rect.unit (s := S4x1x512) ![2, 0, 0] S1x1x512.size (by decide)).toLoadRect f16) = maW (arg16.view.read (Elt F) f16) 1 0 := View.readAt_unit _ _ _ (by decide) _
/-- The scores the first half of the trip leaves for the second. -/
theorem covSa2 : arg15.view.readCov (trip0.sl.H15_4 c i arg2 arg3 k f2 f3) (Rect.unit (s := S4x512x512) ![2, 0, 0] S1x512x512.size (by decide)).toLoadRect = saP (View.readAt (Elt F) arg3.view (Rect.unit (s := S2x8192x256) (k0_off3 i k) S1x512x256.size (k0_off3_inb i k)).toLoadRect f3) (View.readAt (Elt F) arg2.view (Rect.unit (s := S2x256x1024) ![1, 0, 0] S1x256x512.size (by decide)).toLoadRect f2) := by
  refine (sa_cov2 _ _ _ _ _ _ ).trans ?_
  rfl
/-- Their maxima. -/
theorem covMa2 : arg17.view.readCov (trip0.sl.H17_4 c i arg2 arg3 k f2 f3) (Rect.unit (s := S4x1x512) ![2, 0, 0] S1x1x512.size (by decide)).toLoadRect = maP (View.readAt (Elt F) arg3.view (Rect.unit (s := S2x8192x256) (k0_off3 i k) S1x512x256.size (k0_off3_inb i k)).toLoadRect f3) (View.readAt (Elt F) arg2.view (Rect.unit (s := S2x256x1024) ![1, 0, 0] S1x256x512.size (by decide)).toLoadRect f2) := by
  refine (ma_cov2 _ _ _ _ _ _ ).trans ?_
  rfl
/-- The running maximum after the first half. -/
theorem covM2 : arg12.view.readCov (trip0.sl.H12_6 c i arg2 arg3 arg12 arg16 arg17 k f2 f3 f12 f16) (Rect.unit (s := S2x1x1024) ![1, 0, 0] S1x1x512.size (by decide)).toLoadRect = mP (View.readAt (Elt F) arg16.view (Rect.unit (s := S4x1x512) ![2, 0, 0] S1x1x512.size (by decide)).toLoadRect f16) (View.readAt (Elt F) arg12.view (Rect.unit (s := S2x1x1024) ![1, 0, 0] S1x1x512.size (by decide)).toLoadRect f12) := by
  refine (m_cov2 _ _ _ _ _ _ _ _ _ _ ).trans ?_
  rfl
/-- The sums after the first half. -/
theorem covAcc2 : arg13.view.readCov (trip0.sl.H13_6 c i arg2 arg3 arg4 arg12 arg13 arg14 arg15 arg16 arg17 k f2 f3 f4 f12 f13 f14 f16) (Rect.unit (s := S2x144x1024) ![1, 0, 0] S1x144x512.size (by decide)).toLoadRect = accP (View.readAt (Elt F) arg14.view (Rect.unit (s := S4x512x512) ![2, 0, 0] S1x512x512.size (by decide)).toLoadRect f14) (View.readAt (Elt F) arg16.view (Rect.unit (s := S4x1x512) ![2, 0, 0] S1x1x512.size (by decide)).toLoadRect f16) (View.readAt (Elt F) arg12.view (Rect.unit (s := S2x1x1024) ![1, 0, 0] S1x1x512.size (by decide)).toLoadRect f12) (View.readAt (Elt F) arg4.view (Rect.unit (s := S2x32x144x256) (k0_off4 i k 0#32) S1x1x144x256.size (k0_off4_inb i k 0)).toLoadRect f4) (View.readAt (Elt F) arg4.view (Rect.unit (s := S2x32x144x256) (k0_off4 i k 1#32) S1x1x144x256.size (k0_off4_inb i k 1)).toLoadRect f4) (View.readAt (Elt F) arg13.view (Rect.unit (s := S2x144x1024) ![1, 0, 0] S1x144x512.size (by decide)).toLoadRect f13) := by
  refine (acc_cov2 _ _ _ _ _ _ _ _ _ _ ).trans ?_
  rfl
/-- One chain's state after the trip. -/
theorem chain2 (hI : InvC (arg2.view.read (Elt F) f2) (arg3.view.read (Elt F) f3) (arg4.view.read (Elt F) f4) (2 * k.val) (arg12.view.read (Elt F) f12) (arg13.view.read (Elt F) f13) (arg14.view.read (Elt F) f14) (arg16.view.read (Elt F) f16) 1 0) :
    mP (arg17.view.readCov (trip0.sl.H17_4 c i arg2 arg3 k f2 f3) (Rect.unit (s := S4x1x512) ![2, 0, 0] S1x1x512.size (by decide)).toLoadRect) (arg12.view.readCov (trip0.sl.H12_6 c i arg2 arg3 arg12 arg16 arg17 k f2 f3 f12 f16) (Rect.unit (s := S2x1x1024) ![1, 0, 0] S1x1x512.size (by decide)).toLoadRect) = mSt (arg2.view.read (Elt F) f2) (arg3.view.read (Elt F) f3) 1 0 (2 * k.val + 2) ∧
    accP (arg15.view.readCov (trip0.sl.H15_4 c i arg2 arg3 k f2 f3) (Rect.unit (s := S4x512x512) ![2, 0, 0] S1x512x512.size (by decide)).toLoadRect) (arg17.view.readCov (trip0.sl.H17_4 c i arg2 arg3 k f2 f3) (Rect.unit (s := S4x1x512) ![2, 0, 0] S1x1x512.size (by decide)).toLoadRect) (arg12.view.readCov (trip0.sl.H12_6 c i arg2 arg3 arg12 arg16 arg17 k f2 f3 f12 f16) (Rect.unit (s := S2x1x1024) ![1, 0, 0] S1x1x512.size (by decide)).toLoadRect) (View.readAt (Elt F) arg4.view (Rect.unit (s := S2x32x144x256) (k0_off8 i k 0#32) S1x1x144x256.size (k0_off8_inb i k 0)).toLoadRect f4) (View.readAt (Elt F) arg4.view (Rect.unit (s := S2x32x144x256) (k0_off8 i k 1#32) S1x1x144x256.size (k0_off8_inb i k 1)).toLoadRect f4) (arg13.view.readCov (trip0.sl.H13_6 c i arg2 arg3 arg4 arg12 arg13 arg14 arg15 arg16 arg17 k f2 f3 f4 f12 f13 f14 f16) (Rect.unit (s := S2x144x1024) ![1, 0, 0] S1x144x512.size (by decide)).toLoadRect) = accSt (arg2.view.read (Elt F) f2) (arg3.view.read (Elt F) f3) (arg4.view.read (Elt F) f4) 1 0 (2 * k.val + 2) ∧
    saP (View.readAt (Elt F) arg3.view (Rect.unit (s := S2x8192x256) (k0_off7 i k) S1x512x256.size (k0_off7_inb i k)).toLoadRect f3) (View.readAt (Elt F) arg2.view (Rect.unit (s := S2x256x1024) ![1, 0, 0] S1x256x512.size (by decide)).toLoadRect f2) = saC (arg2.view.read (Elt F) f2) (arg3.view.read (Elt F) f3) 1 0 (2 * k.val + 2) ∧ maP (View.readAt (Elt F) arg3.view (Rect.unit (s := S2x8192x256) (k0_off7 i k) S1x512x256.size (k0_off7_inb i k)).toLoadRect f3) (View.readAt (Elt F) arg2.view (Rect.unit (s := S2x256x1024) ![1, 0, 0] S1x256x512.size (by decide)).toLoadRect f2) = maC (arg2.view.read (Elt F) f2) (arg3.view.read (Elt F) f3) 1 0 (2 * k.val + 2) := by
  obtain ⟨hm, ha, hs, hx⟩ := hI
  have e1 : arg12.view.readCov (trip0.sl.H12_6 c i arg2 arg3 arg12 arg16 arg17 k f2 f3 f12 f16) (Rect.unit (s := S2x1x1024) ![1, 0, 0] S1x1x512.size (by decide)).toLoadRect = mSt (arg2.view.read (Elt F) f2) (arg3.view.read (Elt F) f3) 1 0 (2 * k.val + 1) :=
    covM2.trans (mP_congr (maL2.trans hx) (mL2.trans hm))
  have e2 : arg15.view.readCov (trip0.sl.H15_4 c i arg2 arg3 k f2 f3) (Rect.unit (s := S4x512x512) ![2, 0, 0] S1x512x512.size (by decide)).toLoadRect = saC (arg2.view.read (Elt F) f2) (arg3.view.read (Elt F) f3) 1 0 (2 * k.val + 1) := covSa2.trans (saP_congr kL10 qL2)
  have e3 : arg17.view.readCov (trip0.sl.H17_4 c i arg2 arg3 k f2 f3) (Rect.unit (s := S4x1x512) ![2, 0, 0] S1x1x512.size (by decide)).toLoadRect = maC (arg2.view.read (Elt F) f2) (arg3.view.read (Elt F) f3) 1 0 (2 * k.val + 1) := covMa2.trans (maP_congr kL10 qL2)
  have e4 : arg13.view.readCov (trip0.sl.H13_6 c i arg2 arg3 arg4 arg12 arg13 arg14 arg15 arg16 arg17 k f2 f3 f4 f12 f13 f14 f16) (Rect.unit (s := S2x144x1024) ![1, 0, 0] S1x144x512.size (by decide)).toLoadRect = accSt (arg2.view.read (Elt F) f2) (arg3.view.read (Elt F) f3) (arg4.view.read (Elt F) f4) 1 0 (2 * k.val + 1) :=
    covAcc2.trans (accP_congr (saL2.trans hs) (maL2.trans hx) (mL2.trans hm) vL100 vL101 (accL2.trans ha))
  exact ⟨mP_congr e3 e1, accP_congr e2 e3 e1 vL110 vL111 e4, saP_congr kL11 qL2, maP_congr kL11 qL2⟩
/-- The queries of one chain, as loaded. -/
theorem qL3 : (View.readAt (Elt F) arg2.view (Rect.unit (s := S2x256x1024) ![1, 0, 512] S1x256x512.size (by decide)).toLoadRect f2) = qW (arg2.view.read (Elt F) f2) 1 1 := View.readAt_unit _ _ _ (by decide) _
theorem mL3 : (View.readAt (Elt F) arg12.view (Rect.unit (s := S2x1x1024) ![1, 0, 512] S1x1x512.size (by decide)).toLoadRect f12) = mW (arg12.view.read (Elt F) f12) 1 1 := View.readAt_unit _ _ _ (by decide) _
theorem accL3 : (View.readAt (Elt F) arg13.view (Rect.unit (s := S2x144x1024) ![1, 0, 512] S1x144x512.size (by decide)).toLoadRect f13) = accW (arg13.view.read (Elt F) f13) 1 1 := View.readAt_unit _ _ _ (by decide) _
theorem saL3 : (View.readAt (Elt F) arg14.view (Rect.unit (s := S4x512x512) ![3, 0, 0] S1x512x512.size (by decide)).toLoadRect f14) = saW (arg14.view.read (Elt F) f14) 1 1 := View.readAt_unit _ _ _ (by decide) _
theorem maL3 : (View.readAt (Elt F) arg16.view (Rect.unit (s := S4x1x512) ![3, 0, 0] S1x1x512.size (by decide)).toLoadRect f16) = maW (arg16.view.read (Elt F) f16) 1 1 := View.readAt_unit _ _ _ (by decide) _
/-- The scores the first half of the trip leaves for the second. -/
theorem covSa3 : arg15.view.readCov (trip0.sl.H15_4 c i arg2 arg3 k f2 f3) (Rect.unit (s := S4x512x512) ![3, 0, 0] S1x512x512.size (by decide)).toLoadRect = saP (View.readAt (Elt F) arg3.view (Rect.unit (s := S2x8192x256) (k0_off3 i k) S1x512x256.size (k0_off3_inb i k)).toLoadRect f3) (View.readAt (Elt F) arg2.view (Rect.unit (s := S2x256x1024) ![1, 0, 512] S1x256x512.size (by decide)).toLoadRect f2) := by
  refine (sa_cov3 _ _ _ _ ).trans ?_
  rfl
/-- Their maxima. -/
theorem covMa3 : arg17.view.readCov (trip0.sl.H17_4 c i arg2 arg3 k f2 f3) (Rect.unit (s := S4x1x512) ![3, 0, 0] S1x1x512.size (by decide)).toLoadRect = maP (View.readAt (Elt F) arg3.view (Rect.unit (s := S2x8192x256) (k0_off3 i k) S1x512x256.size (k0_off3_inb i k)).toLoadRect f3) (View.readAt (Elt F) arg2.view (Rect.unit (s := S2x256x1024) ![1, 0, 512] S1x256x512.size (by decide)).toLoadRect f2) := by
  refine (ma_cov3 _ _ _ _ ).trans ?_
  rfl
/-- The running maximum after the first half. -/
theorem covM3 : arg12.view.readCov (trip0.sl.H12_7 c i arg2 arg3 arg12 arg16 arg17 k f2 f3 f12 f16) (Rect.unit (s := S2x1x1024) ![1, 0, 512] S1x1x512.size (by decide)).toLoadRect = mP (View.readAt (Elt F) arg16.view (Rect.unit (s := S4x1x512) ![3, 0, 0] S1x1x512.size (by decide)).toLoadRect f16) (View.readAt (Elt F) arg12.view (Rect.unit (s := S2x1x1024) ![1, 0, 512] S1x1x512.size (by decide)).toLoadRect f12) := by
  refine (m_cov3 _ _ _ _ _ _ _ _ _ _ ).trans ?_
  rfl
/-- The sums after the first half. -/
theorem covAcc3 : arg13.view.readCov (trip0.sl.H13_7 c i arg2 arg3 arg4 arg12 arg13 arg14 arg15 arg16 arg17 k f2 f3 f4 f12 f13 f14 f16) (Rect.unit (s := S2x144x1024) ![1, 0, 512] S1x144x512.size (by decide)).toLoadRect = accP (View.readAt (Elt F) arg14.view (Rect.unit (s := S4x512x512) ![3, 0, 0] S1x512x512.size (by decide)).toLoadRect f14) (View.readAt (Elt F) arg16.view (Rect.unit (s := S4x1x512) ![3, 0, 0] S1x1x512.size (by decide)).toLoadRect f16) (View.readAt (Elt F) arg12.view (Rect.unit (s := S2x1x1024) ![1, 0, 512] S1x1x512.size (by decide)).toLoadRect f12) (View.readAt (Elt F) arg4.view (Rect.unit (s := S2x32x144x256) (k0_off4 i k 0#32) S1x1x144x256.size (k0_off4_inb i k 0)).toLoadRect f4) (View.readAt (Elt F) arg4.view (Rect.unit (s := S2x32x144x256) (k0_off4 i k 1#32) S1x1x144x256.size (k0_off4_inb i k 1)).toLoadRect f4) (View.readAt (Elt F) arg13.view (Rect.unit (s := S2x144x1024) ![1, 0, 512] S1x144x512.size (by decide)).toLoadRect f13) := by
  refine (acc_cov3 _ _ _ _ _ _ _ _ _ _ ).trans ?_
  rfl
/-- One chain's state after the trip. -/
theorem chain3 (hI : InvC (arg2.view.read (Elt F) f2) (arg3.view.read (Elt F) f3) (arg4.view.read (Elt F) f4) (2 * k.val) (arg12.view.read (Elt F) f12) (arg13.view.read (Elt F) f13) (arg14.view.read (Elt F) f14) (arg16.view.read (Elt F) f16) 1 1) :
    mP (arg17.view.readCov (trip0.sl.H17_4 c i arg2 arg3 k f2 f3) (Rect.unit (s := S4x1x512) ![3, 0, 0] S1x1x512.size (by decide)).toLoadRect) (arg12.view.readCov (trip0.sl.H12_7 c i arg2 arg3 arg12 arg16 arg17 k f2 f3 f12 f16) (Rect.unit (s := S2x1x1024) ![1, 0, 512] S1x1x512.size (by decide)).toLoadRect) = mSt (arg2.view.read (Elt F) f2) (arg3.view.read (Elt F) f3) 1 1 (2 * k.val + 2) ∧
    accP (arg15.view.readCov (trip0.sl.H15_4 c i arg2 arg3 k f2 f3) (Rect.unit (s := S4x512x512) ![3, 0, 0] S1x512x512.size (by decide)).toLoadRect) (arg17.view.readCov (trip0.sl.H17_4 c i arg2 arg3 k f2 f3) (Rect.unit (s := S4x1x512) ![3, 0, 0] S1x1x512.size (by decide)).toLoadRect) (arg12.view.readCov (trip0.sl.H12_7 c i arg2 arg3 arg12 arg16 arg17 k f2 f3 f12 f16) (Rect.unit (s := S2x1x1024) ![1, 0, 512] S1x1x512.size (by decide)).toLoadRect) (View.readAt (Elt F) arg4.view (Rect.unit (s := S2x32x144x256) (k0_off8 i k 0#32) S1x1x144x256.size (k0_off8_inb i k 0)).toLoadRect f4) (View.readAt (Elt F) arg4.view (Rect.unit (s := S2x32x144x256) (k0_off8 i k 1#32) S1x1x144x256.size (k0_off8_inb i k 1)).toLoadRect f4) (arg13.view.readCov (trip0.sl.H13_7 c i arg2 arg3 arg4 arg12 arg13 arg14 arg15 arg16 arg17 k f2 f3 f4 f12 f13 f14 f16) (Rect.unit (s := S2x144x1024) ![1, 0, 512] S1x144x512.size (by decide)).toLoadRect) = accSt (arg2.view.read (Elt F) f2) (arg3.view.read (Elt F) f3) (arg4.view.read (Elt F) f4) 1 1 (2 * k.val + 2) ∧
    saP (View.readAt (Elt F) arg3.view (Rect.unit (s := S2x8192x256) (k0_off7 i k) S1x512x256.size (k0_off7_inb i k)).toLoadRect f3) (View.readAt (Elt F) arg2.view (Rect.unit (s := S2x256x1024) ![1, 0, 512] S1x256x512.size (by decide)).toLoadRect f2) = saC (arg2.view.read (Elt F) f2) (arg3.view.read (Elt F) f3) 1 1 (2 * k.val + 2) ∧ maP (View.readAt (Elt F) arg3.view (Rect.unit (s := S2x8192x256) (k0_off7 i k) S1x512x256.size (k0_off7_inb i k)).toLoadRect f3) (View.readAt (Elt F) arg2.view (Rect.unit (s := S2x256x1024) ![1, 0, 512] S1x256x512.size (by decide)).toLoadRect f2) = maC (arg2.view.read (Elt F) f2) (arg3.view.read (Elt F) f3) 1 1 (2 * k.val + 2) := by
  obtain ⟨hm, ha, hs, hx⟩ := hI
  have e1 : arg12.view.readCov (trip0.sl.H12_7 c i arg2 arg3 arg12 arg16 arg17 k f2 f3 f12 f16) (Rect.unit (s := S2x1x1024) ![1, 0, 512] S1x1x512.size (by decide)).toLoadRect = mSt (arg2.view.read (Elt F) f2) (arg3.view.read (Elt F) f3) 1 1 (2 * k.val + 1) :=
    covM3.trans (mP_congr (maL3.trans hx) (mL3.trans hm))
  have e2 : arg15.view.readCov (trip0.sl.H15_4 c i arg2 arg3 k f2 f3) (Rect.unit (s := S4x512x512) ![3, 0, 0] S1x512x512.size (by decide)).toLoadRect = saC (arg2.view.read (Elt F) f2) (arg3.view.read (Elt F) f3) 1 1 (2 * k.val + 1) := covSa3.trans (saP_congr kL10 qL3)
  have e3 : arg17.view.readCov (trip0.sl.H17_4 c i arg2 arg3 k f2 f3) (Rect.unit (s := S4x1x512) ![3, 0, 0] S1x1x512.size (by decide)).toLoadRect = maC (arg2.view.read (Elt F) f2) (arg3.view.read (Elt F) f3) 1 1 (2 * k.val + 1) := covMa3.trans (maP_congr kL10 qL3)
  have e4 : arg13.view.readCov (trip0.sl.H13_7 c i arg2 arg3 arg4 arg12 arg13 arg14 arg15 arg16 arg17 k f2 f3 f4 f12 f13 f14 f16) (Rect.unit (s := S2x144x1024) ![1, 0, 512] S1x144x512.size (by decide)).toLoadRect = accSt (arg2.view.read (Elt F) f2) (arg3.view.read (Elt F) f3) (arg4.view.read (Elt F) f4) 1 1 (2 * k.val + 1) :=
    covAcc3.trans (accP_congr (saL3.trans hs) (maL3.trans hx) (mL3.trans hm) vL100 vL101 (accL3.trans ha))
  exact ⟨mP_congr e3 e1, accP_congr e2 e3 e1 vL110 vL111 e4, saP_congr kL11 qL3, maP_congr kL11 qL3⟩

end Cert.Proof.KernelIdeal

end
-- ==== Proof.Loop.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.Trip

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state of all four chains before block `kb`. -/
def Inv (x0 : Vec F S2x256x1024 .bf16) (x1 : Vec F S2x8192x256 .bf16) (x2 : Vec F S2x32x144x256 .bf16) (kb : ℕ)
    (y12 : Vec F S2x1x1024 .f32) (y13 : Vec F S2x144x1024 .f32) (y14 : Vec F S4x512x512 .f32) (y16 : Vec F S4x1x512 .f32) : Prop :=
  InvC x0 x1 x2 kb y12 y13 y14 y16 0 0 ∧ InvC x0 x1 x2 kb y12 y13 y14 y16 0 1 ∧ InvC x0 x1 x2 kb y12 y13 y14 y16 1 0 ∧ InvC x0 x1 x2 kb y12 y13 y14 y16 1 1

/-- The state of the four chains, from the windows' contents. -/
theorem inv_of {x0 : Vec F S2x256x1024 .bf16} {x1 : Vec F S2x8192x256 .bf16} {x2 : Vec F S2x32x144x256 .bf16} {kb : ℕ}
    {y12 : Vec F S2x1x1024 .f32} {y13 : Vec F S2x144x1024 .f32} {y14 : Vec F S4x512x512 .f32} {y16 : Vec F S4x1x512 .f32}
    {m0 m1 m2 m3 : Vec F S1x1x512 .f32}
    {acc0 acc1 acc2 acc3 : Vec F S1x144x512 .f32}
    {sa0 sa1 sa2 sa3 : Vec F S1x512x512 .f32}
    {ma0 ma1 ma2 ma3 : Vec F S1x1x512 .f32}
    (hm : mW y12 0 0 = m0 ∧ mW y12 0 1 = m1 ∧ mW y12 1 0 = m2 ∧ mW y12 1 1 = m3)
    (hacc : accW y13 0 0 = acc0 ∧ accW y13 0 1 = acc1 ∧ accW y13 1 0 = acc2 ∧ accW y13 1 1 = acc3)
    (hsa : saW y14 0 0 = sa0 ∧ saW y14 0 1 = sa1 ∧ saW y14 1 0 = sa2 ∧ saW y14 1 1 = sa3)
    (hma : maW y16 0 0 = ma0 ∧ maW y16 0 1 = ma1 ∧ maW y16 1 0 = ma2 ∧ maW y16 1 1 = ma3)
    (c0 : m0 = mSt x0 x1 0 0 kb ∧ acc0 = accSt x0 x1 x2 0 0 kb ∧ sa0 = saC x0 x1 0 0 kb ∧ ma0 = maC x0 x1 0 0 kb)
    (c1 : m1 = mSt x0 x1 0 1 kb ∧ acc1 = accSt x0 x1 x2 0 1 kb ∧ sa1 = saC x0 x1 0 1 kb ∧ ma1 = maC x0 x1 0 1 kb)
    (c2 : m2 = mSt x0 x1 1 0 kb ∧ acc2 = accSt x0 x1 x2 1 0 kb ∧ sa2 = saC x0 x1 1 0 kb ∧ ma2 = maC x0 x1 1 0 kb)
    (c3 : m3 = mSt x0 x1 1 1 kb ∧ acc3 = accSt x0 x1 x2 1 1 kb ∧ sa3 = saC x0 x1 1 1 kb ∧ ma3 = maC x0 x1 1 1 kb)
    : Inv x0 x1 x2 kb y12 y13 y14 y16 :=
  ⟨⟨hm.1.trans c0.1, hacc.1.trans c0.2.1, hsa.1.trans c0.2.2.1, hma.1.trans c0.2.2.2⟩, ⟨hm.2.1.trans c1.1, hacc.2.1.trans c1.2.1, hsa.2.1.trans c1.2.2.1, hma.2.1.trans c1.2.2.2⟩, ⟨hm.2.2.1.trans c2.1, hacc.2.2.1.trans c2.2.1, hsa.2.2.1.trans c2.2.2.1, hma.2.2.1.trans c2.2.2.2⟩, ⟨hm.2.2.2.trans c3.1, hacc.2.2.2.trans c3.2.1, hsa.2.2.2.trans c3.2.2.1, hma.2.2.2.trans c3.2.2.2⟩⟩

/-- One trip of the loop over the blocks of keys: two blocks further in every chain. -/
theorem trip (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (arg1 v17 v18 : BitVec 32) (v52 : FVec F S512x512 .f32) (k : Fin (k0_t1_loop i).trips) (f2 : Bf (F := F) c arg2) (f3 : Bf (F := F) c arg3) (f4 : Bf (F := F) c arg4) (f12 : Bf (F := F) c arg12) (f13 : Bf (F := F) c arg13) (f14 : Bf (F := F) c arg14) (f15 : Bf (F := F) c arg15) (f16 : Bf (F := F) c arg16) (f17 : Bf (F := F) c arg17) :
    iprop(pt c arg2 f2 ∗ pt c arg3 f3 ∗ pt c arg4 f4 ∗ pt c arg12 f12 ∗ pt c arg13 f13 ∗ pt c arg14 f14 ∗ pt c arg15 f15 ∗ pt c arg16 f16 ∗ pt c arg17 f17)
   ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v17 v18 v52 k ())
     (fun _ => iprop(pt c arg2 f2 ∗ pt c arg3 f3 ∗ pt c arg4 f4 ∗ (∃ g12 g13 g14 g16, pt c arg12 g12 ∗ pt c arg13 g13 ∗ pt c arg14 g14 ∗ pt c arg16 g16 ∗ ⌜Inv (arg2.view.read (Elt F) f2) (arg3.view.read (Elt F) f3) (arg4.view.read (Elt F) f4) (2 * k.val) (arg12.view.read (Elt F) f12) (arg13.view.read (Elt F) f13) (arg14.view.read (Elt F) f14) (arg16.view.read (Elt F) f16) → Inv (arg2.view.read (Elt F) f2) (arg3.view.read (Elt F) f3) (arg4.view.read (Elt F) f4) (2 * k.val + 2) (arg12.view.read (Elt F) g12) (arg13.view.read (Elt F) g13) (arg14.view.read (Elt F) g14) (arg16.view.read (Elt F) g16)⌝) ∗ (∃ g15, pt c arg15 g15) ∗ (∃ g17, pt c arg17 g17))) := by
  unfold Gen.k0_t1_body
  iintro ⟨H2, H3, H4, H12, H13, H14, H15, H16, H17⟩
  sl_exec_parts
  sl_step
  isplitl [H2]; · iexact H2
  isplitl [H3]; · iexact H3
  isplitl [H4]; · iexact H4
  isplitl [H12 H13 H14 H16]
  · iexists _; iexists _; iexists _; iexists _
    isplitl [H12]; · iexact H12
    isplitl [H13]; · iexact H13
    isplitl [H14]; · iexact H14
    isplitl [H16]; · iexact H16
    ipureintro
    intro hI
    have e0 := chain0 (arg15 := arg15) (arg17 := arg17) hI.1
    have e1 := chain1 (arg15 := arg15) (arg17 := arg17) hI.2.1
    have e2 := chain2 (arg15 := arg15) (arg17 := arg17) hI.2.2.1
    have e3 := chain3 (arg15 := arg15) (arg17 := arg17) hI.2.2.2
    refine inv_of (m_fin _ _ _ _ _ _ _ _ _ _ _) (acc_fin _ _ _ _ _ _ _ _ _ _ _) (sa_fin _ _ _ _ _ _ _ _ _ _ _) (ma_fin _ _ _ _ _ _ _ _ _ _ _) ?_ ?_ ?_ ?_
    · exact e0
    · exact e1
    · exact e2
    · exact e3
  isplitl [H15]; · iexists _; iexact H15
  iexists _; iexact H17

/-- The loop over the blocks of keys, two a trip. -/
noncomputable def loopInv_k0_t1 (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (f2 : Bf (F := F) c arg2) (f3 : Bf (F := F) c arg3) (f4 : Bf (F := F) c arg4) :
    Cert.KernelIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 0#32 0#32 (constant S512x512 .f32 0x00000000#32) where
  inv := fun k _ => iprop(pt c arg2 f2 ∗ pt c arg3 f3 ∗ pt c arg4 f4 ∗ (∃ g12 g13 g14 g16, pt c arg12 g12 ∗ pt c arg13 g13 ∗ pt c arg14 g14 ∗ pt c arg16 g16 ∗ ⌜Inv (arg2.view.read (Elt F) f2) (arg3.view.read (Elt F) f3) (arg4.view.read (Elt F) f4) (2 * k) (arg12.view.read (Elt F) g12) (arg13.view.read (Elt F) g13) (arg14.view.read (Elt F) g14) (arg16.view.read (Elt F) g16)⌝) ∗ (∃ g15, pt c arg15 g15) ∗ (∃ g17, pt c arg17 g17))
  step := fun k _ => by
    iintro ⟨H2, H3, H4, ⟨%g12, %g13, %g14, %g16, H12, H13, H14, H16, %hR⟩, ⟨%g15, H15⟩, ⟨%g17, H17⟩⟩
    iapply wp_wand $$ [H2 H3 H4 H12 H13 H14 H15 H16 H17]
    · iapply trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 0#32 0#32 (constant S512x512 .f32 0x00000000#32) k f2 f3 f4 g12 g13 g14 g15 g16 g17
      isplitl [H2]; · iexact H2
      isplitl [H3]; · iexact H3
      isplitl [H4]; · iexact H4
      isplitl [H12]; · iexact H12
      isplitl [H13]; · iexact H13
      isplitl [H14]; · iexact H14
      isplitl [H15]; · iexact H15
      isplitl [H16]; · iexact H16
      iexact H17
    iintro %u ⟨H2, H3, H4, ⟨%g12, %g13, %g14, %g16, H12, H13, H14, H16, %hS⟩, ⟨%g15, H15⟩, ⟨%g17, H17⟩⟩
    isplitl [H2]; · iexact H2
    isplitl [H3]; · iexact H3
    isplitl [H4]; · iexact H4
    isplitl [H12 H13 H14 H16]
    · iexists _; iexists _; iexists _; iexists _
      isplitl [H12]; · iexact H12
      isplitl [H13]; · iexact H13
      isplitl [H14]; · iexact H14
      isplitl [H16]; · iexact H16
      ipureintro
      exact hS hR
    isplitl [H15]; · iexists _; iexact H15
    iexists _; iexact H17

end Cert.Proof.KernelIdeal

end
-- ==== Proof.Body0.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.Loop

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option pp.maxSteps 300 in
/-- The whole body runs, its buffers held whole. -/
theorem body0 (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17)
    (hE : ∀ (g12 : Bf (F := F) c arg12) (g13 : Bf (F := F) c arg13) (g14 : Bf (F := F) c arg14) (g16 : Bf (F := F) c arg16), Inv (arg2.view.read (Elt F) f2) (arg3.view.read (Elt F) f3) (arg4.view.read (Elt F) f4) (2 * 0) (arg12.view.read (Elt F) g12) (arg13.view.read (Elt F) g13) (arg14.view.read (Elt F) g14) (arg16.view.read (Elt F) g16)) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17)
   ⊢ wp Idealize.ShloMosaic.frame (wpE (defs₀ (F := F)) Variants.none (c : Thread nD τ) none) Set.univ (cc0_mla_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
     (fun _ => iprop((∃ g2, pt c arg2 g2) ∗ (∃ g3, pt c arg3 g3) ∗ (∃ g4, pt c arg4 g4) ∗ (∃ g5, pt c arg5 g5) ∗ (∃ g6, pt c arg6 g6) ∗ (∃ g7, pt c arg7 g7) ∗ (∃ g8, pt c arg8 g8) ∗ (∃ g9, pt c arg9 g9) ∗ (∃ g10, pt c arg10 g10) ∗ (∃ g11, pt c arg11 g11) ∗ (∃ g12, pt c arg12 g12) ∗ (∃ g13, pt c arg13 g13) ∗ (∃ g14, pt c arg14 g14) ∗ (∃ g15, pt c arg15 g15) ∗ (∃ g16, pt c arg16 g16) ∗ (∃ g17, pt c arg17 g17))) := by
  have h2 : (k0_t2_loop i).trips = 0 := Nat.le_zero.mp (k0_t2_abs i).2.1
  unfold cc0_mla_skel
  iintro ⟨H2, H3, H4, H5, H6, H7, H8, H9, H10, H11, H12, H13, H14, H15, H16, H17⟩
  sl_exec_parts
  ihave HI : iprop((∃ g12 g13 g14 g16, pt c arg12 g12 ∗ pt c arg13 g13 ∗ pt c arg14 g14 ∗ pt c arg16 g16 ∗ ⌜Inv (arg2.view.read (Elt F) f2) (arg3.view.read (Elt F) f3) (arg4.view.read (Elt F) f4) (2 * 0) (arg12.view.read (Elt F) g12) (arg13.view.read (Elt F) g13) (arg14.view.read (Elt F) g14) (arg16.view.read (Elt F) g16)⌝)) $$ [H12 H13 H14 H16]
  · iexists _; iexists _; iexists _; iexists _
    isplitl [H12]; · iexact H12
    isplitl [H13]; · iexact H13
    isplitl [H14]; · iexact H14
    isplitl [H16]; · iexact H16
    ipureintro
    exact hE _ _ _ _
  icases HI with ⟨%g12, %g13, %g14, %g16, H12, H13, H14, H16, %hI⟩
  let L := loopInv_k0_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4
  sl_exec_parts
  sl_step
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Proof.KernelIdeal

end
-- ==== Proof.End.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.Body0
public import Idealize.ShloMosaic.Lib.Pointwise

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The running maximum after the block on the diagonal, whose scores beyond the query are masked. -/
abbrev mD (sa : Vec F S1x512x512 .f32) (m : Vec F S1x1x512 .f32) : FVec F S1x1x512 .f32 := k0_pay218 (k0_pay212 sa m)
/-- The weighted sums after the block on the diagonal. -/
abbrev accD (sa : Vec F S1x512x512 .f32) (m : Vec F S1x1x512 .f32) (v0 v1 : Vec F S1x1x144x256 .bf16) (acc : Vec F S1x144x512 .f32) :
    FVec F S1x144x512 .f32 :=
  k0_pay217 (k0_pay213 sa m) (k0_pay215 sa m v0) (k0_pay216 sa m v1) acc
theorem accD_congr {sa sa' : Vec F S1x512x512 .f32} {m m' : Vec F S1x1x512 .f32} {v0 v0' v1 v1' : Vec F S1x1x144x256 .bf16}
    {acc acc' : Vec F S1x144x512 .f32} (h1 : sa = sa') (h3 : m = m') (h4 : v0 = v0') (h5 : v1 = v1') (h6 : acc = acc') :
    accD sa m v0 v1 acc = accD sa' m' v0' v1' acc' := by
  rw [h1, h3, h4, h5, h6]
/-- The weighted sums of chain `(h, u)` at the end: `nb` whole blocks, then the one on the diagonal. -/
def accF (x0 : Vec F S2x256x1024 .bf16) (x1 : Vec F S2x8192x256 .bf16) (x2 : Vec F S2x32x144x256 .bf16) (h u : Fin 2) (nb : ℕ) : Vec F S1x144x512 .f32 :=
  accD (saC x0 x1 h u nb) (mSt x0 x1 h u nb) (vW x2 h (Fin.ofNat 32 (2 * nb))) (vW x2 h (Fin.ofNat 32 (2 * nb + 1))) (accSt x0 x1 x2 h u nb)
/-- All the sums of a grid point whose tile of queries is the `t`-th. -/
def accAll (x0 : Vec F S2x256x1024 .bf16) (x1 : Vec F S2x8192x256 .bf16) (x2 : Vec F S2x32x144x256 .bf16) (t : ℕ) : Vec F S2x144x1024 .f32 := fun j =>
  accF x0 x1 x2 (j 0) ⟨(j 2).val / 512, by have h : (j 2).val < 1024 := (j 2).isLt; omega⟩ (2 * t + (j 2).val / 512)
    (ix3 (0 : Fin 1) (j 1) ⟨(j 2).val % 512, by omega⟩)
theorem out_inb (h : Fin 2) : ∀ a, (![h.val, 0, 0] : Fin 3 → ℕ) a + S1x128x1024.size a ≤ S2x144x1024.size a := by revert h; decide
theorem den_inb (h : Fin 2) : ∀ a, (![h.val, 128, 0] : Fin 3 → ℕ) a + S1x1x1024.size a ≤ S2x144x1024.size a := by revert h; decide
/-- One head's output from the sums: each over the sum of its weights, queries along the rows. -/
def outH (y : Vec F S2x144x1024 .f32) (h : Fin 2) : Vec F S1024x128 .f32 :=
  k0_pay1 (VecWindow.window y ![h.val, 0, 0] S1x128x1024.size (out_inb h)) (VecWindow.window y ![h.val, 128, 0] S1x1x1024.size (den_inb h))
/-- What a grid point leaves in its block of the output: the two heads side by side. -/
def outMla (x0 : Vec F S2x256x1024 .bf16) (x1 : Vec F S2x8192x256 .bf16) (x2 : Vec F S2x32x144x256 .bf16) (t : ℕ) : Vec F S1024x256 .f32 := fun j =>
  outH (accAll x0 x1 x2 t) ⟨(j 1).val / 128, by have h : (j 1).val < 256 := (j 1).isLt; omega⟩ (ix2 (j 0) ⟨(j 1).val % 128, by omega⟩)

/-- The sums are what their four windows are. -/
theorem acc_ext {x0 : Vec F S2x256x1024 .bf16} {x1 : Vec F S2x8192x256 .bf16} {x2 : Vec F S2x32x144x256 .bf16} {t : ℕ} {y : Vec F S2x144x1024 .f32}
    (hy : ∀ h u : Fin 2, accW y h u = accF x0 x1 x2 h u (2 * t + u.val)) : y = accAll x0 x1 x2 t := by
  funext j
  have hj : (j 2).val < 1024 := (j 2).isLt
  have e := congrFun (hy (j 0) ⟨(j 2).val / 512, by omega⟩) (ix3 (0 : Fin 1) (j 1) ⟨(j 2).val % 512, by omega⟩)
  refine Eq.trans ?_ e
  refine congrArg y (funext fun a => Fin.ext ?_)
  match a with
  | ⟨0, _⟩ => show (j 0).val = (j 0).val + 1 * 0; omega
  | ⟨1, _⟩ => show (j 1).val = 0 + 1 * (j 1).val; omega
  | ⟨2, _⟩ => show (j 2).val = 512 * ((j 2).val / 512) + 1 * ((j 2).val % 512); omega
theorem o_inb (h : Fin 2) : ∀ a, (![0, 128 * h.val] : Fin 2 → ℕ) a + S1024x128.size a ≤ S1024x256.size a := by revert h; decide
/-- The output block is what its two halves are. -/
theorem out_ext {x0 : Vec F S2x256x1024 .bf16} {x1 : Vec F S2x8192x256 .bf16} {x2 : Vec F S2x32x144x256 .bf16} {t : ℕ} {y : Vec F S1024x256 .f32}
    (hy : ∀ h : Fin 2, VecWindow.window y ![0, 128 * h.val] S1024x128.size (o_inb h) = outH (accAll x0 x1 x2 t) h) : y = outMla x0 x1 x2 t := by
  funext j
  have hj : (j 1).val < 256 := (j 1).isLt
  have e := congrFun (hy ⟨(j 1).val / 128, by omega⟩) (ix2 (j 0) ⟨(j 1).val % 128, by omega⟩)
  refine Eq.trans ?_ e
  refine congrArg y (funext fun a => Fin.ext ?_)
  match a with
  | ⟨0, _⟩ => show (j 0).val = 0 + 1 * (j 0).val; omega
  | ⟨1, _⟩ => show (j 1).val = 128 * ((j 1).val / 128) + 1 * ((j 1).val % 128); omega

/-- The loop over pairs of blocks makes as many trips as there are tiles of queries before this one. -/
theorem trips_eq : ∀ i : grid0.Coords, (k0_t1_loop i).trips = (i 1).val := by decide +kernel
theorem tile_lt : ∀ i : grid0.Coords, (i 1).val < 8 := by decide +kernel
variable {c : Dev nD} {i : grid0.Coords} {arg2 : Memref sig .tc .vmem S2x256x1024 .bf16} {arg3 : Memref sig .tc .vmem S2x8192x256 .bf16} {arg4 : Memref sig .tc .vmem S2x32x144x256 .bf16} {arg5 : Memref sig .tc .vmem S64x5632 .f32} {arg6 : Memref sig .tc .vmem S64x5632 .f32} {arg7 : Memref sig .tc .vmem S176x2048 .f32} {arg8 : Memref sig .tc .vmem S1024x256 .f32} {arg9 : Memref sig .tc .vmem S64x5632 .bf16} {arg10 : Memref sig .tc .vmem S64x5632 .bf16} {arg11 : Memref sig .tc .vmem S176x2048 .bf16} {arg12 : Memref sig .tc .vmem S2x1x1024 .f32} {arg13 : Memref sig .tc .vmem S2x144x1024 .f32} {arg14 : Memref sig .tc .vmem S4x512x512 .f32} {arg15 : Memref sig .tc .vmem S4x512x512 .f32} {arg16 : Memref sig .tc .vmem S4x1x512 .f32} {arg17 : Memref sig .tc .vmem S4x1x512 .f32} {f2 : Bf (F := F) c arg2} {f3 : Bf (F := F) c arg3} {f4 : Bf (F := F) c arg4} {g8 : Bf (F := F) c arg8} {g12 : Bf (F := F) c arg12} {g13 : Bf (F := F) c arg13} {g14 : Bf (F := F) c arg14} {g16 : Bf (F := F) c arg16}
/-- The keys of the second block on the diagonal, as loaded. -/
theorem kE0 : (View.readAt (Elt F) arg3.view (Rect.unit (s := S2x8192x256) (k0_off17 i) S1x512x256.size (k0_off17_inb i)).toLoadRect f3) = kW (arg3.view.read (Elt F) f3) 0 (Fin.ofNat 16 (2 * (i 1).val + 1)) :=
  have hk : (i 1).val < 8 := tile_lt i
  View.readAt_unit _ _ _ (by rw [k0_off17_eq]; funext a; fin_cases a <;> simp <;> omega) _
/-- The keys of the first block, as loaded. -/
theorem kZ0 : (View.readAt (Elt F) arg3.view (Rect.unit (s := S2x8192x256) ![0, 0, 0] S1x512x256.size (by decide)).toLoadRect f3) = kW (arg3.view.read (Elt F) f3) 0 (Fin.ofNat 16 (2 * 0)) := View.readAt_unit _ _ _ (by decide) _
/-- A chunk of values of a block on the diagonal, as loaded. -/
theorem vE000 : (View.readAt (Elt F) arg4.view (Rect.unit (s := S2x32x144x256) (k0_off19 i 0#32) S1x1x144x256.size (k0_off19_inb i 0)).toLoadRect f4) = vW (arg4.view.read (Elt F) f4) 0 (Fin.ofNat 32 (2 * (2 * (i 1).val))) :=
  have hk : (i 1).val < 8 := tile_lt i
  View.readAt_unit _ _ _ (by refine (k0_off19_eq i 0).trans ?_; funext a; fin_cases a <;> simp <;> omega) _
/-- A chunk of values of a block on the diagonal, as loaded. -/
theorem vE001 : (View.readAt (Elt F) arg4.view (Rect.unit (s := S2x32x144x256) (k0_off19 i 1#32) S1x1x144x256.size (k0_off19_inb i 1)).toLoadRect f4) = vW (arg4.view.read (Elt F) f4) 0 (Fin.ofNat 32 (2 * (2 * (i 1).val) + 1)) :=
  have hk : (i 1).val < 8 := tile_lt i
  View.readAt_unit _ _ _ (by refine (k0_off19_eq i 1).trans ?_; funext a; fin_cases a <;> simp <;> omega) _
/-- A chunk of values of a block on the diagonal, as loaded. -/
theorem vE010 : (View.readAt (Elt F) arg4.view (Rect.unit (s := S2x32x144x256) (k0_off21 i 0#32) S1x1x144x256.size (k0_off21_inb i 0)).toLoadRect f4) = vW (arg4.view.read (Elt F) f4) 0 (Fin.ofNat 32 (2 * (2 * (i 1).val + 1))) :=
  have hk : (i 1).val < 8 := tile_lt i
  View.readAt_unit _ _ _ (by refine (k0_off21_eq i 0).trans ?_; funext a; fin_cases a <;> simp <;> omega) _
/-- A chunk of values of a block on the diagonal, as loaded. -/
theorem vE011 : (View.readAt (Elt F) arg4.view (Rect.unit (s := S2x32x144x256) (k0_off21 i 1#32) S1x1x144x256.size (k0_off21_inb i 1)).toLoadRect f4) = vW (arg4.view.read (Elt F) f4) 0 (Fin.ofNat 32 (2 * (2 * (i 1).val + 1) + 1)) :=
  have hk : (i 1).val < 8 := tile_lt i
  View.readAt_unit _ _ _ (by refine (k0_off21_eq i 1).trans ?_; funext a; fin_cases a <;> simp <;> omega) _
/-- The keys of the second block on the diagonal, as loaded. -/
theorem kE1 : (View.readAt (Elt F) arg3.view (Rect.unit (s := S2x8192x256) (k0_off18 i) S1x512x256.size (k0_off18_inb i)).toLoadRect f3) = kW (arg3.view.read (Elt F) f3) 1 (Fin.ofNat 16 (2 * (i 1).val + 1)) :=
  have hk : (i 1).val < 8 := tile_lt i
  View.readAt_unit _ _ _ (by rw [k0_off18_eq]; funext a; fin_cases a <;> simp <;> omega) _
/-- The keys of the first block, as loaded. -/
theorem kZ1 : (View.readAt (Elt F) arg3.view (Rect.unit (s := S2x8192x256) ![1, 0, 0] S1x512x256.size (by decide)).toLoadRect f3) = kW (arg3.view.read (Elt F) f3) 1 (Fin.ofNat 16 (2 * 0)) := View.readAt_unit _ _ _ (by decide) _
/-- A chunk of values of a block on the diagonal, as loaded. -/
theorem vE100 : (View.readAt (Elt F) arg4.view (Rect.unit (s := S2x32x144x256) (k0_off20 i 0#32) S1x1x144x256.size (k0_off20_inb i 0)).toLoadRect f4) = vW (arg4.view.read (Elt F) f4) 1 (Fin.ofNat 32 (2 * (2 * (i 1).val))) :=
  have hk : (i 1).val < 8 := tile_lt i
  View.readAt_unit _ _ _ (by refine (k0_off20_eq i 0).trans ?_; funext a; fin_cases a <;> simp <;> omega) _
/-- A chunk of values of a block on the diagonal, as loaded. -/
theorem vE101 : (View.readAt (Elt F) arg4.view (Rect.unit (s := S2x32x144x256) (k0_off20 i 1#32) S1x1x144x256.size (k0_off20_inb i 1)).toLoadRect f4) = vW (arg4.view.read (Elt F) f4) 1 (Fin.ofNat 32 (2 * (2 * (i 1).val) + 1)) :=
  have hk : (i 1).val < 8 := tile_lt i
  View.readAt_unit _ _ _ (by refine (k0_off20_eq i 1).trans ?_; funext a; fin_cases a <;> simp <;> omega) _
/-- A chunk of values of a block on the diagonal, as loaded. -/
theorem vE110 : (View.readAt (Elt F) arg4.view (Rect.unit (s := S2x32x144x256) (k0_off22 i 0#32) S1x1x144x256.size (k0_off22_inb i 0)).toLoadRect f4) = vW (arg4.view.read (Elt F) f4) 1 (Fin.ofNat 32 (2 * (2 * (i 1).val + 1))) :=
  have hk : (i 1).val < 8 := tile_lt i
  View.readAt_unit _ _ _ (by refine (k0_off22_eq i 0).trans ?_; funext a; fin_cases a <;> simp <;> omega) _
/-- A chunk of values of a block on the diagonal, as loaded. -/
theorem vE111 : (View.readAt (Elt F) arg4.view (Rect.unit (s := S2x32x144x256) (k0_off22 i 1#32) S1x1x144x256.size (k0_off22_inb i 1)).toLoadRect f4) = vW (arg4.view.read (Elt F) f4) 1 (Fin.ofNat 32 (2 * (2 * (i 1).val + 1) + 1)) :=
  have hk : (i 1).val < 8 := tile_lt i
  View.readAt_unit _ _ _ (by refine (k0_off22_eq i 1).trans ?_; funext a; fin_cases a <;> simp <;> omega) _
/-- The queries of one chain, as loaded. -/
theorem qE0 : (View.readAt (Elt F) arg2.view (Rect.unit (s := S2x256x1024) ![0, 0, 0] S1x256x512.size (by decide)).toLoadRect f2) = qW (arg2.view.read (Elt F) f2) 0 0 := View.readAt_unit _ _ _ (by decide) _
/-- One chain's part of a buffer, as loaded. -/
theorem mE0 : (View.readAt (Elt F) arg12.view (Rect.unit (s := S2x1x1024) ![0, 0, 0] S1x1x512.size (by decide)).toLoadRect g12) = mW (arg12.view.read (Elt F) g12) 0 0 := View.readAt_unit _ _ _ (by decide) _
/-- One chain's part of a buffer, as loaded. -/
theorem accE0 : (View.readAt (Elt F) arg13.view (Rect.unit (s := S2x144x1024) ![0, 0, 0] S1x144x512.size (by decide)).toLoadRect g13) = accW (arg13.view.read (Elt F) g13) 0 0 := View.readAt_unit _ _ _ (by decide) _
/-- One chain's part of a buffer, as loaded. -/
theorem saE0 : (View.readAt (Elt F) arg14.view (Rect.unit (s := S4x512x512) ![0, 0, 0] S1x512x512.size (by decide)).toLoadRect g14) = saW (arg14.view.read (Elt F) g14) 0 0 := View.readAt_unit _ _ _ (by decide) _
/-- One chain's part of a buffer, as loaded. -/
theorem maE0 : (View.readAt (Elt F) arg16.view (Rect.unit (s := S4x1x512) ![0, 0, 0] S1x1x512.size (by decide)).toLoadRect g16) = maW (arg16.view.read (Elt F) g16) 0 0 := View.readAt_unit _ _ _ (by decide) _
/-- The queries of one chain, as loaded. -/
theorem qE1 : (View.readAt (Elt F) arg2.view (Rect.unit (s := S2x256x1024) ![0, 0, 512] S1x256x512.size (by decide)).toLoadRect f2) = qW (arg2.view.read (Elt F) f2) 0 1 := View.readAt_unit _ _ _ (by decide) _
/-- One chain's part of a buffer, as loaded. -/
theorem mE1 : (View.readAt (Elt F) arg12.view (Rect.unit (s := S2x1x1024) ![0, 0, 512] S1x1x512.size (by decide)).toLoadRect g12) = mW (arg12.view.read (Elt F) g12) 0 1 := View.readAt_unit _ _ _ (by decide) _
/-- One chain's part of a buffer, as loaded. -/
theorem accE1 : (View.readAt (Elt F) arg13.view (Rect.unit (s := S2x144x1024) ![0, 0, 512] S1x144x512.size (by decide)).toLoadRect g13) = accW (arg13.view.read (Elt F) g13) 0 1 := View.readAt_unit _ _ _ (by decide) _
/-- One chain's part of a buffer, as loaded. -/
theorem saE1 : (View.readAt (Elt F) arg14.view (Rect.unit (s := S4x512x512) ![1, 0, 0] S1x512x512.size (by decide)).toLoadRect g14) = saW (arg14.view.read (Elt F) g14) 0 1 := View.readAt_unit _ _ _ (by decide) _
/-- One chain's part of a buffer, as loaded. -/
theorem maE1 : (View.readAt (Elt F) arg16.view (Rect.unit (s := S4x1x512) ![1, 0, 0] S1x1x512.size (by decide)).toLoadRect g16) = maW (arg16.view.read (Elt F) g16) 0 1 := View.readAt_unit _ _ _ (by decide) _
/-- The queries of one chain, as loaded. -/
theorem qE2 : (View.readAt (Elt F) arg2.view (Rect.unit (s := S2x256x1024) ![1, 0, 0] S1x256x512.size (by decide)).toLoadRect f2) = qW (arg2.view.read (Elt F) f2) 1 0 := View.readAt_unit _ _ _ (by decide) _
/-- One chain's part of a buffer, as loaded. -/
theorem mE2 : (View.readAt (Elt F) arg12.view (Rect.unit (s := S2x1x1024) ![1, 0, 0] S1x1x512.size (by decide)).toLoadRect g12) = mW (arg12.view.read (Elt F) g12) 1 0 := View.readAt_unit _ _ _ (by decide) _
/-- One chain's part of a buffer, as loaded. -/
theorem accE2 : (View.readAt (Elt F) arg13.view (Rect.unit (s := S2x144x1024) ![1, 0, 0] S1x144x512.size (by decide)).toLoadRect g13) = accW (arg13.view.read (Elt F) g13) 1 0 := View.readAt_unit _ _ _ (by decide) _
/-- One chain's part of a buffer, as loaded. -/
theorem saE2 : (View.readAt (Elt F) arg14.view (Rect.unit (s := S4x512x512) ![2, 0, 0] S1x512x512.size (by decide)).toLoadRect g14) = saW (arg14.view.read (Elt F) g14) 1 0 := View.readAt_unit _ _ _ (by decide) _
/-- One chain's part of a buffer, as loaded. -/
theorem maE2 : (View.readAt (Elt F) arg16.view (Rect.unit (s := S4x1x512) ![2, 0, 0] S1x1x512.size (by decide)).toLoadRect g16) = maW (arg16.view.read (Elt F) g16) 1 0 := View.readAt_unit _ _ _ (by decide) _
/-- The queries of one chain, as loaded. -/
theorem qE3 : (View.readAt (Elt F) arg2.view (Rect.unit (s := S2x256x1024) ![1, 0, 512] S1x256x512.size (by decide)).toLoadRect f2) = qW (arg2.view.read (Elt F) f2) 1 1 := View.readAt_unit _ _ _ (by decide) _
/-- One chain's part of a buffer, as loaded. -/
theorem mE3 : (View.readAt (Elt F) arg12.view (Rect.unit (s := S2x1x1024) ![1, 0, 512] S1x1x512.size (by decide)).toLoadRect g12) = mW (arg12.view.read (Elt F) g12) 1 1 := View.readAt_unit _ _ _ (by decide) _
/-- One chain's part of a buffer, as loaded. -/
theorem accE3 : (View.readAt (Elt F) arg13.view (Rect.unit (s := S2x144x1024) ![1, 0, 512] S1x144x512.size (by decide)).toLoadRect g13) = accW (arg13.view.read (Elt F) g13) 1 1 := View.readAt_unit _ _ _ (by decide) _
/-- One chain's part of a buffer, as loaded. -/
theorem saE3 : (View.readAt (Elt F) arg14.view (Rect.unit (s := S4x512x512) ![3, 0, 0] S1x512x512.size (by decide)).toLoadRect g14) = saW (arg14.view.read (Elt F) g14) 1 1 := View.readAt_unit _ _ _ (by decide) _
/-- One chain's part of a buffer, as loaded. -/
theorem maE3 : (View.readAt (Elt F) arg16.view (Rect.unit (s := S4x1x512) ![3, 0, 0] S1x1x512.size (by decide)).toLoadRect g16) = maW (arg16.view.read (Elt F) g16) 1 1 := View.readAt_unit _ _ _ (by decide) _
/-- The state before the loop: the maxima and sums at what they start from, the scores of block zero computed. -/
theorem entry : Inv (arg2.view.read (Elt F) f2) (arg3.view.read (Elt F) f3) (arg4.view.read (Elt F) f4) (2 * 0) (arg12.view.read (Elt F) (arg12.view.writes (Elt F) arg12.view.junk (body0.sl.H12_1 (F := F)))) (arg13.view.read (Elt F) (arg13.view.writes (Elt F) arg13.view.junk (body0.sl.H13_1 (F := F)))) (arg14.view.read (Elt F) (arg14.view.writes (Elt F) arg14.view.junk (body0.sl.H14_4 c arg2 arg3 f2 f3))) (arg16.view.read (Elt F) (arg16.view.writes (Elt F) arg16.view.junk (body0.sl.H16_4 c arg2 arg3 f2 f3))) := by
  have em : (arg12.view.read (Elt F) (arg12.view.writes (Elt F) arg12.view.junk (body0.sl.H12_1 (F := F)))) = m0P := View.read_writes_full _ _ _ _ _
  have ea : (arg13.view.read (Elt F) (arg13.view.writes (Elt F) arg13.view.junk (body0.sl.H13_1 (F := F)))) = acc0P := View.read_writes_full _ _ _ _ _
  rw [em, ea]
  refine inv_of ⟨rfl, rfl, rfl, rfl⟩ ⟨rfl, rfl, rfl, rfl⟩ (sa_fin _ _ _ _ _ _ _ _ _ _ _) (ma_fin _ _ _ _ _ _ _ _ _ _ _) ⟨rfl, rfl, ?_, ?_⟩ ⟨rfl, rfl, ?_, ?_⟩ ⟨rfl, rfl, ?_, ?_⟩ ⟨rfl, rfl, ?_, ?_⟩
  · exact (show _ = saP (View.readAt (Elt F) arg3.view (Rect.unit (s := S2x8192x256) ![0, 0, 0] S1x512x256.size (by decide)).toLoadRect f3) (View.readAt (Elt F) arg2.view (Rect.unit (s := S2x256x1024) ![0, 0, 0] S1x256x512.size (by decide)).toLoadRect f2) from rfl).trans (saP_congr kZ0 qE0)
  · exact (show _ = maP (View.readAt (Elt F) arg3.view (Rect.unit (s := S2x8192x256) ![0, 0, 0] S1x512x256.size (by decide)).toLoadRect f3) (View.readAt (Elt F) arg2.view (Rect.unit (s := S2x256x1024) ![0, 0, 0] S1x256x512.size (by decide)).toLoadRect f2) from rfl).trans (maP_congr kZ0 qE0)
  · exact (show _ = saP (View.readAt (Elt F) arg3.view (Rect.unit (s := S2x8192x256) ![0, 0, 0] S1x512x256.size (by decide)).toLoadRect f3) (View.readAt (Elt F) arg2.view (Rect.unit (s := S2x256x1024) ![0, 0, 512] S1x256x512.size (by decide)).toLoadRect f2) from rfl).trans (saP_congr kZ0 qE1)
  · exact (show _ = maP (View.readAt (Elt F) arg3.view (Rect.unit (s := S2x8192x256) ![0, 0, 0] S1x512x256.size (by decide)).toLoadRect f3) (View.readAt (Elt F) arg2.view (Rect.unit (s := S2x256x1024) ![0, 0, 512] S1x256x512.size (by decide)).toLoadRect f2) from rfl).trans (maP_congr kZ0 qE1)
  · exact (show _ = saP (View.readAt (Elt F) arg3.view (Rect.unit (s := S2x8192x256) ![1, 0, 0] S1x512x256.size (by decide)).toLoadRect f3) (View.readAt (Elt F) arg2.view (Rect.unit (s := S2x256x1024) ![1, 0, 0] S1x256x512.size (by decide)).toLoadRect f2) from rfl).trans (saP_congr kZ1 qE2)
  · exact (show _ = maP (View.readAt (Elt F) arg3.view (Rect.unit (s := S2x8192x256) ![1, 0, 0] S1x512x256.size (by decide)).toLoadRect f3) (View.readAt (Elt F) arg2.view (Rect.unit (s := S2x256x1024) ![1, 0, 0] S1x256x512.size (by decide)).toLoadRect f2) from rfl).trans (maP_congr kZ1 qE2)
  · exact (show _ = saP (View.readAt (Elt F) arg3.view (Rect.unit (s := S2x8192x256) ![1, 0, 0] S1x512x256.size (by decide)).toLoadRect f3) (View.readAt (Elt F) arg2.view (Rect.unit (s := S2x256x1024) ![1, 0, 512] S1x256x512.size (by decide)).toLoadRect f2) from rfl).trans (saP_congr kZ1 qE3)
  · exact (show _ = maP (View.readAt (Elt F) arg3.view (Rect.unit (s := S2x8192x256) ![1, 0, 0] S1x512x256.size (by decide)).toLoadRect f3) (View.readAt (Elt F) arg2.view (Rect.unit (s := S2x256x1024) ![1, 0, 512] S1x256x512.size (by decide)).toLoadRect f2) from rfl).trans (maP_congr kZ1 qE3)
/-- The scores of the second block on the diagonal. -/
theorem sc1 : body0.sl.v289 c i arg2 arg3 arg15 f2 f3 = saP (View.readAt (Elt F) arg3.view (Rect.unit (s := S2x8192x256) (k0_off17 i) S1x512x256.size (k0_off17_inb i)).toLoadRect f3) (View.readAt (Elt F) arg2.view (Rect.unit (s := S2x256x1024) ![0, 0, 512] S1x256x512.size (by decide)).toLoadRect f2) := by
  refine ((View.cov_skip _ _ _ _ _ 0 (by decide)).trans (View.cov_same _ _ _ _ _ rfl)).trans ?_
  rfl
/-- The running maximum before that block. -/
theorem sm1 : body0.sl.v295 c arg12 arg14 arg16 g12 g14 g16 = mP (View.readAt (Elt F) arg16.view (Rect.unit (s := S4x1x512) ![1, 0, 0] S1x1x512.size (by decide)).toLoadRect g16) (View.readAt (Elt F) arg12.view (Rect.unit (s := S2x1x1024) ![0, 0, 512] S1x1x512.size (by decide)).toLoadRect g12) := by
  refine ((View.cov_skip _ _ _ _ _ 0 (by decide)).trans ((View.cov_skip _ _ _ _ _ 0 (by decide)).trans (View.cov_same _ _ _ _ _ rfl))).trans ?_
  rfl
/-- The sums before that block. -/
theorem sacc1 : body0.sl.v321 c i arg4 arg12 arg13 arg14 arg16 f4 g12 g13 g14 g16 = accP (View.readAt (Elt F) arg14.view (Rect.unit (s := S4x512x512) ![1, 0, 0] S1x512x512.size (by decide)).toLoadRect g14) (View.readAt (Elt F) arg16.view (Rect.unit (s := S4x1x512) ![1, 0, 0] S1x1x512.size (by decide)).toLoadRect g16) (View.readAt (Elt F) arg12.view (Rect.unit (s := S2x1x1024) ![0, 0, 512] S1x1x512.size (by decide)).toLoadRect g12) (View.readAt (Elt F) arg4.view (Rect.unit (s := S2x32x144x256) (k0_off19 i 0#32) S1x1x144x256.size (k0_off19_inb i 0)).toLoadRect f4) (View.readAt (Elt F) arg4.view (Rect.unit (s := S2x32x144x256) (k0_off19 i 1#32) S1x1x144x256.size (k0_off19_inb i 1)).toLoadRect f4) (View.readAt (Elt F) arg13.view (Rect.unit (s := S2x144x1024) ![0, 0, 512] S1x144x512.size (by decide)).toLoadRect g13) := by
  refine ((View.cov_skip _ _ _ _ _ 0 (by decide)).trans ((View.cov_skip _ _ _ _ _ 0 (by decide)).trans (View.cov_same _ _ _ _ _ rfl))).trans ?_
  rfl
/-- The scores of the second block on the diagonal. -/
theorem sc3 : body0.sl.v335 c i arg2 arg3 arg15 f2 f3 = saP (View.readAt (Elt F) arg3.view (Rect.unit (s := S2x8192x256) (k0_off18 i) S1x512x256.size (k0_off18_inb i)).toLoadRect f3) (View.readAt (Elt F) arg2.view (Rect.unit (s := S2x256x1024) ![1, 0, 512] S1x256x512.size (by decide)).toLoadRect f2) := by
  refine (View.cov_same _ _ _ _ _ rfl).trans ?_
  rfl
/-- The running maximum before that block. -/
theorem sm3 : body0.sl.v341 c i arg2 arg3 arg12 arg14 arg15 arg16 f2 f3 g12 g14 g16 = mP (View.readAt (Elt F) arg16.view (Rect.unit (s := S4x1x512) ![3, 0, 0] S1x1x512.size (by decide)).toLoadRect g16) (View.readAt (Elt F) arg12.view (Rect.unit (s := S2x1x1024) ![1, 0, 512] S1x1x512.size (by decide)).toLoadRect g12) := by
  refine ((View.cov_skip _ _ _ _ _ 0 (by decide)).trans (View.cov_same _ _ _ _ _ rfl)).trans ?_
  rfl
/-- The sums before that block. -/
theorem sacc3 : body0.sl.v367 c i arg2 arg3 arg4 arg12 arg13 arg14 arg15 arg16 f2 f3 f4 g12 g13 g14 g16 = accP (View.readAt (Elt F) arg14.view (Rect.unit (s := S4x512x512) ![3, 0, 0] S1x512x512.size (by decide)).toLoadRect g14) (View.readAt (Elt F) arg16.view (Rect.unit (s := S4x1x512) ![3, 0, 0] S1x1x512.size (by decide)).toLoadRect g16) (View.readAt (Elt F) arg12.view (Rect.unit (s := S2x1x1024) ![1, 0, 512] S1x1x512.size (by decide)).toLoadRect g12) (View.readAt (Elt F) arg4.view (Rect.unit (s := S2x32x144x256) (k0_off20 i 0#32) S1x1x144x256.size (k0_off20_inb i 0)).toLoadRect f4) (View.readAt (Elt F) arg4.view (Rect.unit (s := S2x32x144x256) (k0_off20 i 1#32) S1x1x144x256.size (k0_off20_inb i 1)).toLoadRect f4) (View.readAt (Elt F) arg13.view (Rect.unit (s := S2x144x1024) ![1, 0, 512] S1x144x512.size (by decide)).toLoadRect g13) := by
  refine ((View.cov_skip _ _ _ _ _ 0 (by decide)).trans (View.cov_same _ _ _ _ _ rfl)).trans ?_
  rfl
/-- One chain's sums at the end of the body. -/
theorem fin0 (hI : InvC (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16) 0 0) :
    accW (arg13.view.read (Elt F) (arg13.view.writes (Elt F) arg13.view.junk (body0.sl.H13_6 c i arg2 arg3 arg4 arg12 arg13 arg14 arg15 arg16 f2 f3 f4 g12 g13 g14 g16))) 0 0 = accF (arg2.view.read (Elt F) f2) (arg3.view.read (Elt F) f3) (arg4.view.read (Elt F) f4) 0 0 (2 * (i 1).val + 0) := by
  obtain ⟨hm, ha, hs, hx⟩ := hI
  refine ((View.window_skip _ _ _ _ _ _ 0 (by decide)).trans ((View.window_skip _ _ _ _ _ _ 2 (by decide)).trans ((View.window_skip _ _ _ _ _ _ 0 (by decide)).trans ((View.window_skip _ _ _ _ _ _ 0 (by decide)).trans ((View.window_skip _ _ _ _ _ _ 2 (by decide)).trans (View.window_same _ _ _ _ _ _ rfl)))))).trans ?_
  refine (show _ = accD (View.readAt (Elt F) arg14.view (Rect.unit (s := S4x512x512) ![0, 0, 0] S1x512x512.size (by decide)).toLoadRect g14) (View.readAt (Elt F) arg12.view (Rect.unit (s := S2x1x1024) ![0, 0, 0] S1x1x512.size (by decide)).toLoadRect g12) (View.readAt (Elt F) arg4.view (Rect.unit (s := S2x32x144x256) (k0_off19 i 0#32) S1x1x144x256.size (k0_off19_inb i 0)).toLoadRect f4) (View.readAt (Elt F) arg4.view (Rect.unit (s := S2x32x144x256) (k0_off19 i 1#32) S1x1x144x256.size (k0_off19_inb i 1)).toLoadRect f4) (View.readAt (Elt F) arg13.view (Rect.unit (s := S2x144x1024) ![0, 0, 0] S1x144x512.size (by decide)).toLoadRect g13) from rfl).trans ?_
  exact accD_congr (saE0.trans hs) (mE0.trans hm) vE000 vE001 (accE0.trans ha)
/-- One chain's sums at the end of the body. -/
theorem fin1 (hI : InvC (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16) 0 1) :
    accW (arg13.view.read (Elt F) (arg13.view.writes (Elt F) arg13.view.junk (body0.sl.H13_6 c i arg2 arg3 arg4 arg12 arg13 arg14 arg15 arg16 f2 f3 f4 g12 g13 g14 g16))) 0 1 = accF (arg2.view.read (Elt F) f2) (arg3.view.read (Elt F) f3) (arg4.view.read (Elt F) f4) 0 1 (2 * (i 1).val + 1) := by
  obtain ⟨hm, ha, hs, hx⟩ := hI
  refine ((View.window_skip _ _ _ _ _ _ 0 (by decide)).trans (View.window_same _ _ _ _ _ _ rfl)).trans ?_
  refine (show _ = accD (body0.sl.v289 c i arg2 arg3 arg15 f2 f3) (body0.sl.v295 c arg12 arg14 arg16 g12 g14 g16) (View.readAt (Elt F) arg4.view (Rect.unit (s := S2x32x144x256) (k0_off21 i 0#32) S1x1x144x256.size (k0_off21_inb i 0)).toLoadRect f4) (View.readAt (Elt F) arg4.view (Rect.unit (s := S2x32x144x256) (k0_off21 i 1#32) S1x1x144x256.size (k0_off21_inb i 1)).toLoadRect f4) (body0.sl.v321 c i arg4 arg12 arg13 arg14 arg16 f4 g12 g13 g14 g16) from rfl).trans ?_
  exact accD_congr (sc1.trans (saP_congr kE0 qE1)) (sm1.trans (mP_congr (maE1.trans hx) (mE1.trans hm))) vE010 vE011
    (sacc1.trans (accP_congr (saE1.trans hs) (maE1.trans hx) (mE1.trans hm) vE000 vE001 (accE1.trans ha)))
/-- One chain's sums at the end of the body. -/
theorem fin2 (hI : InvC (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16) 1 0) :
    accW (arg13.view.read (Elt F) (arg13.view.writes (Elt F) arg13.view.junk (body0.sl.H13_6 c i arg2 arg3 arg4 arg12 arg13 arg14 arg15 arg16 f2 f3 f4 g12 g13 g14 g16))) 1 0 = accF (arg2.view.read (Elt F) f2) (arg3.view.read (Elt F) f3) (arg4.view.read (Elt F) f4) 1 0 (2 * (i 1).val + 0) := by
  obtain ⟨hm, ha, hs, hx⟩ := hI
  refine ((View.window_skip _ _ _ _ _ _ 2 (by decide)).trans ((View.window_skip _ _ _ _ _ _ 0 (by decide)).trans ((View.window_skip _ _ _ _ _ _ 2 (by decide)).trans (View.window_same _ _ _ _ _ _ rfl)))).trans ?_
  refine (show _ = accD (View.readAt (Elt F) arg14.view (Rect.unit (s := S4x512x512) ![2, 0, 0] S1x512x512.size (by decide)).toLoadRect g14) (View.readAt (Elt F) arg12.view (Rect.unit (s := S2x1x1024) ![1, 0, 0] S1x1x512.size (by decide)).toLoadRect g12) (View.readAt (Elt F) arg4.view (Rect.unit (s := S2x32x144x256) (k0_off20 i 0#32) S1x1x144x256.size (k0_off20_inb i 0)).toLoadRect f4) (View.readAt (Elt F) arg4.view (Rect.unit (s := S2x32x144x256) (k0_off20 i 1#32) S1x1x144x256.size (k0_off20_inb i 1)).toLoadRect f4) (View.readAt (Elt F) arg13.view (Rect.unit (s := S2x144x1024) ![1, 0, 0] S1x144x512.size (by decide)).toLoadRect g13) from rfl).trans ?_
  exact accD_congr (saE2.trans hs) (mE2.trans hm) vE100 vE101 (accE2.trans ha)
/-- One chain's sums at the end of the body. -/
theorem fin3 (hI : InvC (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16) 1 1) :
    accW (arg13.view.read (Elt F) (arg13.view.writes (Elt F) arg13.view.junk (body0.sl.H13_6 c i arg2 arg3 arg4 arg12 arg13 arg14 arg15 arg16 f2 f3 f4 g12 g13 g14 g16))) 1 1 = accF (arg2.view.read (Elt F) f2) (arg3.view.read (Elt F) f3) (arg4.view.read (Elt F) f4) 1 1 (2 * (i 1).val + 1) := by
  obtain ⟨hm, ha, hs, hx⟩ := hI
  refine (View.window_same _ _ _ _ _ _ rfl).trans ?_
  refine (show _ = accD (body0.sl.v335 c i arg2 arg3 arg15 f2 f3) (body0.sl.v341 c i arg2 arg3 arg12 arg14 arg15 arg16 f2 f3 g12 g14 g16) (View.readAt (Elt F) arg4.view (Rect.unit (s := S2x32x144x256) (k0_off22 i 0#32) S1x1x144x256.size (k0_off22_inb i 0)).toLoadRect f4) (View.readAt (Elt F) arg4.view (Rect.unit (s := S2x32x144x256) (k0_off22 i 1#32) S1x1x144x256.size (k0_off22_inb i 1)).toLoadRect f4) (body0.sl.v367 c i arg2 arg3 arg4 arg12 arg13 arg14 arg15 arg16 f2 f3 f4 g12 g13 g14 g16) from rfl).trans ?_
  exact accD_congr (sc3.trans (saP_congr kE1 qE3)) (sm3.trans (mP_congr (maE3.trans hx) (mE3.trans hm))) vE110 vE111
    (sacc3.trans (accP_congr (saE3.trans hs) (maE3.trans hx) (mE3.trans hm) vE100 vE101 (accE3.trans ha)))
/-- All the sums at the end of the body. -/
theorem finAll (hI : Inv (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16)) : (arg13.view.read (Elt F) (arg13.view.writes (Elt F) arg13.view.junk (body0.sl.H13_6 c i arg2 arg3 arg4 arg12 arg13 arg14 arg15 arg16 f2 f3 f4 g12 g13 g14 g16))) = accAll (arg2.view.read (Elt F) f2) (arg3.view.read (Elt F) f3) (arg4.view.read (Elt F) f4) (i 1).val := by
  refine acc_ext fun h u => ?_
  match h, u with
  | ⟨0, _⟩, ⟨0, _⟩ => exact fin0 hI.1
  | ⟨0, _⟩, ⟨1, _⟩ => exact fin1 hI.2.1
  | ⟨1, _⟩, ⟨0, _⟩ => exact fin2 hI.2.2.1
  | ⟨1, _⟩, ⟨1, _⟩ => exact fin3 hI.2.2.2
/-- The output block at the end of the body. -/
theorem finOut (hI : Inv (arg2.view.read (Elt F) f2) (arg3.view.read (Elt F) f3) (arg4.view.read (Elt F) f4) (2 * (i 1).val) (arg12.view.read (Elt F) g12) (arg13.view.read (Elt F) g13) (arg14.view.read (Elt F) g14) (arg16.view.read (Elt F) g16)) : (arg8.view.read (Elt F) (arg8.view.writes (Elt F) g8 [⟨Rect.unit (s := S1024x256) ![0, 128] S1024x128.size (by decide), k0_pay1 (body0.sl.v386 c i arg2 arg3 arg4 arg12 arg13 arg14 arg15 arg16 f2 f3 f4 g12 g13 g14 g16) (body0.sl.v388 c i arg2 arg3 arg4 arg12 arg13 arg14 arg15 arg16 f2 f3 f4 g12 g13 g14 g16)⟩, ⟨Rect.unit (s := S1024x256) ![0, 0] S1024x128.size (by decide), body0.sl.v384 c i arg2 arg3 arg4 arg12 arg13 arg14 arg15 arg16 f2 f3 f4 g12 g13 g14 g16⟩])) = outMla (arg2.view.read (Elt F) f2) (arg3.view.read (Elt F) f3) (arg4.view.read (Elt F) f4) (i 1).val := by
  refine out_ext fun h => ?_
  have e := finAll (arg15 := arg15) hI
  match h with
  | ⟨0, _⟩ =>
    refine ((View.window_skip _ _ _ _ _ _ 1 (by decide)).trans (View.window_same _ _ _ _ _ _ rfl)).trans ?_
    refine (show _ = outH (arg13.view.read (Elt F) (arg13.view.writes (Elt F) arg13.view.junk (body0.sl.H13_6 c i arg2 arg3 arg4 arg12 arg13 arg14 arg15 arg16 f2 f3 f4 g12 g13 g14 g16))) 0 from rfl).trans ?_
    rw [e]; rfl
  | ⟨1, _⟩ =>
    refine (View.window_same _ _ _ _ _ _ rfl).trans ?_
    refine (show _ = outH (arg13.view.read (Elt F) (arg13.view.writes (Elt F) arg13.view.junk (body0.sl.H13_6 c i arg2 arg3 arg4 arg12 arg13 arg14 arg15 arg16 f2 f3 f4 g12 g13 g14 g16))) 1 from rfl).trans ?_
    rw [e]; rfl

end Cert.Proof.KernelIdeal

end
-- ==== Proof.Body.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.End

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Owning a whole buffer at contents is holding it at raw contents that read them. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- A grid point's body: the output block holds the attention's, the three weight blocks are cast, what it reads stays. -/
theorem body (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17)
   ⊢ wp Idealize.ShloMosaic.frame (wpE (defs₀ (F := F)) Variants.none (c : Thread nD τ) none) Set.univ (cc0_mla_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
     (fun _ => iprop(pt c arg2 f2 ∗ pt c arg3 f3 ∗ pt c arg4 f4 ∗ pt c arg5 f5 ∗ pt c arg6 f6 ∗ pt c arg7 f7 ∗ (∃ g8, pt c arg8 g8 ∗ ⌜arg8.view.read (Elt F) g8 = outMla (arg2.view.read (Elt F) f2) (arg3.view.read (Elt F) f3) (arg4.view.read (Elt F) f4) (i 1).val⌝) ∗ (∃ g9, pt c arg9 g9 ∗ ⌜arg9.view.read (Elt F) g9 = k0_pay156 (arg5.view.read (Elt F) f5)⌝) ∗ (∃ g10, pt c arg10 g10 ∗ ⌜arg10.view.read (Elt F) g10 = k0_pay157 (arg6.view.read (Elt F) f6)⌝) ∗ (∃ g11, pt c arg11 g11 ∗ ⌜arg11.view.read (Elt F) g11 = k0_pay158 (arg7.view.read (Elt F) f7)⌝) ∗ (∃ g12, pt c arg12 g12) ∗ (∃ g13, pt c arg13 g13) ∗ (∃ g14, pt c arg14 g14) ∗ (∃ g15, pt c arg15 g15) ∗ (∃ g16, pt c arg16 g16) ∗ (∃ g17, pt c arg17 g17))) := by
  have h2 : (k0_t2_loop i).trips = 0 := Nat.le_zero.mp (k0_t2_abs i).2.1
  unfold cc0_mla_skel
  iintro ⟨H2, H3, H4, H5, H6, H7, H8, H9, H10, H11, H12, H13, H14, H15, H16, H17⟩
  sl_exec_parts
  ihave HI : iprop((∃ g12 g13 g14 g16, pt c arg12 g12 ∗ pt c arg13 g13 ∗ pt c arg14 g14 ∗ pt c arg16 g16 ∗ ⌜Inv (arg2.view.read (Elt F) f2) (arg3.view.read (Elt F) f3) (arg4.view.read (Elt F) f4) (2 * 0) (arg12.view.read (Elt F) g12) (arg13.view.read (Elt F) g13) (arg14.view.read (Elt F) g14) (arg16.view.read (Elt F) g16)⌝)) $$ [H12 H13 H14 H16]
  · iexists _; iexists _; iexists _; iexists _
    isplitl [H12]; · iexact H12
    isplitl [H13]; · iexact H13
    isplitl [H14]; · iexact H14
    isplitl [H16]; · iexact H16
    ipureintro
    exact entry
  icases HI with ⟨%g12, %g13, %g14, %g16, H12, H13, H14, H16, %hI⟩
  let L := loopInv_k0_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4
  sl_exec_parts
  sl_step
  have hF := hL7
  rw [show Scf.trips (k0_t1_loop i).lb (k0_t1_loop i).ub (k0_t1_loop i).st = (i 1).val from trips_eq i] at hF
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro; exact finOut hF
  isplitl [H9]
  · iexists _; isplitl [H9]; · iexact H9
    ipureintro; exact (View.read_writes_full _ _ _ _ _).trans (congrArg _ (View.readAt_full _ _ _))
  isplitl [H10]
  · iexists _; isplitl [H10]; · iexact H10
    ipureintro; exact (View.read_writes_full _ _ _ _ _).trans (congrArg _ (View.readAt_full _ _ _))
  isplitl [H11]
  · iexists _; isplitl [H11]; · iexact H11
    ipureintro; exact (View.read_writes_full _ _ _ _ _).trans (congrArg _ (View.readAt_full _ _ _))
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Proof.KernelIdeal

end
-- ==== Proof.Frame.lean ====
module

public import proofs.«01_k».proof.Proof.Gen.KernelIdeal.Frame
public import proofs.«01_k».proof.Proof.Gen.KernelIdeal.Loops
public import Idealize.ShloMosaic.Lib.Tactic
public import Idealize.ShloMosaic.Lib.VecWindow
public import proofs.«01_k».proof.Proof.Body
public import Idealize.ShloMosaic.Lib.Claim

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple over buffers owned at vectors: what the launch's rule asks of one grid point. -/
theorem bodyO (c : Dev nD) (i : grid0.Coords) (arg2 : Memref sig .tc .vmem S2x256x1024 .bf16) (harg2 : arg2.IsWhole) (arg3 : Memref sig .tc .vmem S2x8192x256 .bf16) (harg3 : arg3.IsWhole) (arg4 : Memref sig .tc .vmem S2x32x144x256 .bf16) (harg4 : arg4.IsWhole) (arg5 : Memref sig .tc .vmem S64x5632 .f32) (harg5 : arg5.IsWhole) (arg6 : Memref sig .tc .vmem S64x5632 .f32) (harg6 : arg6.IsWhole) (arg7 : Memref sig .tc .vmem S176x2048 .f32) (harg7 : arg7.IsWhole) (arg8 : Memref sig .tc .vmem S1024x256 .f32) (harg8 : arg8.IsWhole) (arg9 : Memref sig .tc .vmem S64x5632 .bf16) (harg9 : arg9.IsWhole) (arg10 : Memref sig .tc .vmem S64x5632 .bf16) (harg10 : arg10.IsWhole) (arg11 : Memref sig .tc .vmem S176x2048 .bf16) (harg11 : arg11.IsWhole) (arg12 : Memref sig .tc .vmem S2x1x1024 .f32) (harg12 : arg12.IsWhole) (arg13 : Memref sig .tc .vmem S2x144x1024 .f32) (harg13 : arg13.IsWhole) (arg14 : Memref sig .tc .vmem S4x512x512 .f32) (harg14 : arg14.IsWhole) (arg15 : Memref sig .tc .vmem S4x512x512 .f32) (harg15 : arg15.IsWhole) (arg16 : Memref sig .tc .vmem S4x1x512 .f32) (harg16 : arg16.IsWhole) (arg17 : Memref sig .tc .vmem S4x1x512 .f32) (harg17 : arg17.IsWhole) (x0 : Vec F S2x256x1024 .bf16) (x1 : Vec F S2x8192x256 .bf16) (x2 : Vec F S2x32x144x256 .bf16) (x3 : Vec F S64x5632 .f32) (x4 : Vec F S64x5632 .f32) (x5 : Vec F S176x2048 .f32) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) : sProp 𝕄)
   ⊢ wp Idealize.ShloMosaic.frame (wpE (defs₀ (F := F)) Variants.none (c : Thread nD τ) none) Set.univ (cc0_mla (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
     (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outMla x0 x1 x2 (i 1).val) ∗ owns (c : Thread nD τ) arg9 fullShare (k0_pay156 x3) ∗ owns (c : Thread nD τ) arg10 fullShare (k0_pay157 x4) ∗ owns (c : Thread nD τ) arg11 fullShare (k0_pay158 x5) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))) := by
  rw [cc0_mla_eq_skeleton]
  simp only [owns_pt c arg2 harg2, owns_pt c arg3 harg3, owns_pt c arg4 harg4, owns_pt c arg5 harg5, owns_pt c arg6 harg6, owns_pt c arg7 harg7, owns_pt c arg8 harg8, owns_pt c arg9 harg9, owns_pt c arg10 harg10, owns_pt c arg11 harg11, owns_pt c arg12 harg12, owns_pt c arg13 harg13, owns_pt c arg14 harg14, owns_pt c arg15 harg15, owns_pt c arg16 harg16, owns_pt c arg17 harg17]
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩⟩
  subst h2 h3 h4 h5 h6 h7
  iapply wp_wand $$ [H2 H3 H4 H5 H6 H7 H8 H9 H10 H11 H12 H13 H14 H15 H16 H17]
  · iapply body c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %u ⟨H2, H3, H4, H5, H6, H7, ⟨%g8, H8, %e8⟩, ⟨%g9, H9, %e9⟩, ⟨%g10, H10, %e10⟩, ⟨%g11, H11, %e11⟩, ⟨%g12, H12⟩, ⟨%g13, H13⟩, ⟨%g14, H14⟩, ⟨%g15, H15⟩, ⟨%g16, H16⟩, ⟨%g17, H17⟩⟩
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; exact e11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  iexists _; iexists _; isplitr; swap; · iexact H17
  ipureintro; rfl

variable (m : (ℓ : Loc nD τ sig) → Buf (Elt F) ℓ) (ρ : Dev nD → PrngReg)

/-! ## The staging and scratch buffers at a point -/
abbrev ms0_0 (t : Fin cfg0.N) : Memref sig .tc .vmem S2x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x32x144x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x5632 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x5632 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S176x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x5632 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x5632 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S176x2048 .bf16 := win0_9.stage (cfg0.slots t 9)
abbrev hs0_9 (t : Fin cfg0.N) : (ms0_9 t).IsWhole := hstage0_9 ((cfg0.slots t 9).cast nbuf0_9)
abbrev scM0_0 : Memref sig .tc .vmem S2x1x1024 .f32 := Memref.whole cc0_scratch0
abbrev scM0_1 : Memref sig .tc .vmem S2x144x1024 .f32 := Memref.whole cc0_scratch1
abbrev scM0_2 : Memref sig .tc .vmem S4x512x512 .f32 := Memref.whole cc0_scratch2
abbrev scM0_3 : Memref sig .tc .vmem S4x512x512 .f32 := Memref.whole cc0_scratch3
abbrev scM0_4 : Memref sig .tc .vmem S4x1x512 .f32 := Memref.whole cc0_scratch4
abbrev scM0_5 : Memref sig .tc .vmem S4x1x512 .f32 := Memref.whole cc0_scratch5

/-- The invariant between points: the scratch buffers at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the launch is proved over: each input's buffer keeps its block, each output's holds what the body leaves; the scratch is rewritten at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outMla (iblk m c 0 t) (iblk m c 1 t) (iblk m c 2 t) (grid0.coords t 1).val
    | ⟨7, _⟩ => k0_pay156 (iblk m c 3 t)
    | ⟨8, _⟩ => k0_pay157 (iblk m c 4 t)
    | ⟨9, _⟩ => k0_pay158 (iblk m c 5 t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outMla (iblk m c 0 t) (iblk m c 1 t) (iblk m c 2 t) (grid0.coords t 1).val := by dsimp only [dats]
theorem after0_7 (c : Dev nD) (t : Fin cfg0.N) : (dats m 0 c).after 7 t = k0_pay156 (iblk m c 3 t) := by dsimp only [dats]
theorem after0_8 (c : Dev nD) (t : Fin cfg0.N) : (dats m 0 c).after 8 t = k0_pay157 (iblk m c 4 t) := by dsimp only [dats]
theorem after0_9 (c : Dev nD) (t : Fin cfg0.N) : (dats m 0 c).after 9 t = k0_pay158 (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t))

set_option maxHeartbeats 1000000 in
/-- The body's triple at any point, from `bodyO`. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Pipeline.ΦA spec0 c from rfl, show (dats m 0 c).Φ t.castSucc = Pipeline.ΦA spec0 c from rfl, PhiA0_eq]
  iintro ⟨⟨⟨H12, H13, H14, H15, H16, H17⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply wp_wand $$ [H2 H3 H4 H5 H6 H7 H8 H9 H10 H11 H12 H13 H14 H15 H16 H17]
  · iapply bodyO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexact H16
    iexact H17
  iintro %u ⟨H2, H3, H4, H5, H6, H7, H8, H9, H10, H11, H12, H13, H14, H15, H16, H17⟩
  isplitl [Hg H12 H13 H14 H15 H16 H17]
  · isplitl [H12 H13 H14 H15 H16 H17]
    · isplitl [H12]; · iexact H12
      isplitl [H13]; · iexact H13
      isplitl [H14]; · iexact H14
      isplitl [H15]; · iexact H15
      isplitl [H16]; · iexact H16
      iexact H17
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The launch's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

set_option backward.isDefEq.respectTransparency.types false in
/-- The launch: every run ends with each array at what the body's outputs compose to, and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run leaves the argument arrays as launched. -/
theorem unchanged : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  frame_of m ρ (dats m) (A_eq m) (run_main m ρ)

/-- The frame: the arguments as launched and every counter zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.KernelIdeal

end
-- ==== Proof.Rest.lean ====
module

public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Pipeline.FrameBody
public import Idealize.ShloMosaic.Lib.Tactic
public import Idealize.ShloMosaic.Lib.Pipeline.TableIdle
public import Idealize.ShloMosaic.Lib.Claim

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The first feed-forward block's second call: it copies the first rows, computed before, to its first output block by a
transfer of its own, and computes the other blocks tile by tile. -/

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point does -/

/-- The copy is made at the first point only. -/
theorem copies : ∀ t : Fin cfg0.N, k0_cond1 (grid0.coords t) = 1#1 ↔ t.val = 0 :=
  (by decide +kernel : ∀ t : Fin grid0.N, k0_cond1 (grid0.coords t) = 1#1 ↔ t.val = 0)

/-- The tiles are computed from the second block on. -/
theorem computes : ∀ t : Fin cfg0.N, k0_cond2 (grid0.coords t) = 1#1 ↔ 11 ≤ t.val :=
  (by decide +kernel : ∀ t : Fin grid0.N, k0_cond2 (grid0.coords t) = 1#1 ↔ 11 ≤ t.val)

/-- A block's first tile. -/
theorem starts : ∀ t : Fin cfg0.N, k0_cond3 (grid0.coords t) = 1#1 ↔ t.val % 11 = 0 :=
  (by decide +kernel : ∀ t : Fin grid0.N, k0_cond3 (grid0.coords t) = 1#1 ↔ t.val % 11 = 0)

/-- All tiles but a block's last. -/
theorem adds : ∀ t : Fin cfg0.N, k0_cond4 (grid0.coords t) = 1#1 ↔ t.val % 11 ≤ 9 :=
  (by decide +kernel : ∀ t : Fin grid0.N, k0_cond4 (grid0.coords t) = 1#1 ↔ t.val % 11 ≤ 9)

/-- A block's last tile. -/
theorem ends : ∀ t : Fin cfg0.N, k0_cond5 (grid0.coords t) = 1#1 ↔ t.val % 11 = 10 :=
  (by decide +kernel : ∀ t : Fin grid0.N, k0_cond5 (grid0.coords t) = 1#1 ↔ t.val % 11 = 10)

/-- The body stores nothing after the first point of the first block. -/
theorem idle6 : ∀ t : Fin cfg0.N, cfg0.idle 6 (grid0.coords t) = decide (0 < t.val ∧ t.val < 11) := by decide +kernel

/-- The output's buffer holds nothing of its block at each block's first point only. -/
theorem fresh6 (t : Fin cfg0.N) : cfg0.fresh 6 t.val = decide (t.val % 11 = 0) :=
  Pipeline.Cfg.fresh_tab cfg0 6 (fun n => decide (n % 11 = 0)) rfl
    (by decide +kernel : ∀ t : Fin cfg0.N, decide ((t.val + 1) % 11 = 0) = ((cfg0.win 6).flush t || (cfg0.idle 6 (cfg0.grid.coords t) && decide (t.val % 11 = 0))))
    t.val (Nat.le_of_lt t.isLt)

/-! ## The body's runs -/

/-- The rows computed before, where they lie. -/
abbrev headM : Memref sig .tc .hbm S1024x2048 .f32 := Memref.whole main_arg6
/-- A buffer's contents, and the buffer held whole at them. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f
/-- The transfer's counter. -/
abbrev ownSem : Fin 1 → SemLoc sig := fun j => (![SemLoc.dma 12] : Fin 1 → SemLoc sig) j

set_option maxHeartbeats 1000000 in
/-- The first point: the rows computed before are copied to the output's buffer. -/
def runCopy (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (h1 : k0_cond1 i = 1#1) (h2 : ¬ k0_cond2 i = 1#1)
    (x0 : Vec F S1024x2048 .f32) (x1 x2 : Vec F S2048x512 .bf16) (x3 : Vec F S512x2048 .bf16) (x4 x5 : Vec F S1x2048 .f32) (fh : Held (F := F) c headM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ semVal ((c : Thread nD τ), SemLoc.dma 12) 0 ∗ held c headM fh ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L) ∗ semVal ((c : Thread nD τ), SemLoc.dma 12) 0 ∗ held c headM fh ∗ (∃ W', owes (c : Thread nD τ) 0 W')) -∗ K ⟨⟩))
          ⊢ wp frame (wpE (defs₀ (F := F)) Variants.none c none) Set.univ (cc0_ffn_ln i arg2 harg2 arg3 harg3 arg4 harg4 arg5 harg5 arg6 harg6 arg7 harg7 (Memref.whole main_arg6) (Memref.isWhole_whole _) arg9 harg9 cc0_scratch0) K } := by
  refine ⟨?_, fun W K => ?run⟩
  case run =>
    simp only [cc0_ffn_ln_eq_skeleton]; unfold cc0_ffn_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hq, Hh, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact h1 | sl_exact h2 )
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [Hq]; · iexact Hq
    isplitl [Hh]; · iexact Hh
    iexists _; iexact HW

set_option maxHeartbeats 1000000 in
/-- A block's first tile: the sum is started. -/
def runFirst (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (h1 : ¬ k0_cond1 i = 1#1) (h2 : k0_cond2 i = 1#1) (h3 : k0_cond3 i = 1#1) (h4 : k0_cond4 i = 1#1) (h5 : ¬ k0_cond5 i = 1#1)
    (x0 : Vec F S1024x2048 .f32) (x1 x2 : Vec F S2048x512 .bf16) (x3 : Vec F S512x2048 .bf16) (x4 x5 : Vec F S1x2048 .f32) (fh : Held (F := F) c headM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ semVal ((c : Thread nD τ), SemLoc.dma 12) 0 ∗ held c headM fh ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L) ∗ semVal ((c : Thread nD τ), SemLoc.dma 12) 0 ∗ held c headM fh ∗ (∃ W', owes (c : Thread nD τ) 0 W')) -∗ K ⟨⟩))
          ⊢ wp frame (wpE (defs₀ (F := F)) Variants.none c none) Set.univ (cc0_ffn_ln i arg2 harg2 arg3 harg3 arg4 harg4 arg5 harg5 arg6 harg6 arg7 harg7 (Memref.whole main_arg6) (Memref.isWhole_whole _) arg9 harg9 cc0_scratch0) K } := by
  refine ⟨?_, fun W K => ?run⟩
  case run =>
    simp only [cc0_ffn_ln_eq_skeleton]; unfold cc0_ffn_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hq, Hh, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact h1 | sl_exact h2 | sl_exact h3 | sl_exact h4 | sl_exact h5 )
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [Hq]; · iexact Hq
    isplitl [Hh]; · iexact Hh
    iexists _; iexact HW

set_option maxHeartbeats 1000000 in
/-- A middle tile: the sum is continued. -/
def runNext (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (h1 : ¬ k0_cond1 i = 1#1) (h2 : k0_cond2 i = 1#1) (h3 : ¬ k0_cond3 i = 1#1) (h4 : k0_cond4 i = 1#1) (h5 : ¬ k0_cond5 i = 1#1)
    (x0 : Vec F S1024x2048 .f32) (x1 x2 : Vec F S2048x512 .bf16) (x3 : Vec F S512x2048 .bf16) (x4 x5 : Vec F S1x2048 .f32) (xo : Vec F S1024x2048 .f32) (fh : Held (F := F) c headM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xo ∗ semVal ((c : Thread nD τ), SemLoc.dma 12) 0 ∗ held c headM fh ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L) ∗ semVal ((c : Thread nD τ), SemLoc.dma 12) 0 ∗ held c headM fh ∗ (∃ W', owes (c : Thread nD τ) 0 W')) -∗ K ⟨⟩))
          ⊢ wp frame (wpE (defs₀ (F := F)) Variants.none c none) Set.univ (cc0_ffn_ln i arg2 harg2 arg3 harg3 arg4 harg4 arg5 harg5 arg6 harg6 arg7 harg7 (Memref.whole main_arg6) (Memref.isWhole_whole _) arg9 harg9 cc0_scratch0) K } := by
  refine ⟨?_, fun W K => ?run⟩
  case run =>
    simp only [cc0_ffn_ln_eq_skeleton]; unfold cc0_ffn_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hq, Hh, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6
    sl_exec (disch := first | sl_exact h1 | sl_exact h2 | sl_exact h3 | sl_exact h4 | sl_exact h5 )
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [Hq]; · iexact Hq
    isplitl [Hh]; · iexact Hh
    iexists _; iexact HW

set_option maxHeartbeats 1000000 in
/-- A block's last tile: the sum is ended, the row mixed in and normalised. -/
def runLast (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (h1 : ¬ k0_cond1 i = 1#1) (h2 : k0_cond2 i = 1#1) (h3 : ¬ k0_cond3 i = 1#1) (h4 : ¬ k0_cond4 i = 1#1) (h5 : k0_cond5 i = 1#1)
    (x0 : Vec F S1024x2048 .f32) (x1 x2 : Vec F S2048x512 .bf16) (x3 : Vec F S512x2048 .bf16) (x4 x5 : Vec F S1x2048 .f32) (xo : Vec F S1024x2048 .f32) (fh : Held (F := F) c headM) :
    { L : List (View.Piece (Elt F) S1024x2048 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xo ∗ semVal ((c : Thread nD τ), SemLoc.dma 12) 0 ∗ held c headM fh ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L) ∗ semVal ((c : Thread nD τ), SemLoc.dma 12) 0 ∗ held c headM fh ∗ (∃ W', owes (c : Thread nD τ) 0 W')) -∗ K ⟨⟩))
          ⊢ wp frame (wpE (defs₀ (F := F)) Variants.none c none) Set.univ (cc0_ffn_ln i arg2 harg2 arg3 harg3 arg4 harg4 arg5 harg5 arg6 harg6 arg7 harg7 (Memref.whole main_arg6) (Memref.isWhole_whole _) arg9 harg9 cc0_scratch0) K } := by
  refine ⟨?_, fun W K => ?run⟩
  case run =>
    simp only [cc0_ffn_ln_eq_skeleton]; unfold cc0_ffn_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hq, Hh, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf6
    sl_exec (disch := first | sl_exact h1 | sl_exact h2 | sl_exact h3 | sl_exact h4 | sl_exact h5 )
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [Hq]; · iexact Hq
    isplitl [Hh]; · iexact Hh
    iexists _; iexact HW

/-- The other points of the first block do nothing. -/
theorem runIdle (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (h1 : ¬ k0_cond1 i = 1#1) (h2 : ¬ k0_cond2 i = 1#1) (K : PUnit → sProp 𝕄) :
    K ⟨⟩ ⊢ wp frame (wpE (defs₀ (F := F)) Variants.none c none) Set.univ (cc0_ffn_ln i arg2 harg2 arg3 harg3 arg4 harg4 arg5 harg5 arg6 harg6 arg7 harg7 (Memref.whole main_arg6) (Memref.isWhole_whole _) arg9 harg9 cc0_scratch0) K := by
  simp only [cc0_ffn_ln_eq_skeleton]; unfold cc0_ffn_ln_skel
  iintro Hk
  sl_exec (disch := first | sl_exact h1 | sl_exact h2)
  sl_step
  iexact Hk

/-! ## What the runs leave -/

/-- A buffer of the output's, to state its contents by. -/
abbrev outV : View sig .tc .vmem S1024x2048 .f32 := (Memref.whole cc0_stg6_0 : Memref sig .tc .vmem S1024x2048 .f32).view

section
variable (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg9 : Memref sig .tc .vmem S1024x2048 .f32) (harg9 : arg9.IsWhole) (x0 : Vec F S1024x2048 .f32) (x1 x2 : Vec F S2048x512 .bf16) (x3 : Vec F S512x2048 .bf16) (x4 x5 : Vec F S1x2048 .f32) (xo : Vec F S1024x2048 .f32) (fh : Held (F := F) c headM)

/-- What is left there. -/
def outCopy (h1 : k0_cond1 i = 1#1) (h2 : ¬ k0_cond2 i = 1#1) : Vec F S1024x2048 .f32 :=
  outV.read (Elt F) (outV.writes (Elt F) outV.junk (runCopy c i arg2 harg2 arg3 harg3 arg4 harg4 arg5 harg5 arg6 harg6 arg7 harg7 arg9 harg9 h1 h2 x0 x1 x2 x3 x4 x5 fh).1)

/-- The stores cover the block. -/
theorem coverCopy (h1 : k0_cond1 i = 1#1) (h2 : ¬ k0_cond2 i = 1#1) (y : S1024x2048.Idx) : ∃ pc ∈ (runCopy c i arg2 harg2 arg3 harg3 arg4 harg4 arg5 harg5 arg6 harg6 arg7 harg7 arg9 harg9 h1 h2 x0 x1 x2 x3 x4 x5 fh).1, y ∈ pc.1.set :=
  View.cover_of_tiledL (runCopy c i arg2 harg2 arg3 harg3 arg4 harg4 arg5 harg5 arg6 harg6 arg7 harg7 arg9 harg9 h1 h2 x0 x1 x2 x3 x4 x5 fh).1 S1024x2048.size (by sl_kernel_rfl) y

/-- What is left there. -/
def outFirst (h1 : ¬ k0_cond1 i = 1#1) (h2 : k0_cond2 i = 1#1) (h3 : k0_cond3 i = 1#1) (h4 : k0_cond4 i = 1#1) (h5 : ¬ k0_cond5 i = 1#1) : Vec F S1024x2048 .f32 :=
  outV.read (Elt F) (outV.writes (Elt F) outV.junk (runFirst c i arg2 harg2 arg3 harg3 arg4 harg4 arg5 harg5 arg6 harg6 arg7 harg7 arg9 harg9 h1 h2 h3 h4 h5 x0 x1 x2 x3 x4 x5 fh).1)

/-- The stores cover the block. -/
theorem coverFirst (h1 : ¬ k0_cond1 i = 1#1) (h2 : k0_cond2 i = 1#1) (h3 : k0_cond3 i = 1#1) (h4 : k0_cond4 i = 1#1) (h5 : ¬ k0_cond5 i = 1#1) (y : S1024x2048.Idx) : ∃ pc ∈ (runFirst c i arg2 harg2 arg3 harg3 arg4 harg4 arg5 harg5 arg6 harg6 arg7 harg7 arg9 harg9 h1 h2 h3 h4 h5 x0 x1 x2 x3 x4 x5 fh).1, y ∈ pc.1.set :=
  View.cover_of_tiledL (runFirst c i arg2 harg2 arg3 harg3 arg4 harg4 arg5 harg5 arg6 harg6 arg7 harg7 arg9 harg9 h1 h2 h3 h4 h5 x0 x1 x2 x3 x4 x5 fh).1 S1024x2048.size (by sl_kernel_rfl) y

/-- What is left there. -/
def outNext (h1 : ¬ k0_cond1 i = 1#1) (h2 : k0_cond2 i = 1#1) (h3 : ¬ k0_cond3 i = 1#1) (h4 : k0_cond4 i = 1#1) (h5 : ¬ k0_cond5 i = 1#1) : Vec F S1024x2048 .f32 :=
  outV.read (Elt F) (outV.writes (Elt F) outV.junk (runNext c i arg2 harg2 arg3 harg3 arg4 harg4 arg5 harg5 arg6 harg6 arg7 harg7 arg9 harg9 h1 h2 h3 h4 h5 x0 x1 x2 x3 x4 x5 xo fh).1)

/-- The stores cover the block. -/
theorem coverNext (h1 : ¬ k0_cond1 i = 1#1) (h2 : k0_cond2 i = 1#1) (h3 : ¬ k0_cond3 i = 1#1) (h4 : k0_cond4 i = 1#1) (h5 : ¬ k0_cond5 i = 1#1) (y : S1024x2048.Idx) : ∃ pc ∈ (runNext c i arg2 harg2 arg3 harg3 arg4 harg4 arg5 harg5 arg6 harg6 arg7 harg7 arg9 harg9 h1 h2 h3 h4 h5 x0 x1 x2 x3 x4 x5 xo fh).1, y ∈ pc.1.set :=
  View.cover_of_tiledL (runNext c i arg2 harg2 arg3 harg3 arg4 harg4 arg5 harg5 arg6 harg6 arg7 harg7 arg9 harg9 h1 h2 h3 h4 h5 x0 x1 x2 x3 x4 x5 xo fh).1 S1024x2048.size (by sl_kernel_rfl) y

/-- What is left there. -/
def outLast (h1 : ¬ k0_cond1 i = 1#1) (h2 : k0_cond2 i = 1#1) (h3 : ¬ k0_cond3 i = 1#1) (h4 : ¬ k0_cond4 i = 1#1) (h5 : k0_cond5 i = 1#1) : Vec F S1024x2048 .f32 :=
  outV.read (Elt F) (outV.writes (Elt F) outV.junk (runLast c i arg2 harg2 arg3 harg3 arg4 harg4 arg5 harg5 arg6 harg6 arg7 harg7 arg9 harg9 h1 h2 h3 h4 h5 x0 x1 x2 x3 x4 x5 xo fh).1)

/-- The stores cover the block. -/
theorem coverLast (h1 : ¬ k0_cond1 i = 1#1) (h2 : k0_cond2 i = 1#1) (h3 : ¬ k0_cond3 i = 1#1) (h4 : ¬ k0_cond4 i = 1#1) (h5 : k0_cond5 i = 1#1) (y : S1024x2048.Idx) : ∃ pc ∈ (runLast c i arg2 harg2 arg3 harg3 arg4 harg4 arg5 harg5 arg6 harg6 arg7 harg7 arg9 harg9 h1 h2 h3 h4 h5 x0 x1 x2 x3 x4 x5 xo fh).1, y ∈ pc.1.set :=
  View.cover_of_tiledL (runLast c i arg2 harg2 arg3 harg3 arg4 harg4 arg5 harg5 arg6 harg6 arg7 harg7 arg9 harg9 h1 h2 h3 h4 h5 x0 x1 x2 x3 x4 x5 xo fh).1 S256x2048.size (by sl_kernel_rfl) y
end
/-! ## The buffers at a point -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .f32 := win0_6.stage (cfg0.slots t 6)
abbrev hs0_6 (t : Fin cfg0.N) : (ms0_6 t).IsWhole := hstage0_6 ((cfg0.slots t 6).cast nbuf0_6)

/-- What the first point leaves. -/
def copyAt (c : Dev nD) (t : Fin cfg0.N) (h : t.val = 0) : Vec F S1024x2048 .f32 :=
  outCopy c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (V m c main_arg6) ((copies t).mpr h) (fun h' => by have := (computes t).mp h'; omega)

/-- What a block's first tile leaves. -/
def firstAt (c : Dev nD) (t : Fin cfg0.N) (h : 11 ≤ t.val) (h0 : t.val % 11 = 0) : Vec F S1024x2048 .f32 :=
  outFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (V m c main_arg6) (fun h' => by have := (copies t).mp h'; omega) ((computes t).mpr h) ((starts t).mpr h0) ((adds t).mpr (by omega)) (fun h' => by have := (ends t).mp h'; omega)

/-- What a middle tile leaves, of what it finds. -/
def nextAt (c : Dev nD) (t : Fin cfg0.N) (h : 11 ≤ t.val) (h0 : ¬ t.val % 11 = 0) (h9 : t.val % 11 ≤ 9) (xo : Vec F S1024x2048 .f32) : Vec F S1024x2048 .f32 :=
  outNext c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) xo (V m c main_arg6) (fun h' => by have := (copies t).mp h'; omega) ((computes t).mpr h) (fun h' => h0 ((starts t).mp h')) ((adds t).mpr h9) (fun h' => by have := (ends t).mp h'; omega)

/-- What a last tile leaves, of what it finds. -/
def endAt (c : Dev nD) (t : Fin cfg0.N) (h : 11 ≤ t.val) (h9 : t.val % 11 = 10) (xo : Vec F S1024x2048 .f32) : Vec F S1024x2048 .f32 :=
  outLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) xo (V m c main_arg6) (fun h' => by have := (copies t).mp h'; omega) ((computes t).mpr h) (fun h' => by have := (starts t).mp h'; omega) (fun h' => by have := (adds t).mp h'; omega) ((ends t).mpr h9)

/-- What the output's buffer holds after each point. -/
def left (c : Dev nD) : (n : ℕ) → n < cfg0.N → Vec F S1024x2048 .f32
  | 0, hn => copyAt m c ⟨0, hn⟩ rfl
  | n + 1, hn =>
    if h : 11 ≤ n + 1 then
      if h0 : (n + 1) % 11 = 0 then firstAt m c ⟨n + 1, hn⟩ h h0
      else if h9 : (n + 1) % 11 ≤ 9 then nextAt m c ⟨n + 1, hn⟩ h h0 h9 (left c n (by omega))
      else endAt m c ⟨n + 1, hn⟩ h (by show (n + 1) % 11 = 10; omega) (left c n (by omega))
    else left c n (by omega)

/-- The first point leaves the copy. -/
theorem left_copy (c : Dev nD) (t : Fin cfg0.N) (h : t.val = 0) : left m c t.val t.isLt = copyAt m c t h := by
  obtain ⟨n, hn⟩ := t
  cases n with
  | zero => rfl
  | succ n => exact absurd h (by simp)

/-- The rest of the first block keeps it. -/
theorem left_idle (c : Dev nD) (t : Fin cfg0.N) (h : ¬ t.val = 0) (h' : ¬ 11 ≤ t.val) :
    left m c t.val t.isLt = left m c (t.val - 1) (Nat.lt_of_le_of_lt (Nat.sub_le _ _) t.isLt) := by
  obtain ⟨n, hn⟩ := t
  cases n with
  | zero => exact absurd rfl h
  | succ n => exact dif_neg h'

/-- A first tile starts anew. -/
theorem left_first (c : Dev nD) (t : Fin cfg0.N) (h : 11 ≤ t.val) (h0 : t.val % 11 = 0) : left m c t.val t.isLt = firstAt m c t h h0 := by
  obtain ⟨n, hn⟩ := t
  cases n with
  | zero => exact absurd h (by simp)
  | succ n => exact (dif_pos h).trans (dif_pos h0)

/-- A middle tile goes on. -/
theorem left_next (c : Dev nD) (t : Fin cfg0.N) (h : 11 ≤ t.val) (h0 : ¬ t.val % 11 = 0) (h9 : t.val % 11 ≤ 9) :
    left m c t.val t.isLt = nextAt m c t h h0 h9 (left m c (t.val - 1) (Nat.lt_of_le_of_lt (Nat.sub_le _ _) t.isLt)) := by
  obtain ⟨n, hn⟩ := t
  cases n with
  | zero => exact absurd h (by simp)
  | succ n => exact (dif_pos h).trans ((dif_neg h0).trans (dif_pos h9))

/-- A last tile ends. -/
theorem left_end (c : Dev nD) (t : Fin cfg0.N) (h : 11 ≤ t.val) (h9 : t.val % 11 = 10) :
    left m c t.val t.isLt = endAt m c t h h9 (left m c (t.val - 1) (Nat.lt_of_le_of_lt (Nat.sub_le _ _) t.isLt)) := by
  obtain ⟨n, hn⟩ := t
  cases n with
  | zero => exact absurd h (by simp)
  | succ n => exact (dif_pos h).trans ((dif_neg (by dsimp only at h9; omega)).trans (dif_neg (by dsimp only at h9; omega)))

/-! ## The launch -/

/-- The counter is the body's own. -/
theorem ownSem_facts : Pipeline.OwnSemFacts spec0 ownSem := by decide

/-- The counter at zero. -/
theorem ownSem_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 12) 0) := by
  rw [Pipeline.ownSems0_eq_of_list c ownSem [0] (by decide) (by decide)]; rfl

/-- The array the body reads itself. -/
def headRef : Finset (Ref sig .tc) := {main_arg6}

/-- It is no window's. -/
theorem headRef_sub : headRef ⊆ Pipeline.restRefs sig spec0 := by decide

/-- That array, held as launched. -/
theorem headRef_eq (c : Dev nD) :
    (bigSep headRef (fun b => ((c : Thread nD τ).loc b) ↦{fullShare} V m c b) : sProp 𝕄) = iprop(held c headM (V m c main_arg6)) := by
  rw [BI.bigSep_eq_bigSepL_of_eq [main_arg6] (by decide) (by decide)]; rfl

/-- What holds between points: the generator's register, the counter at zero and the rows computed before. -/
theorem inv_eq (c : Dev nD) :
    (Pipeline.ΦD ownSem spec0 headRef (V m) c : sProp 𝕄)
      = iprop(BI.emp ∗ (∃ r, prngReg c r) ∗ iprop(semVal ((c : Thread nD τ), SemLoc.dma 12) 0) ∗ iprop(held c headM (V m c main_arg6))) := by
  rw [Pipeline.ΦD_eq, scopedRest0_eq, ownSem_eq, headRef_eq]

/-- What the launch is proved over. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left m c t.val t.isLt
  Φ _ := Pipeline.ΦD ownSem spec0 headRef (V m) c
  q _ := fullShare
  owed _ := 0

/-- The arrays are those the region finds. -/
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = left m c t.val t.isLt := by dsimp only [dats]

/-- Points that store nothing leave what was there. -/
theorem carry6 (c : Dev nD) (t : Fin cfg0.N) (h : t.val ≠ 0) (hi : cfg0.idle 6 (grid0.coords t) = true) (_ : cfg0.fresh 6 t.val = false) :
    (dats m 0 c).after 6 t = (dats m 0 c).after 6 ⟨t.val - 1, by omega⟩ := by
  rw [idle6, decide_eq_true_eq] at hi
  rw [after0_6, after0_6]
  exact left_idle m c t h (by omega)

/-- Within a block the output's buffer holds what the point before left. -/
theorem before0_6 (c : Dev nD) (t : Fin cfg0.N) (h : ¬ t.val % 11 = 0) (d) :
    (dats m 0 c).before 6 t d = left m c (t.val - 1) (Nat.lt_of_le_of_lt (Nat.sub_le _ _) t.isLt) := by
  rw [Dat.before_out_traj _ 6 rfl (fun _ _ => rfl) (carry6 m c) t.val t rfl d,
    if_neg (by rw [fresh6, decide_eq_true_eq]; exact h)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- The inputs' buffers keep their blocks. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]; try rfl
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]; try rfl
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]; try rfl
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]; try rfl
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]; try rfl
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]; try rfl

/-- Where the body stores, the output's buffer is left at its contents. -/
theorem leaves0_6 (c : Dev nD) (t : Fin cfg0.N) (h : t.val = 0 ∨ 11 ≤ t.val) :
    (dats m 0 c).leavesExact 6 t = owns (c : Thread nD τ) (ms0_6 t) fullShare (left m c t.val t.isLt) := by
  unfold Dat.leavesExact
  rw [show cfg0.idle 6 (cfg0.grid.coords t) = false from (idle6 t).trans (decide_eq_false (by omega)), after0_6]; try rfl

/-- Where it stores nothing, the buffer may be left as found. -/
theorem leaves0_6_idle (c : Dev nD) (t : Fin cfg0.N) (h : ¬ t.val = 0) (h' : ¬ 11 ≤ t.val) :
    owns (c : Thread nD τ) (ms0_6 t) fullShare (left m c (t.val - 1) (Nat.lt_of_le_of_lt (Nat.sub_le _ _) t.isLt)) ⊢ (dats (F := F) m 0 c).leavesExact 6 t := by
  unfold Dat.leavesExact
  rw [show cfg0.idle 6 (cfg0.grid.coords t) = true from (idle6 t).trans (decide_eq_true (by omega))]
  cases (cfg0.win 6).flush t with
  | true => dsimp only; rw [after0_6, left_idle m c t h h']
  | false =>
    dsimp only
    iintro H
    iexists (left m c t.val t.isLt)
    rw [before0_6 m c t (by omega)]
    iexact H

set_option maxHeartbeats 3200000 in
/-- A point's body does what the launch is proved over. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl]
  rw [show (dats m 0 c).Φ t.castSucc = Pipeline.ΦD ownSem spec0 headRef (V m) c from rfl, inv_eq]
  unfold Dat.owesAt Pipeline.owesWithin
  rw [show (dats m 0 c).owed t.castSucc = 0 from rfl, show (dats m 0 c).owed t.succ = 0 from rfl]
  rw [leaves0_0, leaves0_1, leaves0_2, leaves0_3, leaves0_4, leaves0_5]
  rcases (by omega : t.val = 0 ∨ (¬ t.val = 0 ∧ ¬ 11 ≤ t.val) ∨ (11 ≤ t.val ∧ t.val % 11 = 0) ∨ (11 ≤ t.val ∧ ¬ t.val % 11 = 0 ∧ t.val % 11 ≤ 9) ∨ (11 ≤ t.val ∧ t.val % 11 = 10))
    with ha | ⟨ha, hb⟩ | ⟨hb, h0⟩ | ⟨hb, h0, h9⟩ | ⟨hb, h9⟩
  · rw [leaves0_6 m c t (Or.inl ha), left_copy m c t ha]
    unfold copyAt outCopy
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runCopy c (grid0.coords t) _ _ _ _ _ _ _ _ _ _ _ _ _ _ ((copies t).mpr ha) (fun h' => by have := (computes t).mp h'; omega) (iblk m c 0 t) (iblk m c 1 t) (iblk m c 2 t) (iblk m c 3 t) (iblk m c 4 t) (iblk m c 5 t) (V m c main_arg6)).2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hq]; · iexact Hq
    isplitl [Hh]; · iexact Hh
    isplitl [HW]; · iexact HW
    iintro ⟨H0, H1, H2, H3, H4, H5, ⟨%e6, H6⟩, Hq, Hh, ⟨%W', HW'⟩⟩
    isplitl [He Hg Hq Hh]
    · isplitl [He]; · iexact He
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverCopy c (grid0.coords t) _ _ _ _ _ _ _ _ _ _ _ _ _ _ _ _ _ _ _ _ (V m c main_arg6) _ _)
  · simp only [before0_6 m c t (by omega)]
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (runIdle c (grid0.coords t) _ _ _ _ _ _ _ _ _ _ _ _ _ _ (fun h' => by have := (copies t).mp h'; omega) (fun h' => by have := (computes t).mp h'; omega) _)
    isplitl [He Hg Hq Hh]
    · isplitl [He]; · iexact He
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iapply (leaves0_6_idle m c t ha hb); iexact H6
  · rw [leaves0_6 m c t (Or.inr hb), left_first m c t hb h0]
    unfold firstAt outFirst
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ (fun h' => by have := (copies t).mp h'; omega) ((computes t).mpr hb) ((starts t).mpr h0) ((adds t).mpr (by omega)) (fun h' => by have := (ends t).mp h'; omega) (iblk m c 0 t) (iblk m c 1 t) (iblk m c 2 t) (iblk m c 3 t) (iblk m c 4 t) (iblk m c 5 t) (V m c main_arg6)).2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hq]; · iexact Hq
    isplitl [Hh]; · iexact Hh
    isplitl [HW]; · iexact HW
    iintro ⟨H0, H1, H2, H3, H4, H5, ⟨%e6, H6⟩, Hq, Hh, ⟨%W', HW'⟩⟩
    isplitl [He Hg Hq Hh]
    · isplitl [He]; · iexact He
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c (grid0.coords t) _ _ _ _ _ _ _ _ _ _ _ _ _ _ _ _ _ _ _ _ (V m c main_arg6) _ _ _ _ _)
  · rw [leaves0_6 m c t (Or.inr hb), left_next m c t hb h0 h9]
    simp only [before0_6 m c t h0]
    unfold nextAt outNext
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runNext c (grid0.coords t) _ _ _ _ _ _ _ _ _ _ _ _ _ _ (fun h' => by have := (copies t).mp h'; omega) ((computes t).mpr hb) (fun h' => by have := (starts t).mp h'; omega) ((adds t).mpr (by omega)) (fun h' => by have := (ends t).mp h'; omega) (iblk m c 0 t) (iblk m c 1 t) (iblk m c 2 t) (iblk m c 3 t) (iblk m c 4 t) (iblk m c 5 t) (left m c (t.val - 1) (Nat.lt_of_le_of_lt (Nat.sub_le _ _) t.isLt)) (V m c main_arg6)).2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hq]; · iexact Hq
    isplitl [Hh]; · iexact Hh
    isplitl [HW]; · iexact HW
    iintro ⟨H0, H1, H2, H3, H4, H5, ⟨%e6, H6⟩, Hq, Hh, ⟨%W', HW'⟩⟩
    isplitl [He Hg Hq Hh]
    · isplitl [He]; · iexact He
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverNext c (grid0.coords t) _ _ _ _ _ _ _ _ _ _ _ _ _ _ _ _ _ _ _ _ _ (V m c main_arg6) _ _ _ _ _)
  · rw [leaves0_6 m c t (Or.inr hb), left_end m c t hb h9]
    simp only [before0_6 m c t (by omega)]
    unfold endAt outLast
    iintro ⟨⟨He, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((runLast c (grid0.coords t) _ _ _ _ _ _ _ _ _ _ _ _ _ _ (fun h' => by have := (copies t).mp h'; omega) ((computes t).mpr hb) (fun h' => by have := (starts t).mp h'; omega) (fun h' => by have := (adds t).mp h'; omega) ((ends t).mpr (by omega)) (iblk m c 0 t) (iblk m c 1 t) (iblk m c 2 t) (iblk m c 3 t) (iblk m c 4 t) (iblk m c 5 t) (left m c (t.val - 1) (Nat.lt_of_le_of_lt (Nat.sub_le _ _) t.isLt)) (V m c main_arg6)).2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hq]; · iexact Hq
    isplitl [Hh]; · iexact Hh
    isplitl [HW]; · iexact HW
    iintro ⟨H0, H1, H2, H3, H4, H5, ⟨%e6, H6⟩, Hq, Hh, ⟨%W', HW'⟩⟩
    isplitl [He Hg Hq Hh]
    · isplitl [He]; · iexact He
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverLast c (grid0.coords t) _ _ _ _ _ _ _ _ _ _ _ _ _ _ _ _ _ _ _ _ _ (V m c main_arg6) _ _ _ _ _)

/-- The body the launch runs at a point. -/
theorem defs₀_row (t : Fin cfg0.N) : defs₀ (F := F) .tc cfg0.body (cfg0.bodyArgs t (cfg0.slots t)) = bodyAt0 t := by
  unfold defs₀; rw [Defs.onTc_tc]

/-- The launch's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The host's casts come before the launch. -/
theorem main_split (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array at what the points' outputs compose to, and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownSem defs₀ Variants.none ownSem_facts headRef headRef_sub m ρ main
    (hbody := fun c => (body_obligation m c).loose) (hshare := fun c => (dats m 0 c).share_full fun _ => rfl)
    (howed := fun _ _ => rfl) (V := V m) (hmain := main_split m Variants.none) (hA := A_eq m)
    (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the argument arrays as launched. -/
theorem unchanged : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c))), ((h c).2 main_arg6 (Pipeline.mem_restRefs_of main_arg6 (by decide) (by decide))).trans (V_main_arg6 m c)⟩) (run_main m ρ)

/-- The frame: the arguments as launched and every counter zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.Kernel4Ideal

end
-- ==== Proof.Bits.Rest.lean ====
module

public import proofs.«01_k».proof.Defs
public import proofs.«01_k».proof.Proof.Rest
public import proofs.«01_k».proof.Proof.Gen.Kernel4

@[expose] public section

set_option maxRecDepth 65536

noncomputable section

namespace Cert.Proof.Kernel4

open Idealize.ShloMosaic Idealize.ShloMosaic.TcCoe Idealize.SL.Sem

/-! The first feed-forward block after its first rows has no named constant, so its idealization is the same program:
the frame, proved for any floats, is the kernel's at its own floats. -/

/-- The two kernel bodies are one. -/
theorem body_eq : Cert.Kernel4.cc0_ffn_ln (F := Bits) = Cert.Kernel4Ideal.cc0_ffn_ln (F := Bits) := rfl

/-- So are the functions they are the only case of. -/
theorem defs₀_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) =>
    dsimp only
    rw [body_eq]
    exact congrFun rfl _
  | ⟨_ + 1, h⟩, _ => exact absurd h (Nat.not_lt.2 (Nat.le_add_left _ _))

/-- So are the functions of the whole programs. -/
theorem defs_eq : Cert.Kernel4.defs (F := Bits) = Cert.Kernel4Ideal.defs (F := Bits) := congrArg (Pipeline.defs _) defs₀_eq

/-- So are the programs. -/
theorem main_eq : Cert.Kernel4.main (F := Bits) = Cert.Kernel4Ideal.main (F := Bits) := rfl

/-- The frame of the first feed-forward block after its first rows. -/
theorem frame : Cert.quiescent_Kernel4 := fun m ρ _ => by
  have h := Cert.Proof.Kernel4Ideal.frame (F := Bits) m ρ
  rw [← defs_eq, ← main_eq] at h
  exact h

end Cert.Proof.Kernel4

end
-- ==== Proof.MlaAt.lean ====
module

public import proofs.«01_k».proof.Proof.End
public import Idealize.ShloMosaic.Lib.Pointwise

@[expose] public section

set_option maxRecDepth 16384

noncomputable section

namespace Cert.Proof.KernelIdeal

open Cert.KernelIdeal Cert.KernelIdeal.Gen
open Idealize.ShloMosaic

/-! The steps of the kernel's loop read at one query and one row, over the extended reals. -/

/-- The pattern of minus infinity. -/
theorem ofBits_neg_inf : Ideal.ofBits .f32 0xFF800000#32 = ⊥ := by
  simp [Ideal.ofBits, Ideal.ieee]

/-- The mask: a key no later than the query keeps its score. -/
theorem mask_at (a b : ℕ) (x : EReal) (ha : a < 1024) (hb : b < 1024) :
    Scalar.select (IntOp.cmpi .sle (BitVec.ofNat 32 a) (BitVec.ofNat 32 b)) x (Named.named (F := Ideal) (φ := .f32) κ "mask" 0xF149F2CA#32)
      = if a ≤ b then x else ⊥ := by
  have e : Named.named (F := Ideal) (φ := .f32) κ "mask" 0xF149F2CA#32 = (⊥ : EReal) := IdealRules.named_const.ideal_named_scalar _ _ _ _ rfl
  rw [e, WordCmp.cmpi_sle_ofNat (by omega) (by omega)]
  by_cases h : a ≤ b <;> simp [h, Scalar.select]

theorem saP_at (k : Vec Ideal S1x512x256 .bf16) (q : Vec Ideal S1x256x512 .bf16) (κ r : Fin 512) :
    saP k q (ix3 (0 : Fin 1) κ r) = ∑ j : Fin 256, k (ix3 (0 : Fin 1) κ j) * q (ix3 (0 : Fin 1) j r) := by
  pointwise [saP, k0_pay3, k0_pay2]

theorem maP_at (k : Vec Ideal S1x512x256 .bf16) (q : Vec Ideal S1x256x512 .bf16) (r : Fin 512) :
    maP k q (ix3 (0 : Fin 1) (0 : Fin 1) r) = Finset.univ.fold max ⊥ fun κ : Fin 512 => ∑ j : Fin 256, k (ix3 (0 : Fin 1) κ j) * q (ix3 (0 : Fin 1) j r) := by
  rw [← ofBits_neg_inf]
  pointwise [maP, k0_pay4, k0_pay2]

theorem mP_at (ma m : Vec Ideal S1x1x512 .f32) (r : Fin 512) :
    mP ma m (ix3 (0 : Fin 1) (0 : Fin 1) r) = max (m (ix3 (0 : Fin 1) (0 : Fin 1) r)) (ma (ix3 (0 : Fin 1) (0 : Fin 1) r)) := by
  pointwise [mP, k0_pay10, k0_pay6, k0_pay5]

theorem accP_at (sa : Vec Ideal S1x512x512 .f32) (ma m : Vec Ideal S1x1x512 .f32) (v0 v1 : Vec Ideal S1x1x144x256 .bf16)
    (acc : Vec Ideal S1x144x512 .f32) (d : Fin 144) (r : Fin 512) :
    accP sa ma m v0 v1 acc (ix3 (0 : Fin 1) d r)
      = Ideal.exp2 (m (ix3 (0 : Fin 1) (0 : Fin 1) r) - max (m (ix3 (0 : Fin 1) (0 : Fin 1) r)) (ma (ix3 (0 : Fin 1) (0 : Fin 1) r))) * acc (ix3 (0 : Fin 1) d r)
        + ((∑ x : Fin 256, v0 (ix4 (0 : Fin 1) (0 : Fin 1) d x) * Ideal.exp2 (sa (ix3 (0 : Fin 1) (⟨x.val, by omega⟩ : Fin 512) r)
              - max (m (ix3 (0 : Fin 1) (0 : Fin 1) r)) (ma (ix3 (0 : Fin 1) (0 : Fin 1) r))))
          + ∑ x : Fin 256, v1 (ix4 (0 : Fin 1) (0 : Fin 1) d x) * Ideal.exp2 (sa (ix3 (0 : Fin 1) (⟨256 + x.val, by omega⟩ : Fin 512) r)
              - max (m (ix3 (0 : Fin 1) (0 : Fin 1) r)) (ma (ix3 (0 : Fin 1) (0 : Fin 1) r)))) := by
  pointwise [accP, k0_pay9, k0_pay8, k0_pay7, k0_pay6, k0_pay5]
  rfl

theorem mD_at (sa : Vec Ideal S1x512x512 .f32) (m : Vec Ideal S1x1x512 .f32) (r : Fin 512) :
    mD sa m (ix3 (0 : Fin 1) (0 : Fin 1) r) = max (m (ix3 (0 : Fin 1) (0 : Fin 1) r))
      (Finset.univ.fold max ⊥ fun x : Fin 512 => if x.val ≤ r.val then sa (ix3 (0 : Fin 1) x r) else ⊥) := by
  pointwise [mD, k0_pay218, k0_pay212, k0_pay211, k0_pay210]
  have e : ∀ x : Fin 512, _ := fun x => mask_at x.val r.val (sa (ix3 (0 : Fin 1) x r)) (by omega) (by omega)
  simp only [← ofBits_neg_inf] at e ⊢
  simp only [← e]

theorem accD_at (sa : Vec Ideal S1x512x512 .f32) (m : Vec Ideal S1x1x512 .f32) (v0 v1 : Vec Ideal S1x1x144x256 .bf16)
    (acc : Vec Ideal S1x144x512 .f32) (d : Fin 144) (r : Fin 512) :
    accD sa m v0 v1 acc (ix3 (0 : Fin 1) d r)
      = Ideal.exp2 (m (ix3 (0 : Fin 1) (0 : Fin 1) r) - mD sa m (ix3 (0 : Fin 1) (0 : Fin 1) r)) * acc (ix3 (0 : Fin 1) d r)
        + ((∑ x : Fin 256, v0 (ix4 (0 : Fin 1) (0 : Fin 1) d x) * Ideal.exp2 ((if x.val ≤ r.val then sa (ix3 (0 : Fin 1) (⟨x.val, by omega⟩ : Fin 512) r) else ⊥)
              - mD sa m (ix3 (0 : Fin 1) (0 : Fin 1) r)))
          + ∑ x : Fin 256, v1 (ix4 (0 : Fin 1) (0 : Fin 1) d x) * Ideal.exp2 ((if 256 + x.val ≤ r.val then sa (ix3 (0 : Fin 1) (⟨256 + x.val, by omega⟩ : Fin 512) r) else ⊥)
              - mD sa m (ix3 (0 : Fin 1) (0 : Fin 1) r))) := by
  rw [mD_at]
  pointwise [accD, k0_pay217, k0_pay213, k0_pay214, k0_pay215, k0_pay216, k0_pay212, k0_pay211, k0_pay210]
  have e : ∀ x : Fin 512, _ := fun x => mask_at x.val r.val (sa (ix3 (0 : Fin 1) x r)) (by omega) (by omega)
  have e1 : ∀ x : Fin 256, _ := fun x => mask_at x.val r.val (sa (ix3 (0 : Fin 1) (⟨x.val, by omega⟩ : Fin 512) r)) (by omega) (by omega)
  have e2 : ∀ x : Fin 256, _ := fun x => mask_at (256 + x.val) r.val (sa (ix3 (0 : Fin 1) (⟨256 + x.val, by omega⟩ : Fin 512) r)) (by omega) (by omega)
  simp only [← ofBits_neg_inf] at e e1 e2 ⊢
  simp only [← e, ← e1, ← e2]
  rfl

theorem m0_at (h u : Fin 2) (j : S1x1x512.Idx) : mW (F := Ideal) (m0P (F := Ideal)) h u j = (⊥ : EReal) := by
  pointwise [mW, m0P, k0_pay154, VecWindow.window]
  exact IdealRules.named_const.ideal_named_scalar _ _ _ _ rfl

theorem acc0_at (h u : Fin 2) (j : S1x144x512.Idx) : accW (F := Ideal) (acc0P (F := Ideal)) h u j = (0 : EReal) := by
  pointwise [accW, acc0P, k0_pay155, VecWindow.window]

end Cert.Proof.KernelIdeal

end
-- ==== Proof.Online.lean ====
module

public import Idealize.ShloMosaic.Lib.IdealHost

@[expose] public section

noncomputable section

namespace Cert.Proof.Online

open Idealize.ShloMosaic

/-! A softmax-weighted sum computed block after block with a running maximum, over the extended reals.

`s` is the query: keys after it are masked. `σ i` is the score of key `i` in base two. -/

variable (s : ℕ) (σ : ℕ → ℝ)

/-- A masked score. -/
def score (i : ℕ) : EReal := if i ≤ s then ((σ i : ℝ) : EReal) else ⊥

/-- A key's weight relative to the number `μ`. -/
def wt (μ : ℝ) (i : ℕ) : ℝ := if i ≤ s then Real.rpow 2 (σ i - μ) else 0

theorem wt_nonneg (μ : ℝ) (i : ℕ) : 0 ≤ wt s σ μ i := by
  unfold wt; split
  · exact Real.rpow_nonneg (by norm_num) _
  · exact le_rfl

theorem wt_pos (μ : ℝ) : 0 < wt s σ μ s := by
  unfold wt; rw [if_pos le_rfl]; exact Real.rpow_pos_of_pos (by norm_num) _

/-- The weight is the power of two of the masked score less `μ`. -/
theorem exp2_score (μ : ℝ) (i : ℕ) : Ideal.exp2 (score s σ i - (μ : EReal)) = (wt s σ μ i : EReal) := by
  unfold score wt
  split
  · rw [← EReal.coe_sub, Ideal.exp2_coe]
  · rw [EReal.bot_sub, Ideal.exp2_bot, EReal.coe_zero]

/-- Changing the number subtracted scales every weight alike. -/
theorem rescale (μ μ' : ℝ) (i : ℕ) : Real.rpow 2 (μ - μ') * wt s σ μ i = wt s σ μ' i := by
  unfold wt
  split
  · show (2 : ℝ) ^ (μ - μ') * (2 : ℝ) ^ (σ i - μ) = (2 : ℝ) ^ (σ i - μ')
    rw [← Real.rpow_add (by norm_num)]; congr 1; ring
  · rw [mul_zero]

/-- A finite nonnegative factor goes into a sum. -/
theorem mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A maximum of scores none of which is plus infinity is not plus infinity. -/
theorem fold_ne_top {n : ℕ} (f : Fin n → EReal) (h : ∀ x, f x ≠ ⊤) : Finset.univ.fold max ⊥ f ≠ ⊤ := by
  apply ne_of_lt
  rw [Finset.fold_max_lt]
  exact ⟨bot_lt_top, fun x _ => lt_top_iff_ne_top.mpr (h x)⟩

/-- A maximum of scores one of which is a number is not minus infinity. -/
theorem fold_ne_bot {n : ℕ} (f : Fin n → EReal) (x : Fin n) (h : f x ≠ ⊥) : Finset.univ.fold max ⊥ f ≠ ⊥ := by
  apply ne_of_gt
  rw [Finset.lt_fold_max]
  exact Or.inr ⟨x, Finset.mem_univ x, bot_lt_iff_ne_bot.mpr h⟩

theorem score_ne_top (i : ℕ) : score s σ i ≠ ⊤ := by
  unfold score; split
  · exact EReal.coe_ne_top _
  · exact bot_ne_top

/-- The new maximum is a number when the block has a key not masked. -/
theorem max_real {m : EReal} (hm : m ≠ ⊤) (N : ℕ) (hN : N ≤ s) :
    ∃ μ : ℝ, max m (Finset.univ.fold max ⊥ fun x : Fin 512 => score s σ (N + x.val)) = (μ : EReal) := by
  set a := max m (Finset.univ.fold max ⊥ fun x : Fin 512 => score s σ (N + x.val)) with ha
  have h1 : a ≠ ⊤ := by
    rw [ha]; intro h
    rcases max_eq_iff.mp h with h | h
    · exact hm h.1
    · exact fold_ne_top _ (fun x => score_ne_top s σ _) h.1
  have h2 : a ≠ ⊥ := by
    rw [ha]; intro h
    refine fold_ne_bot _ (0 : Fin 512) ?_ (max_eq_bot.mp h).2
    show score s σ (N + 0) ≠ ⊥
    unfold score; rw [if_pos (by omega)]; exact EReal.coe_ne_bot _
  exact ⟨a.toReal, (EReal.coe_toReal h1 h2).symm⟩

/-- What is known of the maximum `m` and the sum `a` after the first `N` keys. -/
def Inv (v : ℕ → EReal) (N : ℕ) (m a : EReal) : Prop :=
  m ≠ ⊤ ∧ ((N = 0 ∧ a = 0) ∨ ∃ μ : ℝ, m = (μ : EReal) ∧ a = ∑ i ∈ Finset.range N, (wt s σ μ i : EReal) * v i)

/-- One block of 512 keys, its values in two chunks. -/
theorem step (v : ℕ → EReal) (N : ℕ) (m a : EReal) (hN : N ≤ s) (h : Inv s σ v N m a) (m' a' : EReal)
    (hm : m' = max m (Finset.univ.fold max ⊥ fun x : Fin 512 => score s σ (N + x.val)))
    (ha : a' = Ideal.exp2 (m - m') * a
      + ((∑ x : Fin 256, v (N + x.val) * Ideal.exp2 (score s σ (N + x.val) - m'))
        + ∑ x : Fin 256, v (N + (256 + x.val)) * Ideal.exp2 (score s σ (N + (256 + x.val)) - m'))) :
    ∃ μ : ℝ, m' = (μ : EReal) ∧ a' = ∑ i ∈ Finset.range (N + 512), (wt s σ μ i : EReal) * v i := by
  obtain ⟨htop, hst⟩ := h
  obtain ⟨μ', hμ'⟩ := max_real s σ htop N hN
  rw [← hm] at hμ'
  refine ⟨μ', hμ', ?_⟩
  rw [hμ'] at ha
  have e1 : Ideal.exp2 (m - (μ' : EReal)) * a = ∑ i ∈ Finset.range N, (wt s σ μ' i : EReal) * v i := by
    rcases hst with ⟨rfl, rfl⟩ | ⟨μ, rfl, rfl⟩
    · simp
    · rw [← EReal.coe_sub, Ideal.exp2_coe, mul_sum (Real.rpow 2 (μ - μ')) (Real.rpow_nonneg (by norm_num) _)]
      refine Finset.sum_congr rfl fun i _ => ?_
      rw [← mul_assoc, ← EReal.coe_mul, rescale]
  rw [ha, e1, show N + 512 = N + (256 + 256) from rfl, Finset.sum_range_add, Finset.sum_range_add]
  congr 1
  congr 1
  · rw [Finset.sum_range]
    exact Finset.sum_congr rfl fun x _ => by rw [exp2_score, mul_comm]
  · rw [Finset.sum_range]
    exact Finset.sum_congr rfl fun x _ => by rw [exp2_score, mul_comm]

theorem step_inv (v : ℕ → EReal) (N : ℕ) {m' a' : EReal}
    (h : ∃ μ : ℝ, m' = (μ : EReal) ∧ a' = ∑ i ∈ Finset.range N, (wt s σ μ i : EReal) * v i) : Inv s σ v N m' a' := by
  obtain ⟨μ, rfl, h⟩ := h
  exact ⟨EReal.coe_ne_top μ, Or.inr ⟨μ, rfl, h⟩⟩

/-- A key's softmax weight over the first `T` keys, the scores in base e being `d`. -/
def soft (d : ℕ → ℝ) (T i : ℕ) : ℝ :=
  (if i ≤ s then Real.exp (d i) else 0) / ∑ k ∈ Finset.range T, if k ≤ s then Real.exp (d k) else 0

/-- The keys past the mask add nothing. -/
theorem extend (v : ℕ → EReal) (μ : ℝ) {N T : ℕ} (hN : s < N) (hT : N ≤ T) :
    ∑ i ∈ Finset.range N, (wt s σ μ i : EReal) * v i = ∑ i ∈ Finset.range T, (wt s σ μ i : EReal) * v i := by
  refine Finset.sum_subset (Finset.range_mono hT) fun i _ hi => ?_
  have : ¬ i ≤ s := by have := Finset.mem_range.not.mp hi; omega
  unfold wt; rw [if_neg this, EReal.coe_zero, zero_mul]

/-- The quotient of the weighted sum by the sum of the weights is the softmax-weighted sum. -/
theorem quotient (d : ℕ → ℝ) (hd : ∀ i, σ i * Real.log 2 = d i) (v : ℕ → EReal) (μ : ℝ) {T : ℕ} (hT : s < T) :
    Ideal.div (∑ i ∈ Finset.range T, (wt s σ μ i : EReal) * v i) (∑ i ∈ Finset.range T, (wt s σ μ i : EReal) * 1)
      = ∑ i ∈ Finset.range T, (soft s d T i : EReal) * v i := by
  have hs : s ∈ Finset.range T := Finset.mem_range.mpr hT
  have hpos : 0 < ∑ i ∈ Finset.range T, wt s σ μ i :=
    Finset.sum_pos' (fun i _ => wt_nonneg s σ μ i) ⟨s, hs, wt_pos s σ μ⟩
  have eden : ∑ i ∈ Finset.range T, (wt s σ μ i : EReal) * 1 = ((∑ i ∈ Finset.range T, wt s σ μ i : ℝ) : EReal) := by
    simp only [mul_one]
    exact (map_sum (⟨⟨Real.toEReal, EReal.coe_zero⟩, EReal.coe_add⟩ : ℝ →+ EReal) _ _).symm
  have ew : ∀ i, wt s σ μ i = Real.rpow 2 (-μ) * (if i ≤ s then Real.exp (d i) else 0) := by
    intro i
    unfold wt
    split
    · show (2 : ℝ) ^ (σ i - μ) = (2 : ℝ) ^ (-μ) * _
      rw [← hd i, mul_comm (σ i), ← Real.rpow_def_of_pos (by norm_num), ← Real.rpow_add (by norm_num)]
      congr 1; ring
    · rw [mul_zero]
  rw [eden, Ideal.div_coe hpos.ne', mul_comm, mul_sum _ (by positivity)]
  refine Finset.sum_congr rfl fun i _ => ?_
  rw [← mul_assoc, ← EReal.coe_mul]
  congr 2
  unfold soft
  simp only [ew]
  rw [← Finset.mul_sum]
  have h2 : Real.rpow 2 (-μ) ≠ 0 := (Real.rpow_pos_of_pos (by norm_num) _).ne'
  field_simp

/-- A sum of numbers, as a number. -/
theorem coe_sum {ι : Type} (S : Finset ι) (f : ι → ℝ) : ∑ i ∈ S, (f i : EReal) = ((∑ i ∈ S, f i : ℝ) : EReal) :=
  (map_sum (⟨⟨Real.toEReal, EReal.coe_zero⟩, EReal.coe_add⟩ : ℝ →+ EReal) _ _).symm

/-- A row of a softmax whose largest entry is a number: its weights. -/
theorem softmax_row (d : ℕ → ℝ) {T : ℕ} (hT : s < T) (ρ : ℝ) (k : ℕ) :
    Ideal.div (Ideal.exp (score s d k - (ρ : EReal))) (∑ k' : Fin T, Ideal.exp (score s d k'.val - (ρ : EReal))) = (soft s d T k : EReal) := by
  have e : ∀ i, Ideal.exp (score s d i - (ρ : EReal)) = ((Real.exp (-ρ) * (if i ≤ s then Real.exp (d i) else 0) : ℝ) : EReal) := by
    intro i
    unfold score
    split
    · rw [← EReal.coe_sub, Ideal.exp_coe, ← Real.exp_add, neg_add_eq_sub]
    · rw [EReal.bot_sub, Ideal.exp_bot, mul_zero, EReal.coe_zero]
  have hpos : 0 < ∑ i ∈ Finset.range T, Real.exp (-ρ) * (if i ≤ s then Real.exp (d i) else 0) := by
    refine Finset.sum_pos' (fun i _ => ?_) ⟨s, Finset.mem_range.mpr hT, ?_⟩
    · split <;> positivity
    · rw [if_pos le_rfl]; positivity
  simp only [e]
  rw [← Finset.sum_range (fun i => ((Real.exp (-ρ) * (if i ≤ s then Real.exp (d i) else 0) : ℝ) : EReal)), coe_sum, Ideal.div_coe hpos.ne',
    ← EReal.coe_mul]
  congr 1
  unfold soft
  rw [← Finset.mul_sum]
  have h2 : Real.exp (-ρ) ≠ 0 := (Real.exp_pos _).ne'
  field_simp

/-- The largest of a row's scores is a number. -/
theorem rowmax_real (d : ℕ → ℝ) {T : ℕ} (hT : s < T) : ∃ ρ : ℝ, (Finset.univ.fold max ⊥ fun k : Fin T => score s d k.val) = (ρ : EReal) := by
  refine ⟨_, (EReal.coe_toReal (fold_ne_top _ fun x => score_ne_top s d _) (fold_ne_bot _ (⟨s, hT⟩ : Fin T) ?_)).symm⟩
  unfold score; rw [if_pos le_rfl]; exact EReal.coe_ne_bot _

end Cert.Proof.Online

end
-- ==== Proof.Chain.lean ====
module

public import proofs.«01_k».proof.Proof.MlaAt
public import proofs.«01_k».proof.Proof.Online

@[expose] public section

set_option maxRecDepth 16384

noncomputable section

namespace Cert.Proof.KernelIdeal

open Cert.KernelIdeal Cert.KernelIdeal.Gen
open Idealize.ShloMosaic

/-! One grid point's output in closed form: softmax-weighted sums of the values. -/

variable (x0 : Vec Ideal S2x256x1024 .bf16) (x1 : Vec Ideal S2x8192x256 .bf16) (x2 : Vec Ideal S2x32x144x256 .bf16)

theorem qW_at (h u : Fin 2) (j : Fin 256) (r : Fin 512) :
    qW x0 h u (ix3 (0 : Fin 1) j r) = x0 (ix3 h j (⟨512 * u.val + r.val, by omega⟩ : Fin 1024)) := by
  refine congrArg x0 (funext fun a => Fin.ext ?_)
  match a with
  | ⟨0, _⟩ => show h.val + 1 * 0 = h.val; omega
  | ⟨1, _⟩ => show 0 + 1 * j.val = j.val; omega
  | ⟨2, _⟩ => show 512 * u.val + 1 * r.val = 512 * u.val + r.val; omega

theorem kW_at (h : Fin 2) (kb : Fin 16) (κ : Fin 512) (j : Fin 256) :
    kW x1 h kb (ix3 (0 : Fin 1) κ j) = x1 (ix3 h (⟨512 * kb.val + κ.val, by omega⟩ : Fin 8192) j) := by
  refine congrArg x1 (funext fun a => Fin.ext ?_)
  match a with
  | ⟨0, _⟩ => show h.val + 1 * 0 = h.val; omega
  | ⟨1, _⟩ => show 512 * kb.val + 1 * κ.val = 512 * kb.val + κ.val; omega
  | ⟨2, _⟩ => show 0 + 1 * j.val = j.val; omega

theorem vW_at (h : Fin 2) (c : Fin 32) (d : Fin 144) (x : Fin 256) :
    vW x2 h c (ix4 (0 : Fin 1) (0 : Fin 1) d x) = x2 (ix4 h c d x) := by
  refine congrArg x2 (funext fun a => Fin.ext ?_)
  match a with
  | ⟨0, _⟩ => show h.val + 1 * 0 = h.val; omega
  | ⟨1, _⟩ => show c.val + 1 * 0 = c.val; omega
  | ⟨2, _⟩ => show 0 + 1 * d.val = d.val; omega
  | ⟨3, _⟩ => show 0 + 1 * x.val = x.val; omega

/-- Row `d` of the values of head `h`, key by key. -/
def vrow (h : Fin 2) (d : Fin 144) (i : ℕ) : EReal := x2 (ix4 h (Fin.ofNat 32 (i / 256)) d (Fin.ofNat 256 i))

theorem vW0_at (h : Fin 2) (kb : ℕ) (hk : kb < 16) (d : Fin 144) (x : Fin 256) :
    vW x2 h (Fin.ofNat 32 (2 * kb)) (ix4 (0 : Fin 1) (0 : Fin 1) d x) = vrow x2 h d (512 * kb + x.val) := by
  rw [vW_at]; unfold vrow
  congr 2
  · apply Fin.ext; show 2 * kb % 32 = (512 * kb + x.val) / 256 % 32; omega
  · apply Fin.ext; show x.val = (512 * kb + x.val) % 256; omega

theorem vW1_at (h : Fin 2) (kb : ℕ) (hk : kb < 16) (d : Fin 144) (x : Fin 256) :
    vW x2 h (Fin.ofNat 32 (2 * kb + 1)) (ix4 (0 : Fin 1) (0 : Fin 1) d x) = vrow x2 h d (512 * kb + (256 + x.val)) := by
  rw [vW_at]; unfold vrow
  congr 2
  · apply Fin.ext; show (2 * kb + 1) % 32 = (512 * kb + (256 + x.val)) / 256 % 32; omega
  · apply Fin.ext; show x.val = (512 * kb + (256 + x.val)) % 256; omega

variable (σ : ℕ → ℝ) (h u : Fin 2) (r : Fin 512)

/-- The scores of the queries `(h, 512 u + r)` are the numbers `σ`. -/
def Scores : Prop := ∀ κ : Fin 8192, ∑ j : Fin 256, x1 (ix3 h κ j) * x0 (ix3 h j (⟨512 * u.val + r.val, by omega⟩ : Fin 1024)) = ((σ κ.val : ℝ) : EReal)

variable {x0 x1 x2 σ h u r}

theorem score_sum (hσ : Scores x0 x1 σ h u r) (kb : ℕ) (hk : kb < 16) (κ : Fin 512) :
    ∑ j : Fin 256, kW x1 h (Fin.ofNat 16 kb) (ix3 (0 : Fin 1) κ j) * qW x0 h u (ix3 (0 : Fin 1) j r) = ((σ (512 * kb + κ.val) : ℝ) : EReal) := by
  have e := hσ ⟨512 * kb + κ.val, by omega⟩
  rw [← e]
  refine Finset.sum_congr rfl fun j _ => ?_
  rw [kW_at, qW_at]
  congr 3
  apply Fin.ext
  show 512 * (kb % 16) + κ.val = 512 * kb + κ.val
  rw [Nat.mod_eq_of_lt hk]

theorem saC_at (hσ : Scores x0 x1 σ h u r) (kb : ℕ) (hk : kb < 16) (κ : Fin 512) :
    saC x0 x1 h u kb (ix3 (0 : Fin 1) κ r) = ((σ (512 * kb + κ.val) : ℝ) : EReal) := by
  unfold saC; rw [saP_at]; exact score_sum hσ kb hk κ

theorem maC_at (hσ : Scores x0 x1 σ h u r) (kb : ℕ) (hk : kb < 16) :
    maC x0 x1 h u kb (ix3 (0 : Fin 1) (0 : Fin 1) r) = Finset.univ.fold max ⊥ fun κ : Fin 512 => ((σ (512 * kb + κ.val) : ℝ) : EReal) := by
  unfold maC; rw [maP_at]
  congr 1; funext κ; exact score_sum hσ kb hk κ

/-- The loop's state of a query after `kb` blocks before the diagonal. -/
theorem inv (hσ : Scores x0 x1 σ h u r) (nb : ℕ) (hnb : nb < 16) (d : Fin 144) (kb : ℕ) (hk : kb ≤ nb) :
    Online.Inv (512 * nb + r.val) σ (vrow x2 h d) (512 * kb) (mSt x0 x1 h u kb (ix3 (0 : Fin 1) (0 : Fin 1) r))
      (accSt x0 x1 x2 h u kb (ix3 (0 : Fin 1) d r)) := by
  induction kb with
  | zero =>
    refine ⟨?_, Or.inl ⟨rfl, acc0_at _ _ _⟩⟩
    rw [show mSt x0 x1 h u 0 (ix3 (0 : Fin 1) (0 : Fin 1) r) = (⊥ : EReal) from m0_at _ _ _]
    exact bot_ne_top
  | succ kb ih =>
    have hk' : kb < 16 := by omega
    have sc : ∀ i, i < 512 → Online.score (512 * nb + r.val) σ (512 * kb + i) = ((σ (512 * kb + i) : ℝ) : EReal) := by
      intro i hi; unfold Online.score; rw [if_pos (by omega)]
    refine Online.step_inv _ _ _ _ (Online.step (512 * nb + r.val) σ (vrow x2 h d) (512 * kb) _ _ (by omega) (ih (by omega)) _ _ ?_ ?_)
    · show mP (maC x0 x1 h u kb) (mSt x0 x1 h u kb) _ = _
      rw [mP_at, maC_at hσ kb hk']
      congr 2; funext κ; exact (sc κ.val κ.isLt).symm
    · show accP (saC x0 x1 h u kb) (maC x0 x1 h u kb) (mSt x0 x1 h u kb) _ _ _ _ = _
      rw [accP_at, show mSt x0 x1 h u (kb + 1) (ix3 (0 : Fin 1) (0 : Fin 1) r) = _ from mP_at _ _ _]
      congr 1
      congr 1
      · refine Finset.sum_congr rfl fun x _ => ?_
        rw [vW0_at x2 h kb hk', saC_at hσ kb hk', sc x.val (by omega)]
      · refine Finset.sum_congr rfl fun x _ => ?_
        rw [vW1_at x2 h kb hk', saC_at hσ kb hk', sc (256 + x.val) (by omega)]

/-- The sums at the end: all keys up to the query, weighted relative to one number that does not depend on the row. -/
theorem accF_at (hσ : Scores x0 x1 σ h u r) (nb : ℕ) (hnb : nb < 16) :
    ∃ μ : ℝ, ∀ d : Fin 144, accF x0 x1 x2 h u nb (ix3 (0 : Fin 1) d r)
      = ∑ i ∈ Finset.range 8192, (Online.wt (512 * nb + r.val) σ μ i : EReal) * vrow x2 h d i := by
  have sc : ∀ i, i < 512 → Online.score (512 * nb + r.val) σ (512 * nb + i) = if i ≤ r.val then ((σ (512 * nb + i) : ℝ) : EReal) else ⊥ := by
    intro i hi; unfold Online.score
    by_cases hir : i ≤ r.val
    · rw [if_pos hir, if_pos (by omega)]
    · rw [if_neg hir, if_neg (by omega)]
  have hm : mD (saC x0 x1 h u nb) (mSt x0 x1 h u nb) (ix3 (0 : Fin 1) (0 : Fin 1) r)
      = max (mSt x0 x1 h u nb (ix3 (0 : Fin 1) (0 : Fin 1) r))
        (Finset.univ.fold max ⊥ fun x : Fin 512 => Online.score (512 * nb + r.val) σ (512 * nb + x.val)) := by
    rw [mD_at]
    congr 2; funext κ; rw [sc κ.val κ.isLt, saC_at hσ nb hnb]
  have st : ∀ d : Fin 144, _ := fun d => Online.step (512 * nb + r.val) σ (vrow x2 h d) (512 * nb) _ _ (by omega) (inv hσ nb hnb d nb le_rfl)
    (mD (saC x0 x1 h u nb) (mSt x0 x1 h u nb) (ix3 (0 : Fin 1) (0 : Fin 1) r)) (accF x0 x1 x2 h u nb (ix3 (0 : Fin 1) d r)) hm (by
      unfold accF
      rw [accD_at]
      congr 1
      congr 1
      · refine Finset.sum_congr rfl fun x _ => ?_
        rw [vW0_at x2 h nb hnb, saC_at hσ nb hnb, sc x.val (by omega)]
      · refine Finset.sum_congr rfl fun x _ => ?_
        rw [vW1_at x2 h nb hnb, saC_at hσ nb hnb, sc (256 + x.val) (by omega)])
  obtain ⟨μ, hμ, -⟩ := st 0
  refine ⟨μ, fun d => ?_⟩
  obtain ⟨μ', hμ', e⟩ := st d
  have : μ' = μ := EReal.coe_injective (hμ'.symm.trans hμ)
  rw [e, this]
  exact Online.extend _ _ _ _ (by omega) (by omega)

theorem k0_pay1_at (a : Vec Ideal S1x128x1024 .f32) (b : Vec Ideal S1x1x1024 .f32) (i : Fin 1024) (d : Fin 128) :
    k0_pay1 a b (ix2 i d) = Ideal.div (a (ix3 (0 : Fin 1) d i)) (b (ix3 (0 : Fin 1) (0 : Fin 1) i)) := by
  pointwise [k0_pay1]

/-- The grid point's output at a query and a column. -/
theorem outMla_at (t : ℕ) (ht : t < 8) (i : Fin 1024) (e : Fin 256) (h : Fin 2) (dd : Fin 128) (he : e.val = 128 * h.val + dd.val)
    (hσ : Scores x0 x1 σ h ⟨i.val / 512, by omega⟩ ⟨i.val % 512, by omega⟩)
    (h1 : ∀ c x, x2 (ix4 h c (⟨128, by omega⟩ : Fin 144) x) = (1 : EReal)) (sc : ℕ → ℝ) (hd : ∀ i, σ i * Real.log 2 = sc i) :
    outMla x0 x1 x2 t (ix2 i e) = ∑ k ∈ Finset.range 8192, (Online.soft (1024 * t + i.val) sc 8192 k : EReal)
      * vrow x2 h (⟨dd.val, by omega⟩ : Fin 144) k := by
  have e1 : (⟨e.val / 128, by omega⟩ : Fin 2) = h := Fin.ext (by show e.val / 128 = h.val; omega)
  have e2 : (⟨e.val % 128, by omega⟩ : Fin 128) = dd := Fin.ext (by show e.val % 128 = dd.val; omega)
  obtain ⟨μ, hμ⟩ := accF_at (x2 := x2) hσ (2 * t + i.val / 512) (by omega)
  have es : 512 * (2 * t + i.val / 512) + i.val % 512 = 1024 * t + i.val := by omega
  show outH (accAll x0 x1 x2 t) (⟨e.val / 128, by omega⟩ : Fin 2) (ix2 i (⟨e.val % 128, by omega⟩ : Fin 128)) = _
  rw [e1, e2]
  unfold outH
  rw [k0_pay1_at]
  have ea : VecWindow.window (accAll x0 x1 x2 t) ![h.val, 0, 0] S1x128x1024.size (out_inb h) (ix3 (0 : Fin 1) dd i)
      = accAll x0 x1 x2 t (ix3 h (⟨dd.val, by omega⟩ : Fin 144) i) := by
    refine congrArg (accAll x0 x1 x2 t) (funext fun a => Fin.ext ?_)
    match a with
    | ⟨0, _⟩ => show h.val + 1 * 0 = h.val; omega
    | ⟨1, _⟩ => show 0 + 1 * dd.val = dd.val; omega
    | ⟨2, _⟩ => show 0 + 1 * i.val = i.val; omega
  have eb : VecWindow.window (accAll x0 x1 x2 t) ![h.val, 128, 0] S1x1x1024.size (den_inb h) (ix3 (0 : Fin 1) (0 : Fin 1) i)
      = accAll x0 x1 x2 t (ix3 h (⟨128, by omega⟩ : Fin 144) i) := by
    refine congrArg (accAll x0 x1 x2 t) (funext fun a => Fin.ext ?_)
    match a with
    | ⟨0, _⟩ => show h.val + 1 * 0 = h.val; omega
    | ⟨1, _⟩ => show 128 + 1 * 0 = 128; omega
    | ⟨2, _⟩ => show 0 + 1 * i.val = i.val; omega
  rw [ea, eb]
  have ec : ∀ d : Fin 144, accAll x0 x1 x2 t (ix3 h d i)
      = ∑ k ∈ Finset.range 8192, (Online.wt (1024 * t + i.val) σ μ k : EReal) * vrow x2 h d k := by
    intro d; rw [← es]; exact hμ d
  rw [ec, ec]
  have hone : ∀ k, vrow x2 h (⟨128, by omega⟩ : Fin 144) k = 1 := fun k => h1 _ _
  simp only [hone]
  exact Online.quotient _ _ sc hd _ μ (by omega)

end Cert.Proof.KernelIdeal

end
-- ==== Proof.HostAt.lean ====
module

public import proofs.«01_k».proof.Proof.Chain
public import proofs.«01_k».proof.Proof.Gen.KernelIdeal.Frame
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

/-! The kernel's operands as its host code prepares them, read at an index. -/

variable (m : (ℓ : Loc nD τ sig) → Buf (Elt Ideal) ℓ)

/-- The queries' own parts. -/
def A0 (c : Dev nD) : S8192x8x128.Idx → EReal := m ((c : Thread nD τ).loc main_arg0)
/-- The queries' rotary parts. -/
def A1 (c : Dev nD) : S8192x8x64.Idx → EReal := m ((c : Thread nD τ).loc main_arg1)
/-- The keys' own parts. -/
def A2 (c : Dev nD) : S8192x8x128.Idx → EReal := m ((c : Thread nD τ).loc main_arg2)
/-- The rotary part the heads' keys share. -/
def A3 (c : Dev nD) : S8192x64.Idx → EReal := m ((c : Thread nD τ).loc main_arg3)
/-- The values. -/
def A4 (c : Dev nD) : S8192x8x128.Idx → EReal := m ((c : Thread nD τ).loc main_arg4)

theorem ofBits_192 : Ideal.ofBits .f32 0x43400000#32 = ((192 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

/-- The kernel's scale of the queries. -/
theorem scale_eq : Ideal.div 1 (Ideal.sqrt (Ideal.ofBits .f32 0x43400000#32) * Ideal.log (Ideal.ofBits .f32 0x40000000#32))
    = ((1 / (Real.sqrt 192 * Real.log 2) : ℝ) : EReal) := by
  have h2 : (0 : ℝ) < Real.log 2 := Real.log_pos (by norm_num)
  have h1 : (0 : ℝ) < Real.sqrt 192 := Real.sqrt_pos.mpr (by norm_num)
  rw [ofBits_192, ofBits_two, Ideal.sqrt_coe, Ideal.log_coe, if_neg (by norm_num), if_neg (by norm_num), ← EReal.coe_mul,
    Ideal.div_coe (mul_pos h1 h2).ne', one_mul]

/-- The reference's scale of the scores. -/
theorem refScale_eq : Ideal.div 1 (Ideal.sqrt (Ideal.ofBits .f32 0x43400000#32)) = ((1 / Real.sqrt 192 : ℝ) : EReal) := by
  have h1 : (0 : ℝ) < Real.sqrt 192 := Real.sqrt_pos.mpr (by norm_num)
  rw [ofBits_192, Ideal.sqrt_coe, if_neg (by norm_num), Ideal.div_coe h1.ne', one_mul]

/-- The queries: the two parts side by side and zeros, scaled. -/
theorem q_at (c : Dev nD) (n : Fin 8) (j : Fin 256) (s : Fin 8192) : (V m c main_v9 (ix3 n j s) : EReal) =
    (if h : j.val < 128 then A0 m c (ix3 s n (⟨j.val, h⟩ : Fin 128))
      else if h : j.val - 128 < 64 then A1 m c (ix3 s n (⟨j.val - 128, h⟩ : Fin 64)) else (0 : EReal))
      * ((1 / (Real.sqrt 192 * Real.log 2) : ℝ) : EReal) := by
  rw [← scale_eq]
  unfold V A0 A1
  after_reads_at
  after_reads_at

/-- The keys: the head's part, the shared part and zeros. -/
theorem k_at (c : Dev nD) (n : Fin 8) (j : Fin 256) (s : Fin 8192) : (V m c main_v16 (ix3 n s j) : EReal) =
    if h : j.val < 128 then A2 m c (ix3 s n (⟨j.val, h⟩ : Fin 128))
      else if h : j.val - 128 < 64 then A3 m c (ix2 s (⟨j.val - 128, h⟩ : Fin 64)) else (0 : EReal) := by
  unfold V A2 A3
  after_reads_at
  after_reads_at
  after_reads_at

/-- The values, transposed in chunks, a row of ones under them. -/
theorem v_at (c : Dev nD) (n : Fin 8) (cc : Fin 32) (d : Fin 144) (x : Fin 256) : (V m c main_v22 (ix4 n cc d x) : EReal) =
    if h : d.val < 128 then A4 m c (ix3 (⟨cc.val * 256 + x.val, by omega⟩ : Fin 8192) n (⟨d.val, h⟩ : Fin 128))
      else if h : d.val - 128 < 1 then (1 : EReal) else 0 := by
  unfold V A4
  after_reads_at
  after_reads_at

end Cert.Proof.KernelIdeal
end
-- ==== Proof.Target.lean ====
module

public import proofs.«01_k».proof.Proof.Online
public import Idealize.ShloMosaic.Lib.Pointwise

@[expose] public section

noncomputable section

namespace Cert.Proof.Target

open Idealize.ShloMosaic

/-! The attention as mathematics: what both programs compute. -/

variable (a0 a2 a4 : (⟨3, ![8192, 8, 128]⟩ : Shape).Idx → EReal) (a1 : (⟨3, ![8192, 8, 64]⟩ : Shape).Idx → EReal) (a3 : (⟨2, ![8192, 64]⟩ : Shape).Idx → EReal)

/-- Every entry is a finite number. -/
def Finite {s : Shape} (a : s.Idx → EReal) : Prop := ∀ i, a i = ((a i).toReal : EReal)

/-- The product of query `s` of head `n` with key `k`. -/
def dot (n : Fin 8) (s : Fin 8192) (k : ℕ) : ℝ :=
  (∑ j : Fin 128, (a0 (ix3 s n j)).toReal * (a2 (ix3 (Fin.ofNat 8192 k) n j)).toReal)
    + ∑ j : Fin 64, (a3 (ix2 (Fin.ofNat 8192 k) j)).toReal * (a1 (ix3 s n j)).toReal

/-- The output: at a query, a head and a column, the values weighted by the softmax of the scaled scores of the keys up to
    the query. -/
def attn (s : Fin 8192) (n : Fin 8) (d : Fin 128) : EReal :=
  ∑ k ∈ Finset.range 8192, (Online.soft s.val (fun k => dot a0 a2 a1 a3 n s k * (1 / Real.sqrt 192)) 8192 k : EReal) * a4 (ix3 (Fin.ofNat 8192 k) n d)

theorem ofNat_val (k : Fin 8192) : Fin.ofNat 8192 k.val = k := Fin.ext (Nat.mod_eq_of_lt k.isLt)

variable {a0 a1 a2 a3}

/-- With finite queries and keys the products are numbers. -/
theorem dot_eq (h0 : Finite a0) (h1 : Finite a1) (h2 : Finite a2) (h3 : Finite a3) (n : Fin 8) (s k : Fin 8192) :
    (∑ j : Fin 128, a0 (ix3 s n j) * a2 (ix3 k n j)) + ∑ j : Fin 64, a3 (ix2 k j) * a1 (ix3 s n j) = (dot a0 a2 a1 a3 n s k.val : EReal) := by
  unfold dot
  rw [ofNat_val, EReal.coe_add, ← Online.coe_sum, ← Online.coe_sum]
  congr 1
  · exact Finset.sum_congr rfl fun j _ => by rw [EReal.coe_mul, ← h0, ← h2]
  · exact Finset.sum_congr rfl fun j _ => by rw [EReal.coe_mul, ← h1, ← h3]

/-- The same with the kernel's layout: one product over the two parts side by side and zeros, the queries scaled. -/
theorem dot_padded (h0 : Finite a0) (h1 : Finite a1) (h2 : Finite a2) (h3 : Finite a3) (n : Fin 8) (s k : Fin 8192) (c : ℝ) (x y : Fin 256 → EReal)
    (hx : ∀ j, x j = if h : j.val < 128 then a2 (ix3 k n (⟨j.val, h⟩ : Fin 128))
      else if h : j.val - 128 < 64 then a3 (ix2 k (⟨j.val - 128, h⟩ : Fin 64)) else 0)
    (hy : ∀ j, y j = (if h : j.val < 128 then a0 (ix3 s n (⟨j.val, h⟩ : Fin 128))
      else if h : j.val - 128 < 64 then a1 (ix3 s n (⟨j.val - 128, h⟩ : Fin 64)) else 0) * (c : EReal)) :
    ∑ j, x j * y j = ((dot a0 a2 a1 a3 n s k.val * c : ℝ) : EReal) := by
  have e0 : ∑ j : Fin 256, x j * y j = ∑ j : Fin (128 + (64 + 64)), x j * y j := rfl
  rw [e0, Fin.sum_univ_add, Fin.sum_univ_add]
  have p1 : ∀ j : Fin 128, x (Fin.castAdd (64 + 64) j) * y (Fin.castAdd (64 + 64) j)
      = (((a0 (ix3 s n j)).toReal * (a2 (ix3 k n j)).toReal * c : ℝ) : EReal) := by
    intro j
    have hj : (Fin.castAdd (64 + 64) j).val < 128 := j.isLt
    rw [hx, hy, dif_pos hj, dif_pos hj]
    show a2 (ix3 k n j) * (a0 (ix3 s n j) * (c : EReal)) = _
    rw [h0, h2, ← EReal.coe_mul, ← EReal.coe_mul]
    simp only [EReal.toReal_coe]
    congr 1; ring
  have p2 : ∀ j : Fin 64, x (Fin.natAdd 128 (Fin.castAdd 64 j)) * y (Fin.natAdd 128 (Fin.castAdd 64 j))
      = (((a3 (ix2 k j)).toReal * (a1 (ix3 s n j)).toReal * c : ℝ) : EReal) := by
    intro j
    have hv : (Fin.natAdd 128 (Fin.castAdd 64 j)).val = 128 + j.val := rfl
    have hj : ¬ (Fin.natAdd 128 (Fin.castAdd 64 j)).val < 128 := by rw [hv]; omega
    have hk : (Fin.natAdd 128 (Fin.castAdd 64 j)).val - 128 < 64 := by rw [hv]; omega
    have ej : (⟨(Fin.natAdd 128 (Fin.castAdd 64 j)).val - 128, hk⟩ : Fin 64) = j := Fin.ext (by show 128 + j.val - 128 = j.val; omega)
    rw [hx, hy, dif_neg hj, dif_neg hj, dif_pos hk, dif_pos hk, ej, h1, h3, ← EReal.coe_mul, ← EReal.coe_mul]
    simp only [EReal.toReal_coe]
    congr 1; ring
  have p3 : ∀ j : Fin 64, x (Fin.natAdd 128 (Fin.natAdd 64 j)) * y (Fin.natAdd 128 (Fin.natAdd 64 j)) = 0 := by
    intro j
    have hv : (Fin.natAdd 128 (Fin.natAdd 64 j)).val = 128 + (64 + j.val) := rfl
    have hj : ¬ (Fin.natAdd 128 (Fin.natAdd 64 j)).val < 128 := by rw [hv]; omega
    have hk : ¬ (Fin.natAdd 128 (Fin.natAdd 64 j)).val - 128 < 64 := by rw [hv]; omega
    rw [hx, dif_neg hj, dif_neg hk, zero_mul]
  simp only [p1, p2, p3]
  rw [Finset.sum_const_zero, add_zero, Online.coe_sum, Online.coe_sum, ← EReal.coe_add]
  unfold dot
  rw [ofNat_val, add_mul, Finset.sum_mul, Finset.sum_mul]

end Cert.Proof.Target

end
-- ==== Proof.Final.lean ====
module

public import proofs.«01_k».proof.Proof.HostAt
public import proofs.«01_k».proof.Proof.Target
public import proofs.«01_k».proof.Proof.Frame
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

/-! What the kernel's output arrays hold at the end. -/

variable (m : (ℓ : Loc nD τ sig) → Buf (Elt Ideal) ℓ)

theorem point_eq : ∀ t : Fin cfg0.N, (grid0.coords t 0).val = t.val / 8 ∧ (grid0.coords t 1).val = t.val % 8 := by decide +kernel
theorem index0 : ∀ t : Fin cfg0.N, win0_0.index t 0 = t.val / 8 ∧ win0_0.index t 1 = 0 ∧ win0_0.index t 2 = t.val % 8 := by decide +kernel
theorem index1 : ∀ t : Fin cfg0.N, win0_1.index t 0 = t.val / 8 ∧ win0_1.index t 1 = 0 ∧ win0_1.index t 2 = 0 := by decide +kernel
theorem index2 : ∀ t : Fin cfg0.N, win0_2.index t 0 = t.val / 8 ∧ win0_2.index t 1 = 0 ∧ win0_2.index t 2 = 0 ∧ win0_2.index t 3 = 0 := by decide +kernel
theorem index6 : ∀ t : Fin cfg0.N, win0_6.index t 0 = t.val % 8 ∧ win0_6.index t 1 = t.val / 8 := by decide +kernel

theorem t_lt (t : Fin cfg0.N) : t.val < 32 := lt_of_lt_of_eq t.isLt N_0

/-- A block of queries read from the array. -/
theorem iblk0_at (c : Dev nD) (t : Fin cfg0.N) (h : Fin 2) (j : Fin 256) (i : Fin 1024) :
    iblk m c 0 t (ix3 h j i) = V m c main_v9 (ix3 (⟨2 * (t.val / 8) + h.val, by have := t_lt t; omega⟩ : Fin 8) j
      (⟨1024 * (t.val % 8) + i.val, by omega⟩ : Fin 8192)) := by
  obtain ⟨e0, e1, e2⟩ := index0 t
  refine congrArg (V m c main_v9) (funext fun a => Fin.ext ?_)
  match a with
  | ⟨0, _⟩ => show win0_0.index t 0 * 2 + 1 * h.val = 2 * (t.val / 8) + h.val; omega
  | ⟨1, _⟩ => show win0_0.index t 1 * 256 + 1 * j.val = j.val; omega
  | ⟨2, _⟩ => show win0_0.index t 2 * 1024 + 1 * i.val = 1024 * (t.val % 8) + i.val; omega

/-- A block of keys. -/
theorem iblk1_at (c : Dev nD) (t : Fin cfg0.N) (h : Fin 2) (k : Fin 8192) (j : Fin 256) :
    iblk m c 1 t (ix3 h k j) = V m c main_v16 (ix3 (⟨2 * (t.val / 8) + h.val, by have := t_lt t; omega⟩ : Fin 8) k j) := by
  obtain ⟨e0, e1, e2⟩ := index1 t
  refine congrArg (V m c main_v16) (funext fun a => Fin.ext ?_)
  match a with
  | ⟨0, _⟩ => show win0_1.index t 0 * 2 + 1 * h.val = 2 * (t.val / 8) + h.val; omega
  | ⟨1, _⟩ => show win0_1.index t 1 * 8192 + 1 * k.val = k.val; omega
  | ⟨2, _⟩ => show win0_1.index t 2 * 256 + 1 * j.val = j.val; omega

/-- A block of values. -/
theorem iblk2_at (c : Dev nD) (t : Fin cfg0.N) (h : Fin 2) (cc : Fin 32) (d : Fin 144) (x : Fin 256) :
    iblk m c 2 t (ix4 h cc d x) = V m c main_v22 (ix4 (⟨2 * (t.val / 8) + h.val, by have := t_lt t; omega⟩ : Fin 8) cc d x) := by
  obtain ⟨e0, e1, e2, e3⟩ := index2 t
  refine congrArg (V m c main_v22) (funext fun a => Fin.ext ?_)
  match a with
  | ⟨0, _⟩ => show win0_2.index t 0 * 2 + 1 * h.val = 2 * (t.val / 8) + h.val; omega
  | ⟨1, _⟩ => show win0_2.index t 1 * 32 + 1 * cc.val = cc.val; omega
  | ⟨2, _⟩ => show win0_2.index t 2 * 144 + 1 * d.val = d.val; omega
  | ⟨3, _⟩ => show win0_2.index t 3 * 256 + 1 * x.val = x.val; omega

/-- Queries and keys are finite. -/
def FiniteQK (c : Dev nD) : Prop :=
  Target.Finite (A0 m c) ∧ Target.Finite (A1 m c) ∧ Target.Finite (A2 m c) ∧ Target.Finite (A3 m c)

/-- The attention of the arguments, as an array: head by head along the columns. -/
def attnArr (c : Dev nD) : S8192x1024.Idx → EReal := fun i =>
  Target.attn (A0 m c) (A2 m c) (A4 m c) (A1 m c) (A3 m c) (i 0)
    (⟨(i 1).val / 128, by have h : (i 1).val < 1024 := (i 1).isLt; omega⟩ : Fin 8) (⟨(i 1).val % 128, by omega⟩ : Fin 128)

variable {m}

/-- A grid point's output block holds the attention of its queries and heads. -/
theorem block_at (c : Dev nD) (hf : FiniteQK m c) (t : Fin cfg0.N) (i : Fin 1024) (e : Fin 256) :
    outMla (iblk m c 0 t) (iblk m c 1 t) (iblk m c 2 t) (t.val % 8) (ix2 i e)
      = attnArr m c (ix2 (⟨1024 * (t.val % 8) + i.val, by omega⟩ : Fin 8192) (⟨256 * (t.val / 8) + e.val, by have := t_lt t; omega⟩ : Fin 1024)) := by
  obtain ⟨h0, h1, h2, h3⟩ := hf
  have ht := t_lt t
  set h : Fin 2 := ⟨e.val / 128, by omega⟩ with hh
  set dd : Fin 128 := ⟨e.val % 128, by omega⟩ with hdd
  set n : Fin 8 := ⟨2 * (t.val / 8) + h.val, by omega⟩ with hn
  set s : Fin 8192 := ⟨1024 * (t.val % 8) + i.val, by omega⟩ with hs
  have hσ : Scores (iblk m c 0 t) (iblk m c 1 t)
      (fun k => Target.dot (A0 m c) (A2 m c) (A1 m c) (A3 m c) n s k * (1 / (Real.sqrt 192 * Real.log 2)))
      h ⟨i.val / 512, by omega⟩ ⟨i.val % 512, by omega⟩ := by
    intro k
    have ei : (⟨512 * (i.val / 512) + i.val % 512, by omega⟩ : Fin 1024) = i := Fin.ext (by show 512 * (i.val / 512) + i.val % 512 = i.val; omega)
    refine Eq.trans ?_ (Target.dot_padded h0 h1 h2 h3 n s k _ (fun j => V m c main_v16 (ix3 n k j)) (fun j => V m c main_v9 (ix3 n j s))
      (fun j => k_at m c n j k) (fun j => q_at m c n j s))
    refine Finset.sum_congr rfl fun j _ => ?_
    exact congrArg₂ (fun a b : EReal => a * b) (iblk1_at m c t h k j)
      ((congrArg (fun r : Fin 1024 => iblk m c 0 t (ix3 h j r)) ei).trans (iblk0_at m c t h j i))
  have hone : ∀ cc x, iblk m c 2 t (ix4 h cc (⟨128, by omega⟩ : Fin 144) x) = (1 : EReal) := by
    intro cc x
    rw [iblk2_at]
    refine (v_at m c _ _ _ _).trans ?_
    rw [dif_neg (by show ¬ 128 < 128; omega), dif_pos (by show 128 - 128 < 1; omega)]
  have hlog : ∀ k : ℕ, Target.dot (A0 m c) (A2 m c) (A1 m c) (A3 m c) n s k * (1 / (Real.sqrt 192 * Real.log 2)) * Real.log 2
      = Target.dot (A0 m c) (A2 m c) (A1 m c) (A3 m c) n s k * (1 / Real.sqrt 192) := by
    intro k
    have p2 : Real.log 2 ≠ 0 := (Real.log_pos (by norm_num)).ne'
    have p1 : Real.sqrt 192 ≠ 0 := (Real.sqrt_pos.mpr (by norm_num)).ne'
    field_simp
  rw [outMla_at (t.val % 8) (by omega) i e h dd (by show e.val = 128 * (e.val / 128) + e.val % 128; omega) hσ hone _ hlog]
  unfold attnArr Target.attn
  have en : (⟨(256 * (t.val / 8) + e.val) / 128, by omega⟩ : Fin 8) = n := Fin.ext (by show (256 * (t.val / 8) + e.val) / 128 = 2 * (t.val / 8) + e.val / 128; omega)
  have ed : (⟨(256 * (t.val / 8) + e.val) % 128, by omega⟩ : Fin 128) = dd := Fin.ext (by show (256 * (t.val / 8) + e.val) % 128 = e.val % 128; omega)
  show _ = ∑ k ∈ Finset.range 8192, (Online.soft s.val (fun k => Target.dot (A0 m c) (A2 m c) (A1 m c) (A3 m c)
    (⟨(256 * (t.val / 8) + e.val) / 128, by omega⟩ : Fin 8) s k * (1 / Real.sqrt 192)) 8192 k : EReal)
      * A4 m c (ix3 (Fin.ofNat 8192 k) (⟨(256 * (t.val / 8) + e.val) / 128, by omega⟩ : Fin 8) (⟨(256 * (t.val / 8) + e.val) % 128, by omega⟩ : Fin 128))
  rw [en, ed]
  refine Finset.sum_congr rfl fun k hk => ?_
  have hk' : k < 8192 := Finset.mem_range.mp hk
  congr 1
  unfold vrow
  rw [iblk2_at]
  refine (v_at m c _ _ _ _).trans ?_
  rw [dif_pos (by show e.val % 128 < 128; omega)]
  refine congrArg (A4 m c) (funext fun a => Fin.ext ?_)
  match a with
  | ⟨0, _⟩ => show k / 256 % 32 * 256 + k % 256 = k % 8192; omega
  | ⟨1, _⟩ => rfl
  | ⟨2, _⟩ => rfl

end Cert.Proof.KernelIdeal
end
-- ==== Proof.Arrays.lean ====
module

public import proofs.«01_k».proof.Proof.Final

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

/-! The four output arrays at the end of the run. -/

variable (m : (ℓ : Loc nD τ sig) → Buf (Elt Ideal) ℓ)

/-! ## The attention's array -/

theorem flushed6 (c : Dev nD) (hf : FiniteQK m c) (t : Fin cfg0.N) :
    (dats m 0 c).flushed 6 t = (win0_6.blk t).view.read (Elt Ideal) (attnArr m c) := by
  show (cfg0.win 6).cut (grid0.coords t) ((dats m 0 c).after 6 t) = _
  rw [after0_6, (point_eq t).2]
  obtain ⟨e0, e1⟩ := index6 t
  have ht := t_lt t
  funext j
  have hj0 : (j 0).val < 1024 := (j 0).isLt
  have hj1 : (j 1).val < 256 := (j 1).isLt
  have ej : j = ix2 (⟨(j 0).val, hj0⟩ : Fin 1024) (⟨(j 1).val, hj1⟩ : Fin 256) := funext fun a => by
    match a with
    | ⟨0, _⟩ => rfl
    | ⟨1, _⟩ => rfl
  refine (show _ = outMla (iblk m c 0 t) (iblk m c 1 t) (iblk m c 2 t) (t.val % 8) (ix2 (⟨(j 0).val, hj0⟩ : Fin 1024) (⟨(j 1).val, hj1⟩ : Fin 256)) from
    congrArg (outMla (iblk m c 0 t) (iblk m c 1 t) (iblk m c 2 t) (t.val % 8)) ej).trans ?_
  refine (block_at c hf t _ _).trans ?_
  refine congrArg (attnArr m c) (funext fun a => Fin.ext ?_)
  match a with
  | ⟨0, _⟩ => show 1024 * (t.val % 8) + (j 0).val = win0_6.index t 0 * 1024 + 1 * (j 0).val; omega
  | ⟨1, _⟩ => show 256 * (t.val / 8) + (j 1).val = win0_6.index t 1 * 256 + 1 * (j 1).val; omega

theorem xsize6 : ∀ t : Fin cfg0.N, win0_6.xsize (grid0.coords t) 0 = 1024 ∧ win0_6.xsize (grid0.coords t) 1 = 256 := by decide +kernel

theorem cover6 (i : S8192x1024.Idx) : ∃ t : Fin cfg0.N, (cfg0.win 6).flush t = true ∧ i ∈ ((cfg0.win 6).blk t).view.set := by
  have h0 : (i 0).val < 8192 := (i 0).isLt
  have h1 : (i 1).val < 1024 := (i 1).isLt
  have hN : cfg0.N = 32 := N_0
  have hlt : 8 * ((i 1).val / 256) + (i 0).val / 1024 < cfg0.N := by omega
  refine ⟨⟨8 * ((i 1).val / 256) + (i 0).val / 1024, hlt⟩, flush0_6 _, ?_⟩
  show i ∈ ((View.whole main_v23_0).slice (win0_6.rect ⟨_, hlt⟩)).set
  rw [View.set_slice_whole, Rect.mem_set_unit]
  obtain ⟨e0, e1⟩ := index6 ⟨_, hlt⟩
  obtain ⟨x0, x1⟩ := xsize6 ⟨_, hlt⟩
  dsimp only at e0 e1
  intro a
  match a with
  | ⟨0, _⟩ =>
    show win0_6.index ⟨_, hlt⟩ 0 * 1024 ≤ (i 0).val ∧ (i 0).val < win0_6.index ⟨_, hlt⟩ 0 * 1024 + win0_6.xsize (grid0.coords ⟨_, hlt⟩) 0
    omega
  | ⟨1, _⟩ =>
    show win0_6.index ⟨_, hlt⟩ 1 * 256 ≤ (i 1).val ∧ (i 1).val < win0_6.index ⟨_, hlt⟩ 1 * 256 + win0_6.xsize (grid0.coords ⟨_, hlt⟩) 1
    omega

theorem final6 (c : Dev nD) (hf : FiniteQK m c) : (dats m 0 c).arrAt 6 cfg0.N = attnArr m c :=
  Dat.arrAt_eq_of_cover (dats m 0 c) 6 (attnArr m c) (fun t _ => flushed6 m c hf t) cover6

/-! ## The weights the call carries along: each a narrower copy of its argument -/

theorem index7 : ∀ t : Fin cfg0.N, (win0_7.index t 0 = t.val ∧ win0_7.index t 1 = 0) ∧ win0_3.index t 0 = t.val ∧ win0_3.index t 1 = 0 := by
  decide +kernel

theorem xsize7 : ∀ t : Fin cfg0.N, win0_7.xsize (grid0.coords t) 0 = 64 ∧ win0_7.xsize (grid0.coords t) 1 = 5632 := by decide +kernel

/-- Argument 5, narrowed. -/
def narrow7 (c : Dev nD) : FVec Ideal S2048x5632 .bf16 := truncf .bf16 (m ((c : Thread nD τ).loc main_arg5)) bitsLt_bf16_f32

theorem flushed7 (c : Dev nD) (t : Fin cfg0.N) :
    (dats m 0 c).flushed 7 t = (win0_7.blk t).view.read (Elt Ideal) (narrow7 m c) := by
  show (cfg0.win 7).cut (grid0.coords t) ((dats m 0 c).after 7 t) = _
  rw [after0_7]
  obtain ⟨⟨e0, e1⟩, d0, d1⟩ := index7 t
  funext j
  refine (show _ = V m c main_arg5 _ from rfl).trans ?_
  rw [V_main_arg5]
  refine congrArg (m ((c : Thread nD τ).loc main_arg5)) (funext fun a => Fin.ext ?_)
  match a with
  | ⟨0, _⟩ => show win0_3.index t 0 * 64 + 1 * (j 0).val = win0_7.index t 0 * 64 + 1 * (j 0).val; omega
  | ⟨1, _⟩ => show win0_3.index t 1 * 5632 + 1 * (j 1).val = win0_7.index t 1 * 5632 + 1 * (j 1).val; omega

theorem cover7 (i : S2048x5632.Idx) : ∃ t : Fin cfg0.N, (cfg0.win 7).flush t = true ∧ i ∈ ((cfg0.win 7).blk t).view.set := by
  have h0 : (i 0).val < 2048 := (i 0).isLt
  have h1 : (i 1).val < 5632 := (i 1).isLt
  have hN : cfg0.N = 32 := N_0
  have hlt : (i 0).val / 64 < cfg0.N := by omega
  refine ⟨⟨(i 0).val / 64, hlt⟩, flush0_7 _, ?_⟩
  show i ∈ ((View.whole main_v23_1).slice (win0_7.rect ⟨_, hlt⟩)).set
  rw [View.set_slice_whole, Rect.mem_set_unit]
  obtain ⟨⟨e0, e1⟩, -⟩ := index7 ⟨_, hlt⟩
  obtain ⟨x0, x1⟩ := xsize7 ⟨_, hlt⟩
  dsimp only at e0 e1
  intro a
  match a with
  | ⟨0, _⟩ =>
    show win0_7.index ⟨_, hlt⟩ 0 * 64 ≤ (i 0).val ∧ (i 0).val < win0_7.index ⟨_, hlt⟩ 0 * 64 + win0_7.xsize (grid0.coords ⟨_, hlt⟩) 0
    omega
  | ⟨1, _⟩ =>
    show win0_7.index ⟨_, hlt⟩ 1 * 5632 ≤ (i 1).val ∧ (i 1).val < win0_7.index ⟨_, hlt⟩ 1 * 5632 + win0_7.xsize (grid0.coords ⟨_, hlt⟩) 1
    omega

theorem final7 (c : Dev nD) : (dats m 0 c).arrAt 7 cfg0.N = narrow7 m c :=
  Dat.arrAt_eq_of_cover (dats m 0 c) 7 (narrow7 m c) (fun t _ => flushed7 m c t) cover7

theorem index8 : ∀ t : Fin cfg0.N, (win0_8.index t 0 = t.val ∧ win0_8.index t 1 = 0) ∧ win0_4.index t 0 = t.val ∧ win0_4.index t 1 = 0 := by
  decide +kernel

theorem xsize8 : ∀ t : Fin cfg0.N, win0_8.xsize (grid0.coords t) 0 = 64 ∧ win0_8.xsize (grid0.coords t) 1 = 5632 := by decide +kernel

/-- Argument 6, narrowed. -/
def narrow8 (c : Dev nD) : FVec Ideal S2048x5632 .bf16 := truncf .bf16 (m ((c : Thread nD τ).loc main_arg6)) bitsLt_bf16_f32

theorem flushed8 (c : Dev nD) (t : Fin cfg0.N) :
    (dats m 0 c).flushed 8 t = (win0_8.blk t).view.read (Elt Ideal) (narrow8 m c) := by
  show (cfg0.win 8).cut (grid0.coords t) ((dats m 0 c).after 8 t) = _
  rw [after0_8]
  obtain ⟨⟨e0, e1⟩, d0, d1⟩ := index8 t
  funext j
  refine (show _ = V m c main_arg6 _ from rfl).trans ?_
  rw [V_main_arg6]
  refine congrArg (m ((c : Thread nD τ).loc main_arg6)) (funext fun a => Fin.ext ?_)
  match a with
  | ⟨0, _⟩ => show win0_4.index t 0 * 64 + 1 * (j 0).val = win0_8.index t 0 * 64 + 1 * (j 0).val; omega
  | ⟨1, _⟩ => show win0_4.index t 1 * 5632 + 1 * (j 1).val = win0_8.index t 1 * 5632 + 1 * (j 1).val; omega

theorem cover8 (i : S2048x5632.Idx) : ∃ t : Fin cfg0.N, (cfg0.win 8).flush t = true ∧ i ∈ ((cfg0.win 8).blk t).view.set := by
  have h0 : (i 0).val < 2048 := (i 0).isLt
  have h1 : (i 1).val < 5632 := (i 1).isLt
  have hN : cfg0.N = 32 := N_0
  have hlt : (i 0).val / 64 < cfg0.N := by omega
  refine ⟨⟨(i 0).val / 64, hlt⟩, flush0_8 _, ?_⟩
  show i ∈ ((View.whole main_v23_2).slice (win0_8.rect ⟨_, hlt⟩)).set
  rw [View.set_slice_whole, Rect.mem_set_unit]
  obtain ⟨⟨e0, e1⟩, -⟩ := index8 ⟨_, hlt⟩
  obtain ⟨x0, x1⟩ := xsize8 ⟨_, hlt⟩
  dsimp only at e0 e1
  intro a
  match a with
  | ⟨0, _⟩ =>
    show win0_8.index ⟨_, hlt⟩ 0 * 64 ≤ (i 0).val ∧ (i 0).val < win0_8.index ⟨_, hlt⟩ 0 * 64 + win0_8.xsize (grid0.coords ⟨_, hlt⟩) 0
    omega
  | ⟨1, _⟩ =>
    show win0_8.index ⟨_, hlt⟩ 1 * 5632 ≤ (i 1).val ∧ (i 1).val < win0_8.index ⟨_, hlt⟩ 1 * 5632 + win0_8.xsize (grid0.coords ⟨_, hlt⟩) 1
    omega

theorem final8 (c : Dev nD) : (dats m 0 c).arrAt 8 cfg0.N = narrow8 m c :=
  Dat.arrAt_eq_of_cover (dats m 0 c) 8 (narrow8 m c) (fun t _ => flushed8 m c t) cover8

theorem index9 : ∀ t : Fin cfg0.N, (win0_9.index t 0 = t.val ∧ win0_9.index t 1 = 0) ∧ win0_5.index t 0 = t.val ∧ win0_5.index t 1 = 0 := by
  decide +kernel

theorem xsize9 : ∀ t : Fin cfg0.N, win0_9.xsize (grid0.coords t) 0 = 176 ∧ win0_9.xsize (grid0.coords t) 1 = 2048 := by decide +kernel

/-- Argument 7, narrowed. -/
def narrow9 (c : Dev nD) : FVec Ideal S5632x2048 .bf16 := truncf .bf16 (m ((c : Thread nD τ).loc main_arg7)) bitsLt_bf16_f32

theorem flushed9 (c : Dev nD) (t : Fin cfg0.N) :
    (dats m 0 c).flushed 9 t = (win0_9.blk t).view.read (Elt Ideal) (narrow9 m c) := by
  show (cfg0.win 9).cut (grid0.coords t) ((dats m 0 c).after 9 t) = _
  rw [after0_9]
  obtain ⟨⟨e0, e1⟩, d0, d1⟩ := index9 t
  funext j
  refine (show _ = V m c main_arg7 _ from rfl).trans ?_
  rw [V_main_arg7]
  refine congrArg (m ((c : Thread nD τ).loc main_arg7)) (funext fun a => Fin.ext ?_)
  match a with
  | ⟨0, _⟩ => show win0_5.index t 0 * 176 + 1 * (j 0).val = win0_9.index t 0 * 176 + 1 * (j 0).val; omega
  | ⟨1, _⟩ => show win0_5.index t 1 * 2048 + 1 * (j 1).val = win0_9.index t 1 * 2048 + 1 * (j 1).val; omega

theorem cover9 (i : S5632x2048.Idx) : ∃ t : Fin cfg0.N, (cfg0.win 9).flush t = true ∧ i ∈ ((cfg0.win 9).blk t).view.set := by
  have h0 : (i 0).val < 5632 := (i 0).isLt
  have h1 : (i 1).val < 2048 := (i 1).isLt
  have hN : cfg0.N = 32 := N_0
  have hlt : (i 0).val / 176 < cfg0.N := by omega
  refine ⟨⟨(i 0).val / 176, hlt⟩, flush0_9 _, ?_⟩
  show i ∈ ((View.whole main_v23_3).slice (win0_9.rect ⟨_, hlt⟩)).set
  rw [View.set_slice_whole, Rect.mem_set_unit]
  obtain ⟨⟨e0, e1⟩, -⟩ := index9 ⟨_, hlt⟩
  obtain ⟨x0, x1⟩ := xsize9 ⟨_, hlt⟩
  dsimp only at e0 e1
  intro a
  match a with
  | ⟨0, _⟩ =>
    show win0_9.index ⟨_, hlt⟩ 0 * 176 ≤ (i 0).val ∧ (i 0).val < win0_9.index ⟨_, hlt⟩ 0 * 176 + win0_9.xsize (grid0.coords ⟨_, hlt⟩) 0
    omega
  | ⟨1, _⟩ =>
    show win0_9.index ⟨_, hlt⟩ 1 * 2048 ≤ (i 1).val ∧ (i 1).val < win0_9.index ⟨_, hlt⟩ 1 * 2048 + win0_9.xsize (grid0.coords ⟨_, hlt⟩) 1
    omega

theorem final9 (c : Dev nD) : (dats m 0 c).arrAt 9 cfg0.N = narrow9 m c :=
  Dat.arrAt_eq_of_cover (dats m 0 c) 9 (narrow9 m c) (fun t _ => flushed9 m c t) cover9

end Cert.Proof.KernelIdeal
end
-- ==== Proof.Finite.lean ====
module

public import proofs.«01_k».proof.Defs
public import proofs.«01_k».proof.Proof.Gen.Pre_finite_qk
public import proofs.«01_k».proof.Proof.Target
public import Idealize.ShloMosaic.Lib.ReduceAll

@[expose] public section

set_option maxRecDepth 16384

noncomputable section

namespace Cert.Proof.Finite

open Idealize.ShloMosaic

/-! The precondition read back: the queries and the keys are finite. -/

/-- The infinity's word. -/
theorem ofBits_inf : Ideal.ofBits .f32 0x7F800000#32 = ⊤ := by simp [Ideal.ofBits, Ideal.ieee]

/-- The comparison holding is the inequality. -/
theorem cmp_olt {x y : EReal} (h : Ideal.cmp .olt x y = 1#1) : x < y := by
  by_contra hn
  have : Ideal.cmp .olt x y = 0#1 := by
    unfold Ideal.cmp
    simp [hn]
  rw [this] at h
  exact absurd h (by decide)

/-- Each of the two comparisons holding everywhere, the array is finite. -/
theorem finite_of {s : Shape} (a lo hi : s.Idx → EReal) (hlo : ∀ i, lo i = ⊥) (hhi : ∀ i, hi i = ⊤)
    (h : ∀ i, IntOp.andi (Ideal.cmp .olt (lo i) (a i)) (Ideal.cmp .olt (a i) (hi i)) = 1#1) : Target.Finite a := by
  intro i
  obtain ⟨h1, h2⟩ := IntOp.andi_eq_one.1 (h i)
  have g1 := cmp_olt h1
  have g2 := cmp_olt h2
  rw [hlo] at g1; rw [hhi] at g2
  exact (EReal.coe_toReal g2.ne g1.ne').symm

instance : Subsingleton (Cert.Pre_finite_qk.S_).Idx := ⟨fun a b => funext fun k => k.elim0⟩

/-- Under the precondition the queries and the keys, both parts of each, are finite. -/
theorem of_pre (a0 : FVec Ideal Cert.Pre_finite_qk.S8192x8x128 .f32) (a1 : FVec Ideal Cert.Pre_finite_qk.S8192x8x64 .f32) (a2 : FVec Ideal Cert.Pre_finite_qk.S8192x8x128 .f32)
    (a3 : FVec Ideal Cert.Pre_finite_qk.S8192x64 .f32) (a4 : FVec Ideal Cert.Pre_finite_qk.S8192x8x128 .f32) (a5 a6 : FVec Ideal Cert.Pre_finite_qk.S2048x5632 .f32)
    (a7 : FVec Ideal Cert.Pre_finite_qk.S5632x2048 .f32)
    (h : Cert.Pre_finite_qk.fn (F := Ideal) a0 a1 a2 a3 a4 a5 a6 a7 = fun _ => 1#1) :
    Target.Finite a0 ∧ Target.Finite a1 ∧ Target.Finite a2 ∧ Target.Finite a3 := by
  have h := congrFun h (fun k => k.elim0)
  dsimp only [Cert.Pre_finite_qk.fn, Cert.Pre_finite_qk.fn_part1] at h
  obtain ⟨h, h3⟩ := IntOp.andi_eq_one.1 h
  obtain ⟨h, h2⟩ := IntOp.andi_eq_one.1 h
  obtain ⟨h0, h1⟩ := IntOp.andi_eq_one.1 h
  have hb : ∀ x : EReal, x = Ideal.ofBits .f32 0x7F800000#32 → -x = ⊥ := by
    intro x hx; rw [hx, ofBits_inf]; rfl
  refine ⟨?_, ?_, ?_, ?_⟩
  · exact finite_of a0 _ _ (fun i => hb _ rfl) (fun i => ofBits_inf) (Host.reduce_andi_all _ _ _ _ _ h0)
  · exact finite_of a1 _ _ (fun i => hb _ rfl) (fun i => ofBits_inf) (Host.reduce_andi_all _ _ _ _ _ h1)
  · exact finite_of a2 _ _ (fun i => hb _ rfl) (fun i => ofBits_inf) (Host.reduce_andi_all _ _ _ _ _ h2)
  · exact finite_of a3 _ _ (fun i => hb _ rfl) (fun i => ofBits_inf) (Host.reduce_andi_all _ _ _ _ _ h3)

end Cert.Proof.Finite

end
-- ==== Proof.RefAt.lean ====
module

public import proofs.«01_k».proof.Proof.Gen.ReferenceIdeal.Run
public import proofs.«01_k».proof.Proof.Gen.ReferenceIdeal
public import proofs.«01_k».proof.Proof.Online
public import Idealize.ShloMosaic.Lib.Pointwise
public import Idealize.ShloMosaic.Lib.WordCmp

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe

/-! The reference read at a query and a column: the scores, the masked scores, their exponentials, the weighted sum. -/

/-- The scaled scores of every head, query and key. -/
def dots (qn : FVec Ideal S8192x8x128 .f32) (qr : FVec Ideal S8192x8x64 .f32) (kn : FVec Ideal S8192x8x128 .f32) (kr : FVec Ideal S8192x64 .f32) :
    FVec Ideal S8x8192x8192 .f32 :=
  mulf (addf (Host.dotGeneral dot_S8192x8x128_S8192x8x128_S8x8192x8192_2_2_0_0_1_1 none qn kn) (transpose S8x8192x8192 [2, 1, 0] (Host.dotGeneral dot_S8192x64_S8192x8x64_S8192x8192x8_1_2_0_01_n_n none kr qr) transposes_S8192x8192x8_S8x8192x8192_2_1_0)) (broadcastInDim S8x8192x8192 ![] bcast_S_S8x8192x8192 (Host.divf (constant S_ .f32 0x3F800000#32) (Host.sqrt (constant S_ .f32 0x43400000#32))))

/-- The scores with the later keys masked. -/
def masked (d : FVec Ideal S8x8192x8192 .f32) : FVec Ideal S8x8192x8192 .f32 :=
  select (broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) d (broadcastInDim S8x8192x8192 ![] bcast_S_S8x8192x8192 (id (constant S_ .f32 0xFF800000#32)))

/-- Each row's largest entry. -/
def rowmax (x : FVec Ideal S8x8192x8192 .f32) : FVec Ideal S8x8192 .f32 :=
  Host.reduce FloatOps.maximumf x (constant S_ .f32 0xFF800000#32) reducesTo_S8x8192x8192_S8x8192_d2 h_S_

/-- The exponentials of the masked scores less a number for each row. -/
def expo (x : FVec Ideal S8x8192x8192 .f32) (M : FVec Ideal S8x8192 .f32) : FVec Ideal S8x8192x8192 .f32 :=
  Host.exp (subf x (broadcastInDim S8x8192x8192 ![0, 1, 2] bcast_S8x8192x1_S8x8192x8192_0_1_2 (broadcastInDim S8x8192x1 ![0, 1] bcast_S8x8192_S8x8192x1_0_1 (maximumf (broadcastInDim S8x8192 ![] bcast_S_S8x8192 (constant S_ .f32 0xFF800000#32)) M))))

/-- The output from the exponentials and the values. -/
def outp (ex : FVec Ideal S8x8192x8192 .f32) (v : FVec Ideal S8192x8x128 .f32) : FVec Ideal S8192x1024 .f32 :=
  shapeCast _ (transpose S8192x8x128 [2, 0, 1] (Host.dotGeneral dot_S8192x8x128_S8x8192x8192_S8x128x8192_0_2_2_1_1_0 none v (Host.divf ex (broadcastInDim S8x8192x8192 ![0, 1, 2] bcast_S8x8192x1_S8x8192x8192_0_1_2 (broadcastInDim S8x8192x1 ![0, 1] bcast_S8x8192_S8x8192x1_0_1 (Host.reduceAdd ex (constant S_ .f32 0x00000000#32) reducesTo_S8x8192x8192_S8x8192_d2 h_S_))))) transposes_S8x128x8192_S8192x8x128_2_0_1) shapeCasts_S8192x8x128_S8192x1024

theorem res_eq (m : (ℓ : Loc nD τ sig) → Buf (Elt Ideal) ℓ) (c : Dev nD) {x : FVec Ideal S8x8192x8192 .f32}
    (hx : x = masked (dots (m ((c.tc : Thread nD τ).loc main_arg0)) (m ((c.tc : Thread nD τ).loc main_arg1))
      (m ((c.tc : Thread nD τ).loc main_arg2)) (m ((c.tc : Thread nD τ).loc main_arg3)))) :
    res_main_v28 m c = outp (expo x (rowmax x)) (m ((c.tc : Thread nD τ).loc main_arg4)) := by subst hx; rfl

theorem dots_at (qn : FVec Ideal S8192x8x128 .f32) (qr : FVec Ideal S8192x8x64 .f32) (kn : FVec Ideal S8192x8x128 .f32) (kr : FVec Ideal S8192x64 .f32)
    (n : Fin 8) (s k : Fin 8192) :
    dots qn qr kn kr (ix3 n s k) = ((∑ j : Fin 128, qn (ix3 s n j) * kn (ix3 k n j)) + ∑ j : Fin 64, kr (ix2 k j) * qr (ix3 s n j))
      * Ideal.div 1 (Ideal.sqrt (Ideal.ofBits .f32 0x43400000#32)) := by
  pointwise [dots]

/-- The pattern of minus infinity. -/
theorem ofBits_neg_inf : Ideal.ofBits .f32 0xFF800000#32 = ⊥ := by
  simp [Ideal.ofBits, Ideal.ieee]

theorem masked_at (d : FVec Ideal S8x8192x8192 .f32) (n : Fin 8) (s k : Fin 8192) :
    masked d (ix3 n s k) = if k.val ≤ s.val then d (ix3 n s k) else ⊥ := by
  pointwise [masked]
  rw [show (id (constant (F := Ideal) S_ .f32 0xFF800000#32) ix0 : EReal) = ⊥ from ofBits_neg_inf, WordCmp.cmpi_sle_ofNat (by omega) (by omega)]
  by_cases h : k.val ≤ s.val <;> simp [h, Scalar.select]

/-- A maximum along the last of three axes, at any sizes. -/
theorem reduce_max_last {a b n : ℕ} {u : Shape} (v : FVec Ideal ⟨3, ![a, b, n]⟩ .f32) (c : FVec Ideal u .f32)
    (h : (⟨3, ![a, b, n]⟩ : Shape).ReducesTo [2] ⟨2, ![a, b]⟩) (hu : 0 < u.numel) (i : Fin a) (j : Fin b) :
    Host.reduce FloatOps.maximumf v c h hu (ix2 i j) = Finset.univ.fold max (c (Shape.Idx.first hu)) fun k : Fin n => v (ix3 i j k) := by
  simp only [pointwise]
  first | done | rfl

theorem rowmax_at (x : FVec Ideal S8x8192x8192 .f32) (n : Fin 8) (s : Fin 8192) :
    rowmax x (ix2 n s) = Finset.univ.fold max ⊥ fun k : Fin 8192 => x (ix3 n s k) := by
  unfold rowmax
  rw [← ofBits_neg_inf]
  exact reduce_max_last x _ _ _ n s

theorem expo_at (x : FVec Ideal S8x8192x8192 .f32) (M : FVec Ideal S8x8192 .f32) (n : Fin 8) (s k : Fin 8192) :
    expo x M (ix3 n s k) = Ideal.exp (x (ix3 n s k) - M (ix2 n s)) := by
  pointwise [expo]
  rw [ofBits_neg_inf, max_eq_right bot_le]

theorem outp_at (ex : FVec Ideal S8x8192x8192 .f32) (v : FVec Ideal S8192x8x128 .f32) (s : Fin 8192) (e : Fin 1024) :
    outp ex v (ix2 s e) = ∑ k : Fin 8192, v (ix3 k (⟨e.val / 128, by omega⟩ : Fin 8) (⟨e.val % 128, by omega⟩ : Fin 128))
      * Ideal.div (ex (ix3 (⟨e.val / 128, by omega⟩ : Fin 8) s k)) (∑ k' : Fin 8192, ex (ix3 (⟨e.val / 128, by omega⟩ : Fin 8) s k')) := by
  pointwise [outp]

end Cert.Proof.ReferenceIdeal
end
-- ==== Proof.RefValue.lean ====
module

public import proofs.«01_k».proof.Proof.RefAt
public import proofs.«01_k».proof.Proof.HostAt
public import proofs.«01_k».proof.Proof.Target

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe

/-! What the reference computes. -/

variable {qn kn : FVec Ideal S8192x8x128 .f32} {qr : FVec Ideal S8192x8x64 .f32} {kr : FVec Ideal S8192x64 .f32}

/-- A masked score of the reference. -/
theorem score_at (h0 : Target.Finite qn) (h1 : Target.Finite qr) (h2 : Target.Finite kn) (h3 : Target.Finite kr) (n : Fin 8) (s k : Fin 8192) :
    masked (dots qn qr kn kr) (ix3 n s k)
      = Online.score s.val (fun k => Target.dot qn kn qr kr n s k * (1 / Real.sqrt 192)) k.val := by
  rw [masked_at, dots_at, Cert.Proof.KernelIdeal.refScale_eq, Target.dot_eq h0 h1 h2 h3, ← EReal.coe_mul]
  rfl

/-- The reference's attention. -/
theorem attn_at (h0 : Target.Finite qn) (h1 : Target.Finite qr) (h2 : Target.Finite kn) (h3 : Target.Finite kr) (v : FVec Ideal S8192x8x128 .f32)
    {x : FVec Ideal S8x8192x8192 .f32} (hx : x = masked (dots qn qr kn kr)) (s : Fin 8192) (e : Fin 1024) :
    outp (expo x (rowmax x)) v (ix2 s e)
      = Target.attn qn kn v qr kr s (⟨e.val / 128, by omega⟩ : Fin 8) (⟨e.val % 128, by omega⟩ : Fin 128) := by
  rw [outp_at]
  generalize (⟨e.val / 128, by omega⟩ : Fin 8) = n
  generalize (⟨e.val % 128, by omega⟩ : Fin 128) = d
  obtain ⟨ρ, hρ⟩ := Online.rowmax_real s.val (fun k => Target.dot qn kn qr kr n s k * (1 / Real.sqrt 192)) s.isLt
  have hM : rowmax x (ix2 n s) = (ρ : EReal) := by
    rw [rowmax_at, ← hρ, hx]
    congr 1; funext k; exact score_at h0 h1 h2 h3 n s k
  have he : ∀ k : Fin 8192, expo x (rowmax x) (ix3 n s k)
      = Ideal.exp (Online.score s.val (fun k => Target.dot qn kn qr kr n s k * (1 / Real.sqrt 192)) k.val - (ρ : EReal)) := by
    intro k
    rw [expo_at, hM, hx, score_at h0 h1 h2 h3]
  simp only [he]
  unfold Target.attn
  rw [Finset.sum_range]
  refine Finset.sum_congr rfl fun k _ => ?_
  rw [Online.softmax_row _ _ s.isLt, Target.ofNat_val, mul_comm]

end Cert.Proof.ReferenceIdeal
end
-- ==== Proof.Algebraic.lean ====
module

public import proofs.«01_k».proof.Proof.Arrays
public import proofs.«01_k».proof.Proof.Finite
public import proofs.«01_k».proof.Proof.RefValue
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem

/-! The attention's two programs end with equal arrays. -/

/-- The kernel's four output arrays at the end of a run. -/
theorem run_k (m : (ℓ : Loc Cert.KernelIdeal.nD Cert.KernelIdeal.τ Cert.KernelIdeal.sig) → Buf (Elt Ideal) ℓ) (ρ : Dev Cert.KernelIdeal.nD → PrngReg)
    (hf : ∀ c, KernelIdeal.FiniteQK m c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23_0) = KernelIdeal.attnArr m c
      ∧ r.2.mem ((c.tc : Thread Cert.KernelIdeal.nD Cert.KernelIdeal.τ).loc Cert.KernelIdeal.main_v23_1) = KernelIdeal.narrow7 m c
      ∧ r.2.mem ((c.tc : Thread Cert.KernelIdeal.nD Cert.KernelIdeal.τ).loc Cert.KernelIdeal.main_v23_2) = KernelIdeal.narrow8 m c
      ∧ r.2.mem ((c.tc : Thread Cert.KernelIdeal.nD Cert.KernelIdeal.τ).loc Cert.KernelIdeal.main_v23_3) = KernelIdeal.narrow9 m c) :=
  (θ_run _ _ _).mono (fun _ h c => ⟨((h c).1 6).trans (KernelIdeal.final6 m c (hf c)), ((h c).1 7).trans (KernelIdeal.final7 m c),
    ((h c).1 8).trans (KernelIdeal.final8 m c), ((h c).1 9).trans (KernelIdeal.final9 m c)⟩) (KernelIdeal.run_main m ρ)

/-- The reference's attention is the same array of the same arguments. -/
theorem ref_k (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (hf : KernelIdeal.FiniteQK m c)
    (h0 : m' ((c.tc : Thread Cert.ReferenceIdeal.nD Cert.ReferenceIdeal.τ).loc Cert.ReferenceIdeal.main_arg0) = KernelIdeal.A0 m c)
    (h1 : m' ((c.tc : Thread Cert.ReferenceIdeal.nD Cert.ReferenceIdeal.τ).loc Cert.ReferenceIdeal.main_arg1) = KernelIdeal.A1 m c)
    (h2 : m' ((c.tc : Thread Cert.ReferenceIdeal.nD Cert.ReferenceIdeal.τ).loc Cert.ReferenceIdeal.main_arg2) = KernelIdeal.A2 m c)
    (h3 : m' ((c.tc : Thread Cert.ReferenceIdeal.nD Cert.ReferenceIdeal.τ).loc Cert.ReferenceIdeal.main_arg3) = KernelIdeal.A3 m c)
    (h4 : m' ((c.tc : Thread Cert.ReferenceIdeal.nD Cert.ReferenceIdeal.τ).loc Cert.ReferenceIdeal.main_arg4) = KernelIdeal.A4 m c) :
    Cert.ReferenceIdeal.Value.res_main_v28 (F := Ideal) m' c = KernelIdeal.attnArr m c := by
  obtain ⟨f0, f1, f2, f3⟩ := hf
  rw [ReferenceIdeal.res_eq m' c rfl, h0, h1, h2, h3, h4]
  funext j
  have hj0 : (j 0).val < 8192 := (j 0).isLt
  have hj1 : (j 1).val < 1024 := (j 1).isLt
  have ej : j = ix2 (⟨(j 0).val, hj0⟩ : Fin 8192) (⟨(j 1).val, hj1⟩ : Fin 1024) := funext fun a => by
    match a with
    | ⟨0, _⟩ => rfl
    | ⟨1, _⟩ => rfl
  rw [ej]
  exact ReferenceIdeal.attn_at f0 f1 f2 f3 _ rfl _ _

/-- Under the precondition the attention and its reference end with equal results and their arguments unchanged. -/
theorem algebraic_k : Cert.algebraic_KernelIdeal_ReferenceIdeal_pre_finite_qk := fun m ρ m' ρ' hpre hag =>
  have hf : ∀ c, KernelIdeal.FiniteQK m c := fun c => by
    obtain ⟨f0, f1, f2, f3⟩ := Finite.of_pre _ _ _ _ _ _ _ _ (hpre c)
    exact ⟨f0, f1, f2, f3⟩
  ⟨fun c => KernelIdeal.attnArr m c, fun c => KernelIdeal.narrow7 m c, fun c => KernelIdeal.narrow8 m c, fun c => KernelIdeal.narrow9 m c,
    (θ_run _ _ _).mono (fun r h c => ⟨(h.1 c).1, (h.1 c).2.1, (h.1 c).2.2.1, (h.1 c).2.2.2, h.2 c⟩) (θ_run_and (run_k m ρ hf) (KernelIdeal.unchanged m ρ)),
    (θ_run Cert.ReferenceIdeal.defs _ _).mono (fun r h c =>
      ⟨(h c).1.trans (ref_k m m' c (hf c) (hag c).1 (hag c).2.1 (hag c).2.2.1 (hag c).2.2.2.1 (hag c).2.2.2.2.1),
        (h c).2.1.trans (congrArg (fun x => truncf .bf16 x (by decide)) (hag c).2.2.2.2.2.1),
        (h c).2.2.1.trans (congrArg (fun x => truncf .bf16 x (by decide)) (hag c).2.2.2.2.2.2.1),
        (h c).2.2.2.1.trans (congrArg (fun x => truncf .bf16 x (by decide)) (hag c).2.2.2.2.2.2.2),
        (h c).2.2.2.2⟩) (Cert.ReferenceIdeal.Value.run (F := Ideal) m' ρ')⟩

end Cert.Proof

end
-- ==== Proof.FfnMath.lean ====
module

public import Idealize.ShloMosaic.PureOps.Ideal
public import Mathlib.Algebra.BigOperators.Fin

@[expose] public section

noncomputable section

namespace Cert.Proof.Ffn

open Idealize.ShloMosaic

/-! A feed-forward block with its layer norm, on one row of 2048 numbers. -/

/-- The hidden unit whose two columns of weights are `w1` and `w3`: `silu (x·w1) * (x·w3)`. -/
def hid (x w1 w3 : Fin 2048 → EReal) : EReal :=
  (∑ j, x j * w1 j) * Ideal.logistic (∑ j, x j * w1 j) * ∑ j, x j * w3 j

/-- The layer norm of the row `y` at column `k`. -/
def lnAt (y g b : Fin 2048 → EReal) (k : Fin 2048) : EReal :=
  (y k - Ideal.div (∑ j, y j) (Ideal.ofBits .f32 0x45000000#32))
    * Ideal.rsqrt (Ideal.div (∑ j, (y j - Ideal.div (∑ j, y j) (Ideal.ofBits .f32 0x45000000#32))
        * (y j - Ideal.div (∑ j, y j) (Ideal.ofBits .f32 0x45000000#32))) (Ideal.ofBits .f32 0x45000000#32)
      + Ideal.ofBits .f32 0x3727C5AC#32) * g k + b k

/-- What the `n` hidden units of one tile add to a column. -/
def tileSum {n : ℕ} (x : Fin 2048 → EReal) (w1 w3 : Fin 2048 → Fin n → EReal) (w2 : Fin n → EReal) : EReal :=
  ∑ u, hid x (fun j => w1 j u) (fun j => w3 j u) * w2 u

/-- What hidden unit `u` adds to column `k`. -/
def unitAt (x : Fin 2048 → EReal) (W1 W3 : Fin 2048 → Fin 5632 → EReal) (W2 : Fin 5632 → Fin 2048 → EReal) (k : Fin 2048) (u : Fin 5632) : EReal :=
  hid x (fun j => W1 j u) (fun j => W3 j u) * W2 u k

/-- The residual sum before the layer norm, given what the hidden units add. -/
def mix (x s : Fin 2048 → EReal) (k : Fin 2048) : EReal :=
  Ideal.ofBits .f32 0x3F9837F0#32 * x k + Ideal.ofBits .f32 0x3F000000#32 * s k

/-- The row the last tile leaves. -/
def lastAt {n : ℕ} (x o x' : Fin 2048 → EReal) (w1 w3 : Fin 2048 → Fin n → EReal) (w2 : Fin n → Fin 2048 → EReal) (g b : Fin 2048 → EReal) (k : Fin 2048) : EReal :=
  lnAt (mix x fun k => o k + tileSum x' w1 w3 fun u => w2 u k) g b k

/-- Rows that agree are left the same. -/
theorem lastAt_congr {n : ℕ} {x y o p x' y' : Fin 2048 → EReal} {w1 w3 : Fin 2048 → Fin n → EReal} {w2 : Fin n → Fin 2048 → EReal} {g b : Fin 2048 → EReal} {k : Fin 2048}
    (hx : x = y) (ho : o = p) (hx' : x' = y') : lastAt x o x' w1 w3 w2 g b k = lastAt y p y' w1 w3 w2 g b k := by
  rw [hx, ho, hx']

/-- The whole block at column `k`. -/
def ffnAt (x : Fin 2048 → EReal) (W1 W3 : Fin 2048 → Fin 5632 → EReal) (W2 : Fin 5632 → Fin 2048 → EReal) (g b : Fin 2048 → EReal) (k : Fin 2048) : EReal :=
  lnAt (mix x fun k => ∑ u, unitAt x W1 W3 W2 k u) g b k

/-- A family over the hidden units continued by zero. -/
def ext (f : Fin 5632 → EReal) (n : ℕ) : EReal := if h : n < 5632 then f ⟨n, h⟩ else 0

/-- The sum over the first `n` hidden units. -/
def sumTo (f : Fin 5632 → EReal) (n : ℕ) : EReal := ∑ u ∈ Finset.range n, ext f u

/-- No unit. -/
theorem sumTo_zero (f : Fin 5632 → EReal) : sumTo f 0 = 0 := by simp [sumTo]

/-- A tile of `w` units more. -/
theorem sumTo_add (f : Fin 5632 → EReal) (n w : ℕ) (h : n + w ≤ 5632) : sumTo f n + ∑ x : Fin w, f ⟨n + x.val, by omega⟩ = sumTo f (n + w) := by
  unfold sumTo
  rw [Finset.sum_range_add]
  refine congrArg _ ?_
  rw [Finset.sum_range]
  refine Finset.sum_congr rfl fun x _ => ?_
  have hx : n + x.val < 5632 := by omega
  rw [ext, dif_pos hx]

/-- All units. -/
theorem sumTo_all (f : Fin 5632 → EReal) : sumTo f 5632 = ∑ u, f u := by
  unfold sumTo
  rw [Finset.sum_range]
  exact Finset.sum_congr rfl fun x _ => by rw [ext, dif_pos x.isLt]

/-- The sum over the first tiles of 512 units. -/
abbrev upTo (f : Fin 5632 → EReal) (n : ℕ) : EReal := sumTo f (512 * n)

/-- No tile. -/
theorem upTo_zero (f : Fin 5632 → EReal) : upTo f 0 = 0 := sumTo_zero f

/-- One tile more. -/
theorem upTo_succ (f : Fin 5632 → EReal) (n : ℕ) (h : n < 11) :
    upTo f n + ∑ x : Fin 512, f ⟨512 * n + x.val, by omega⟩ = upTo f (n + 1) := sumTo_add f (512 * n) 512 (by omega)

/-- All eleven tiles make the sum over every hidden unit. -/
theorem upTo_all (f : Fin 5632 → EReal) : upTo f 11 = ∑ u, f u := sumTo_all f

end Cert.Proof.Ffn

end
-- ==== Proof.Ffn.lean ====
module

public import proofs.«01_k».proof.Proof.Gen.Kernel2Ideal.Value
public import proofs.«01_k».proof.Proof.FfnMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Proof.Kernel2Ideal

open Cert.Kernel2Ideal Cert.Kernel2Ideal.Gen
open Idealize.ShloMosaic Idealize.ShloMosaic.TcCoe Idealize.SL.Sem
open Idealize.ShloMosaic.Pipeline (Dat)
open Cert.Proof.Ffn

/-! What the second feed-forward block's output array holds at the end. -/

variable (m : (ℓ : Loc nD τ sig) → Buf (Elt Ideal) ℓ)

/-- The first column tile starts the sum. -/
theorem outs_A (c : Dev nD) (t : Fin cfg0.N) (h : t.val % 11 = 0) :
    outsAt0 m c t.val t.isLt = k0_pay2 (k0_pay1 (F := Ideal)) (iblk m c 0 t) (iblk m c 1 t) (iblk m c 2 t) (iblk m c 3 t) := by
  rw [outsAt0_A m c t h (by omega) (by omega)]
  frame_out

/-- The middle tiles add to what the point before left. -/
theorem outs_B (c : Dev nD) (t : Fin cfg0.N) (h : ¬ t.val % 11 = 0) (h' : t.val % 11 ≤ 9) (hp : t.val - 1 < cfg0.N) :
    outsAt0 m c t.val t.isLt = k0_pay2 (outsAt0 m c (t.val - 1) hp) (iblk m c 0 t) (iblk m c 1 t) (iblk m c 2 t) (iblk m c 3 t) := by
  rw [outsAt0_B m c t h h' (by omega)]
  frame_out

section
variable (r : Fin 256) (k : Fin 2048) (x o x' : FVec Ideal S256x2048 .f32) (w1 w3 : FVec Ideal S2048x512 .bf16) (w2 : FVec Ideal S512x2048 .bf16) (g b : FVec Ideal S1x2048 .f32)

/-- A tile's step at a row and a column. -/
theorem pay2_at (o x : FVec Ideal S1024x2048 .f32) (r : Fin 1024) : k0_pay2 (F := Ideal) o x w1 w3 w2 (ix2 r k)
    = o (ix2 r k) + tileSum (fun j => x (ix2 r j)) (fun j u => w1 (ix2 j u)) (fun j u => w3 (ix2 j u)) (fun u => w2 (ix2 u k)) := by
  pointwise [k0_pay2]
  rfl

/-- The first group of rows at the last tile. -/
theorem group0_at : k0_pay5 (F := Ideal) g b (k0_pay3 x o x' w1 w3 w2) (k0_pay4 x o x' w1 w3 w2) (FloatOps.ofBits (F := Ideal) FTy.f32 1157627904#32) (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay3, k0_pay4, k0_pay5]
  rfl

/-- The second group of rows at the last tile. -/
theorem group1_at : k0_pay7 (F := Ideal) (k0_pay6 x o x' w1 w3 w2) g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay6, k0_pay7]
  rfl

/-- The third group of rows at the last tile. -/
theorem group2_at : k0_pay13 (F := Ideal) (k0_pay8 x) (k0_pay9 o) (k0_pay11 x' w3) (k0_pay12 x' w1) w2 g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay8, k0_pay9, k0_pay11, k0_pay12, k0_pay13]
  rfl

/-- The fourth group of rows at the last tile. -/
theorem group3_at : k0_pay16 (F := Ideal) (k0_pay14 x) (k0_pay15 o) x' w1 w3 w2 g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay14, k0_pay15, k0_pay16]
  rfl
end

/-- A group of 256 rows loaded from a block, read at its own row. -/
theorem ld_rows (X : Vec Ideal S1024x2048 .f32) (off : Fin 2 → ℕ) (inb : ∀ a, off a + ![256, 2048] a ≤ S1024x2048.size a) (r : Fin 1024) (r' : Fin 256) (j : Fin 2048)
    (h : r.val = off 0 + r'.val) (h1 : off 1 = 0) :
    View.ld X (Rect.unit (s := S1024x2048) off ![256, 2048] inb) (ix2 r' j) = X (ix2 r j) :=
  View.ld_unit_apply_of X off ![256, 2048] inb (ix2 r' j) (ix2 r j) fun a => by
    match a with
    | ⟨0, _⟩ => exact h
    | ⟨1, _⟩ => show j.val = off 1 + j.val; omega

/-- The last tile ends the sum, mixes in the row and takes the layer norm. -/
theorem outs_C (c : Dev nD) (t : Fin cfg0.N) (h : t.val % 11 = 10) (hp : t.val - 1 < cfg0.N) (r : Fin 1024) (k : Fin 2048) :
    outsAt0 m c t.val t.isLt (ix2 r k)
      = lastAt (fun j => iblk m c 0 t (ix2 r j)) (fun j => outsAt0 m c (t.val - 1) hp (ix2 r j)) (fun j => iblk m c 0 t (ix2 r j))
        (fun j u => iblk m c 1 t (ix2 j u)) (fun j u => iblk m c 2 t (ix2 j u)) (fun u k => iblk m c 3 t (ix2 u k))
        (fun j => iblk m c 4 t (ix2 0 j)) (fun j => iblk m c 5 t (ix2 0 j)) k := by
  rw [outsAt0_C m c t (by omega) (by omega) h]
  frame_open
  simp (disch := decide) only [↓ View.readCov_skip, ↓ View.readCov_cons_toLoadRect, ↓ View.readCov_fill]
  frame_out
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals intro x hx
  all_goals
    obtain ⟨r', rfl⟩ : ∃ r' : Fin 256, x = ix2 r' k := ⟨⟨(x 0).val, (x 0).isLt⟩, funext fun a => by
      match a with
      | ⟨0, _⟩ => rfl
      | ⟨1, _⟩ => exact Fin.ext (((Nat.zero_add _).symm.trans (hx 1).symm))⟩
  · refine (group3_at _ _ _ _ _ _ _ _ _ _).trans ?_
    exact lastAt_congr (funext fun j => ld_rows _ ![768, 0] inb_S1024x2048_S256x2048_768_0 r r' j (hx 0) rfl) (funext fun j => ld_rows _ ![768, 0] inb_S1024x2048_S256x2048_768_0 r r' j (hx 0) rfl) (funext fun j => ld_rows _ ![768, 0] inb_S1024x2048_S256x2048_768_0 r r' j (hx 0) rfl)
  · refine (group2_at _ _ _ _ _ _ _ _ _ _).trans ?_
    exact lastAt_congr (funext fun j => ld_rows _ ![512, 0] inb_S1024x2048_S256x2048_512_0 r r' j (hx 0) rfl) (funext fun j => ld_rows _ ![512, 0] inb_S1024x2048_S256x2048_512_0 r r' j (hx 0) rfl) (funext fun j => ld_rows _ ![512, 0] inb_S1024x2048_S256x2048_512_0 r r' j (hx 0) rfl)
  · refine (group1_at _ _ _ _ _ _ _ _ _ _).trans ?_
    exact lastAt_congr (funext fun j => ld_rows _ ![256, 0] inb_S1024x2048_S256x2048_256_0 r r' j (hx 0) rfl) (funext fun j => ld_rows _ ![256, 0] inb_S1024x2048_S256x2048_256_0 r r' j (hx 0) rfl) (funext fun j => ld_rows _ ![256, 0] inb_S1024x2048_S256x2048_256_0 r r' j (hx 0) rfl)
  · refine (group0_at _ _ _ _ _ _ _ _ _ _).trans ?_
    exact lastAt_congr (funext fun j => ld_rows _ ![0, 0] inb_S1024x2048_S256x2048_0_0 r r' j (hx 0) rfl) (funext fun j => ld_rows _ ![0, 0] inb_S1024x2048_S256x2048_0_0 r r' j (hx 0) rfl) (funext fun j => ld_rows _ ![0, 0] inb_S1024x2048_S256x2048_0_0 r r' j (hx 0) rfl)

/-! ## The blocks the points read -/

theorem index_0 : ∀ t : Fin cfg0.N, win0_0.index t 0 = t.val / 11 ∧ win0_0.index t 1 = 0 := by decide +kernel
theorem index_1 : ∀ t : Fin cfg0.N, win0_1.index t 0 = 0 ∧ win0_1.index t 1 = t.val % 11 := by decide +kernel
theorem index_2 : ∀ t : Fin cfg0.N, win0_2.index t 0 = 0 ∧ win0_2.index t 1 = t.val % 11 := by decide +kernel
theorem index_3 : ∀ t : Fin cfg0.N, win0_3.index t 0 = t.val % 11 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val / 11 ∧ win0_6.index t 1 = 0 := by decide +kernel

/-- The rows. -/
def X (c : Dev nD) (s : Fin 8192) (j : Fin 2048) : EReal := m ((c : Thread nD τ).loc main_arg0) (ix2 s j)
/-- The gate's weights. -/
def W1 (c : Dev nD) (j : Fin 2048) (u : Fin 5632) : EReal := m ((c : Thread nD τ).loc main_arg1) (ix2 j u)
/-- The other factor's weights. -/
def W3 (c : Dev nD) (j : Fin 2048) (u : Fin 5632) : EReal := m ((c : Thread nD τ).loc main_arg2) (ix2 j u)
/-- The weights back to the row. -/
def W2 (c : Dev nD) (u : Fin 5632) (k : Fin 2048) : EReal := m ((c : Thread nD τ).loc main_arg3) (ix2 u k)
/-- The layer norm's factors. -/
def G (c : Dev nD) (k : Fin 2048) : EReal := m ((c : Thread nD τ).loc main_arg4) (ix2 (0 : Fin 1) k)
/-- The layer norm's offsets. -/
def B (c : Dev nD) (k : Fin 2048) : EReal := m ((c : Thread nD τ).loc main_arg5) (ix2 (0 : Fin 1) k)

theorem v0_at (c : Dev nD) (j : Fin 2048) (u : Fin 5632) : (V m c main_v0 (ix2 j u) : EReal) = W1 m c j u := by
  unfold V W1
  after_reads_at

theorem v1_at (c : Dev nD) (j : Fin 2048) (u : Fin 5632) : (V m c main_v1 (ix2 j u) : EReal) = W3 m c j u := by
  unfold V W3
  after_reads_at

theorem v2_at (c : Dev nD) (u : Fin 5632) (k : Fin 2048) : (V m c main_v2 (ix2 u k) : EReal) = W2 m c u k := by
  unfold V W2
  after_reads_at

/-- A block of rows. -/
theorem iblk0_at (c : Dev nD) (t : Fin cfg0.N) (r : Fin 1024) (k : Fin 2048) (h : 1024 * (t.val / 11) + r.val < 8192) :
    (iblk m c 0 t (ix2 r k) : EReal) = X m c ⟨1024 * (t.val / 11) + r.val, h⟩ k := by
  obtain ⟨e0, e1⟩ := index_0 t
  unfold X
  rw [← V_main_arg0 m c]
  refine congrArg (V m c main_arg0) (funext fun a => Fin.ext ?_)
  match a with
  | ⟨0, _⟩ => show win0_0.index t 0 * 1024 + 1 * r.val = 1024 * (t.val / 11) + r.val; omega
  | ⟨1, _⟩ => show win0_0.index t 1 * 2048 + 1 * k.val = k.val; omega

/-- A tile of the gate's weights. -/
theorem iblk1_at (c : Dev nD) (t : Fin cfg0.N) (j : Fin 2048) (u : Fin 512) (h : 512 * (t.val % 11) + u.val < 5632) :
    (iblk m c 1 t (ix2 j u) : EReal) = W1 m c j ⟨512 * (t.val % 11) + u.val, h⟩ := by
  obtain ⟨e0, e1⟩ := index_1 t
  rw [← v0_at]
  refine congrArg (V m c main_v0) (funext fun a => Fin.ext ?_)
  match a with
  | ⟨0, _⟩ => show win0_1.index t 0 * 2048 + 1 * j.val = j.val; omega
  | ⟨1, _⟩ => show win0_1.index t 1 * 512 + 1 * u.val = 512 * (t.val % 11) + u.val; omega

/-- A tile of the other factor's weights. -/
theorem iblk2_at (c : Dev nD) (t : Fin cfg0.N) (j : Fin 2048) (u : Fin 512) (h : 512 * (t.val % 11) + u.val < 5632) :
    (iblk m c 2 t (ix2 j u) : EReal) = W3 m c j ⟨512 * (t.val % 11) + u.val, h⟩ := by
  obtain ⟨e0, e1⟩ := index_2 t
  rw [← v1_at]
  refine congrArg (V m c main_v1) (funext fun a => Fin.ext ?_)
  match a with
  | ⟨0, _⟩ => show win0_2.index t 0 * 2048 + 1 * j.val = j.val; omega
  | ⟨1, _⟩ => show win0_2.index t 1 * 512 + 1 * u.val = 512 * (t.val % 11) + u.val; omega

/-- A tile of the weights back to the row. -/
theorem iblk3_at (c : Dev nD) (t : Fin cfg0.N) (u : Fin 512) (k : Fin 2048) (h : 512 * (t.val % 11) + u.val < 5632) :
    (iblk m c 3 t (ix2 u k) : EReal) = W2 m c ⟨512 * (t.val % 11) + u.val, h⟩ k := by
  obtain ⟨e0, e1⟩ := index_3 t
  rw [← v2_at]
  refine congrArg (V m c main_v2) (funext fun a => Fin.ext ?_)
  match a with
  | ⟨0, _⟩ => show win0_3.index t 0 * 512 + 1 * u.val = 512 * (t.val % 11) + u.val; omega
  | ⟨1, _⟩ => show win0_3.index t 1 * 2048 + 1 * k.val = k.val; omega

/-- The layer norm's factors. -/
theorem iblk4_at (c : Dev nD) (t : Fin cfg0.N) (k : Fin 2048) : (iblk m c 4 t (ix2 (0 : Fin 1) k) : EReal) = G m c k := by
  obtain ⟨e0, e1⟩ := index_4 t
  unfold G
  rw [← V_main_arg4 m c]
  refine congrArg (V m c main_arg4) (funext fun a => Fin.ext ?_)
  match a with
  | ⟨0, _⟩ => show win0_4.index t 0 * 1 + 1 * 0 = 0; omega
  | ⟨1, _⟩ => show win0_4.index t 1 * 2048 + 1 * k.val = k.val; omega

/-- The layer norm's offsets. -/
theorem iblk5_at (c : Dev nD) (t : Fin cfg0.N) (k : Fin 2048) : (iblk m c 5 t (ix2 (0 : Fin 1) k) : EReal) = B m c k := by
  obtain ⟨e0, e1⟩ := index_5 t
  unfold B
  rw [← V_main_arg5 m c]
  refine congrArg (V m c main_arg5) (funext fun a => Fin.ext ?_)
  match a with
  | ⟨0, _⟩ => show win0_5.index t 0 * 1 + 1 * 0 = 0; omega
  | ⟨1, _⟩ => show win0_5.index t 1 * 2048 + 1 * k.val = k.val; omega

/-! ## The sum over the tiles -/

/-- The hidden units' terms at a row and a column. -/
abbrev term (c : Dev nD) (s : Fin 8192) (k : Fin 2048) : Fin 5632 → EReal := unitAt (X m c s) (W1 m c) (W3 m c) (W2 m c) k

/-- What one tile adds. -/
theorem tile_at (c : Dev nD) (t : Fin cfg0.N) (r : Fin 1024) (k : Fin 2048) (h : 1024 * (t.val / 11) + r.val < 8192) :
    tileSum (fun j => iblk m c 0 t (ix2 r j)) (fun j u => iblk m c 1 t (ix2 j u)) (fun j u => iblk m c 2 t (ix2 j u)) (fun u => iblk m c 3 t (ix2 u k))
      = ∑ u : Fin 512, term m c ⟨1024 * (t.val / 11) + r.val, h⟩ k ⟨512 * (t.val % 11) + u.val, by omega⟩ := by
  unfold tileSum term unitAt
  refine Finset.sum_congr rfl fun u _ => ?_
  have hu : 512 * (t.val % 11) + u.val < 5632 := by omega
  simp only [iblk0_at m c t r _ h, iblk1_at m c t _ u hu, iblk2_at m c t _ u hu, iblk3_at m c t u _ hu]

/-- The first step, from zeros. -/
theorem acc_first (c : Dev nD) (r : Fin 1024) (k : Fin 2048) (n : ℕ) (hn : n < cfg0.N) (h0 : n % 11 = 0) (h : 1024 * (n / 11) + r.val < 8192) :
    (outsAt0 m c n hn (ix2 r k) : EReal) = upTo (term m c ⟨1024 * (n / 11) + r.val, h⟩ k) (n % 11 + 1) := by
  have e := congrFun (outs_A m c ⟨n, hn⟩ h0) (ix2 r k)
  rw [pay2_at, tile_at m c ⟨n, hn⟩ r k h] at e
  refine e.trans ?_
  rw [← upTo_succ _ _ (by omega)]
  refine congrArg (· + _) ?_
  rw [h0, upTo_zero]
  pointwise [k0_pay1]

/-- A later step, from what the step before left. -/
theorem acc_next (c : Dev nD) (r : Fin 1024) (k : Fin 2048) (n : ℕ) (hn : n + 1 < cfg0.N) (h0 : ¬ (n + 1) % 11 = 0) (h9 : (n + 1) % 11 ≤ 9)
    (h : 1024 * ((n + 1) / 11) + r.val < 8192)
    (ih : (outsAt0 m c n (by omega) (ix2 r k) : EReal) = upTo (term m c ⟨1024 * ((n + 1) / 11) + r.val, h⟩ k) ((n + 1) % 11)) :
    (outsAt0 m c (n + 1) hn (ix2 r k) : EReal) = upTo (term m c ⟨1024 * ((n + 1) / 11) + r.val, h⟩ k) ((n + 1) % 11 + 1) := by
  have e := congrFun (outs_B m c ⟨n + 1, hn⟩ h0 h9 (by show n < _; omega)) (ix2 r k)
  rw [pay2_at, tile_at m c ⟨n + 1, hn⟩ r k h] at e
  refine e.trans ?_
  rw [← upTo_succ _ _ (by omega)]
  exact congrArg (· + _) ih

/-- Before the last tile, the block holds the sum over the tiles so far. -/
theorem acc_at (c : Dev nD) (r : Fin 1024) (k : Fin 2048) : ∀ (n : ℕ) (hn : n < cfg0.N) (_ : n % 11 ≤ 9) (h : 1024 * (n / 11) + r.val < 8192),
    (outsAt0 m c n hn (ix2 r k) : EReal) = upTo (term m c ⟨1024 * (n / 11) + r.val, h⟩ k) (n % 11 + 1) := by
  intro n
  induction n with
  | zero => exact fun hn _ h => acc_first m c r k 0 hn rfl h
  | succ n ih =>
    intro hn h9 h
    by_cases h0 : (n + 1) % 11 = 0
    · exact acc_first m c r k (n + 1) hn h0 h
    · refine acc_next m c r k n hn h0 h9 h ((ih (by omega) (by omega) (by omega)).trans ?_)
      have ed : n / 11 = (n + 1) / 11 := by omega
      have em : n % 11 + 1 = (n + 1) % 11 := by omega
      simp only [ed, em]

/-- The array the call computes. -/
def ffnArr (c : Dev nD) : S8192x2048.Idx → EReal := fun i => ffnAt (X m c (i 0)) (W1 m c) (W3 m c) (W2 m c) (G m c) (B m c) (i 1)

/-- After the last tile, the block holds the rows of the result. -/
theorem last_at (c : Dev nD) (t : Fin cfg0.N) (ht : t.val % 11 = 10) (r : Fin 1024) (k : Fin 2048) (h : 1024 * (t.val / 11) + r.val < 8192) :
    (outsAt0 m c t.val t.isLt (ix2 r k) : EReal) = ffnArr m c (ix2 (⟨1024 * (t.val / 11) + r.val, h⟩ : Fin 8192) k) := by
  have hp : t.val - 1 < cfg0.N := lt_of_le_of_lt (Nat.sub_le _ _) t.isLt
  rw [outs_C m c t ht hp r k]
  unfold lastAt
  simp only [iblk4_at, iblk5_at]
  show lnAt _ (G m c) (B m c) k = lnAt _ (G m c) (B m c) k
  refine congrArg (fun y => lnAt y (G m c) (B m c) k) ?_
  refine (congrArg (fun s => mix _ s) (funext fun k' => ?_)).trans (congrArg (fun x => mix x _) (funext fun j => iblk0_at m c t r j h))
  have e := acc_at m c r k' (t.val - 1) hp (by omega) (by omega)
  have ed : (t.val - 1) / 11 = t.val / 11 := by omega
  have em : (t.val - 1) % 11 + 1 = 10 := by omega
  simp only [ed, em] at e
  rw [e, tile_at m c t r k' h]
  simp only [ht]
  rw [upTo_succ _ 10 (by omega), upTo_all]
  rfl

theorem xsize_6 : ∀ t : Fin cfg0.N, win0_6.xsize (grid0.coords t) 0 = 1024 ∧ win0_6.xsize (grid0.coords t) 1 = 2048 := by decide +kernel

/-- Every block written back is the block of the result. -/
theorem flushed6 (c : Dev nD) (t : Fin cfg0.N) (ht : t.val % 11 = 10) : (dats m 0 c).flushed 6 t = (win0_6.blk t).view.read (Elt Ideal) (ffnArr m c) := by
  rw [Value.flushed6]
  obtain ⟨e0, e1⟩ := index_6 t
  have hN : t.val < 88 := lt_of_lt_of_eq t.isLt N_0
  funext j
  have hj0 : (j 0).val < 1024 := (j 0).isLt
  have hj1 : (j 1).val < 2048 := (j 1).isLt
  have ej : j = ix2 (⟨(j 0).val, hj0⟩ : Fin 1024) (⟨(j 1).val, hj1⟩ : Fin 2048) := funext fun a => by
    match a with
    | ⟨0, _⟩ => rfl
    | ⟨1, _⟩ => rfl
  refine (show _ = outsAt0 m c t.val t.isLt (ix2 (⟨(j 0).val, hj0⟩ : Fin 1024) (⟨(j 1).val, hj1⟩ : Fin 2048)) from
    congrArg (outsAt0 m c t.val t.isLt) ej).trans ?_
  refine (last_at m c t ht _ _ (by show 1024 * (t.val / 11) + (j 0).val < 8192; omega)).trans ?_
  refine congrArg (ffnArr m c) (funext fun a => Fin.ext ?_)
  match a with
  | ⟨0, _⟩ => show 1024 * (t.val / 11) + (j 0).val = win0_6.index t 0 * 1024 + 1 * (j 0).val; omega
  | ⟨1, _⟩ => show (j 1).val = win0_6.index t 1 * 2048 + 1 * (j 1).val; omega

/-- Every row lies in a block that is written back. -/
theorem cover6 (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 88 := N_0
  have hlt : 11 * ((i 0).val / 1024) + 10 < cfg0.N := by omega
  refine ⟨⟨11 * ((i 0).val / 1024) + 10, hlt⟩, (flush0_6 _).mpr (by show (11 * ((i 0).val / 1024) + 10) % 11 = 10; omega), ?_⟩
  show i ∈ ((View.whole main_v3).slice (win0_6.rect ⟨_, hlt⟩)).set
  rw [View.set_slice_whole, Rect.mem_set_unit]
  obtain ⟨e0, e1⟩ := index_6 ⟨_, hlt⟩
  obtain ⟨x0, x1⟩ := xsize_6 ⟨_, hlt⟩
  dsimp only at e0 e1
  intro a
  match a with
  | ⟨0, _⟩ =>
    show win0_6.index ⟨_, hlt⟩ 0 * 1024 ≤ (i 0).val ∧ (i 0).val < win0_6.index ⟨_, hlt⟩ 0 * 1024 + win0_6.xsize (grid0.coords ⟨_, hlt⟩) 0
    omega
  | ⟨1, _⟩ =>
    show win0_6.index ⟨_, hlt⟩ 1 * 2048 ≤ (i 1).val ∧ (i 1).val < win0_6.index ⟨_, hlt⟩ 1 * 2048 + win0_6.xsize (grid0.coords ⟨_, hlt⟩) 1
    omega

/-- The array ends as the feed-forward block's. -/
theorem final6 (c : Dev nD) : (dats m 0 c).arrAt 6 cfg0.N = ffnArr m c :=
  Dat.arrAt_eq_of_cover (dats m 0 c) 6 (ffnArr m c) (fun t hf => flushed6 m c t ((flush0_6 t).mp hf)) cover6

/-- The run, with its result array named. -/
theorem run (ρ : Dev nD → PrngReg) : θ_run defs (onTc (τ := τ) (main (F := Ideal))) ⟨m, fun _ => 0, ρ⟩ fun r => ∀ c : Dev nD,
      r.2.mem ((c.tc : Thread nD τ).loc main_v3) = ffnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final6 m c), (h c).2⟩) (Value.run_blocks m ρ)

end Cert.Proof.Kernel2Ideal

end
-- ==== Proof.Algebraic2.lean ====
module

public import proofs.«01_k».proof.Defs
public import proofs.«01_k».proof.Proof.Ffn
public import proofs.«01_k».proof.Proof.Gen.Reference2Ideal
public import proofs.«01_k».proof.Proof.Gen.Reference2Ideal.Run

@[expose] public section

set_option maxRecDepth 16384

noncomputable section

namespace Cert.Proof.Reference2Ideal

open Cert.Reference2Ideal Cert.Reference2Ideal.Gen
open Idealize.ShloMosaic Idealize.ShloMosaic.TcCoe Idealize.SL.Sem
open Cert.Proof.Ffn

/-! The second feed-forward block and its reference end with equal arrays. -/

section
variable (h : FVec Ideal S8192x2048 .f32) (w1 w3 : FVec Ideal S2048x5632 .f32) (w2 : FVec Ideal S5632x2048 .f32) (g b : FVec Ideal S1x2048 .f32)

/-- The hidden units: `silu (h w1) * (h w3)`. -/
def hidden : FVec Ideal S8192x5632 .f32 :=
  mulf (mulf (Host.dotGeneral dot_S8192x2048_S2048x5632_S8192x5632_1_0_0_1_n_n none h w1)
    (Host.divf (broadcastInDim S8192x5632 ![] bcast_S_S8192x5632 (constant S_ .f32 0x3F800000#32))
      (addf (broadcastInDim S8192x5632 ![] bcast_S_S8192x5632 (constant S_ .f32 0x3F800000#32))
        (Host.exp (Host.negf (Host.dotGeneral dot_S8192x2048_S2048x5632_S8192x5632_1_0_0_1_n_n none h w1))))))
    (Host.dotGeneral dot_S8192x2048_S2048x5632_S8192x5632_1_0_0_1_n_n none h w3)

/-- The residual sum with the hidden units' rows `e`. -/
def resid (e : FVec Ideal S8192x5632 .f32) : FVec Ideal S8192x2048 .f32 :=
  addf (mulf (broadcastInDim S8192x2048 ![] bcast_S_S8192x2048 (constant S_ .f32 0x3F9837F0#32)) h)
    (mulf (broadcastInDim S8192x2048 ![] bcast_S_S8192x2048 (constant S_ .f32 0x3F000000#32))
      (Host.dotGeneral dot_S8192x5632_S5632x2048_S8192x2048_1_0_0_1_n_n none e w2))

/-- A row's mean. -/
def mean (y : FVec Ideal S8192x2048 .f32) : FVec Ideal S8192x1 .f32 :=
  Host.divf (broadcastInDim S8192x1 ![0] bcast_S8192_S8192x1_0 (Host.reduceAdd y (constant S_ .f32 0x00000000#32) reducesTo_S8192x2048_S8192_d1 h_S_))
    (broadcastInDim S8192x1 ![] bcast_S_S8192x1 (constant S_ .f32 0x45000000#32))

/-- The rows with their means subtracted. -/
def centred (y : FVec Ideal S8192x2048 .f32) : FVec Ideal S8192x2048 .f32 :=
  subf y (broadcastInDim S8192x2048 ![0, 1] bcast_S8192x1_S8192x2048_0_1 (mean y))

/-- The layer norm of centred rows. -/
def norm (yc : FVec Ideal S8192x2048 .f32) : FVec Ideal S8192x2048 .f32 :=
  addf (mulf (mulf yc (broadcastInDim S8192x2048 ![0, 1] bcast_S8192x1_S8192x2048_0_1
      (Host.rsqrt (addf (mean (mulf yc yc)) (broadcastInDim S8192x1 ![] bcast_S_S8192x1 (constant S_ .f32 0x3727C5AC#32))))))
    (broadcastInDim S8192x2048 ![0, 1] bcast_S1x2048_S8192x2048_0_1 g))
    (broadcastInDim S8192x2048 ![0, 1] bcast_S1x2048_S8192x2048_0_1 b)

/-- The reference's result as a term of its arguments. -/
def out : FVec Ideal S8192x2048 .f32 := norm g b (centred (resid h w2 (hidden h w1 w3)))

/-- A hidden unit. -/
theorem hidden_at (s : Fin 8192) (u : Fin 5632) : hidden h w1 w3 (ix2 s u) = hid (fun j => h (ix2 s j)) (fun j => w1 (ix2 j u)) (fun j => w3 (ix2 j u)) := by
  pointwise [hidden]
  rfl

/-- The residual sum at a row and a column. -/
theorem resid_at (e : FVec Ideal S8192x5632 .f32) (s : Fin 8192) (k : Fin 2048) :
    resid h w2 e (ix2 s k) = mix (fun j => h (ix2 s j)) (fun k => ∑ u, e (ix2 s u) * w2 (ix2 u k)) k := by
  pointwise [resid]
  rfl

/-- A row's mean. -/
theorem mean_at (y : FVec Ideal S8192x2048 .f32) (s : Fin 8192) (z : Fin 1) : mean y (ix2 s z) = Ideal.div (∑ j : Fin 2048, y (ix2 s j)) (Ideal.ofBits .f32 0x45000000#32) := by
  pointwise [mean]

/-- The layer norm at a row and a column. -/
theorem norm_at (y : FVec Ideal S8192x2048 .f32) (s : Fin 8192) (k : Fin 2048) :
    norm g b (centred y) (ix2 s k) = lnAt (fun j => y (ix2 s j)) (fun j => g (ix2 (0 : Fin 1) j)) (fun j => b (ix2 (0 : Fin 1) j)) k := by
  have ec : ∀ j : Fin 2048, centred y (ix2 s j) = y (ix2 s j) - Ideal.div (∑ j : Fin 2048, y (ix2 s j)) (Ideal.ofBits .f32 0x45000000#32) := fun j => by
    pointwise [centred]
    rw [mean_at]
  pointwise [norm]
  rw [mean_at, ec]
  pointwise [norm]
  simp only [ec]
  rfl

/-- The reference at a row and a column. -/
theorem out_at (s : Fin 8192) (k : Fin 2048) : out h w1 w3 w2 g b (ix2 s k)
    = ffnAt (fun j => h (ix2 s j)) (fun j u => w1 (ix2 j u)) (fun j u => w3 (ix2 j u)) (fun u k => w2 (ix2 u k)) (fun j => g (ix2 (0 : Fin 1) j)) (fun j => b (ix2 (0 : Fin 1) j)) k := by
  unfold out
  rw [norm_at]
  simp only [resid_at, hidden_at]
  rfl
end

/-- The run's result is that term. -/
theorem res_eq (m : (ℓ : Loc nD τ sig) → Buf (Elt Ideal) ℓ) (c : Dev nD) : Value.res_main_v29 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.Proof.Reference2Ideal

namespace Cert.Proof

open Idealize.ShloMosaic Idealize.ShloMosaic.TcCoe Idealize.SL.Sem

/-- The reference's array is the kernel's. -/
theorem ref_k2 (m : (ℓ : Loc Cert.Kernel2Ideal.nD Cert.Kernel2Ideal.τ Cert.Kernel2Ideal.sig) → Buf (Elt Ideal) ℓ) (c : Dev Cert.Kernel2Ideal.nD) :
    Reference2Ideal.out (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = Kernel2Ideal.ffnArr m c := by
  funext j
  have hj0 : (j 0).val < 8192 := (j 0).isLt
  have hj1 : (j 1).val < 2048 := (j 1).isLt
  have ej : j = ix2 (⟨(j 0).val, hj0⟩ : Fin 8192) (⟨(j 1).val, hj1⟩ : Fin 2048) := funext fun a => by
    match a with
    | ⟨0, _⟩ => rfl
    | ⟨1, _⟩ => rfl
  rw [ej]
  exact Reference2Ideal.out_at _ _ _ _ _ _ _ _

/-- The second feed-forward block and its reference end with equal results and their arguments unchanged. -/
theorem algebraic_k2 : Cert.algebraic_Kernel2Ideal_Reference2Ideal := fun m ρ m' ρ' _ hag =>
  ⟨fun c => Kernel2Ideal.ffnArr m c, Kernel2Ideal.run m ρ,
    (θ_run Cert.Reference2Ideal.defs _ _).mono (fun r h c =>
      ⟨(h c).1.trans ((show _ = Reference2Ideal.out _ _ _ _ _ _ by
          rw [Reference2Ideal.res_eq, (hag c).1, (hag c).2.1, (hag c).2.2.1, (hag c).2.2.2.1, (hag c).2.2.2.2.1, (hag c).2.2.2.2.2]).trans (ref_k2 m c)),
        (h c).2⟩) (Cert.Reference2Ideal.Value.run (F := Ideal) m' ρ')⟩

end Cert.Proof

end
-- ==== Proof.Ple.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Kernel3Ideal

open Cert.Kernel3Ideal Cert.Kernel3Ideal.Gen
open Idealize.ShloMosaic Idealize.ShloMosaic.TcCoe Idealize.SL.Sem
open Idealize.ShloMosaic.Pipeline (Dat)

/-! What the gated embedding's output array holds at the end. -/

variable (m : (ℓ : Loc nD τ sig) → Buf (Elt Ideal) ℓ)

/-- At the first point the weights are cast and used. -/
theorem outs_A (c : Dev nD) (t : Fin cfg0.N) (h : t.val % 16 = 0) :
    outsAt0 m c t.val t.isLt = (k0_pay3 (iblk m c 0 t) (k0_pay1 (iblk m c 2 t)) (iblk m c 1 t) (k0_pay2 (iblk m c 3 t)),
      k0_pay1 (iblk m c 2 t), k0_pay2 (iblk m c 3 t)) := by
  rw [outsAt0_A m c t h h]
  refine Prod.ext ?_ (Prod.ext ?_ ?_)
  · frame_out
  · frame_out
  · frame_out

/-- At every other point the cast weights are those the point before left. -/
theorem outs_B (c : Dev nD) (n : ℕ) (hn : n + 1 < cfg0.N) :
    outsAt0 m c (n + 1) hn = (k0_pay3 (iblk m c 0 ⟨n + 1, hn⟩) (outsAt0 m c n (by omega)).2.1 (iblk m c 1 ⟨n + 1, hn⟩) (outsAt0 m c n (by omega)).2.2,
      (outsAt0 m c n (by omega)).2.1, (outsAt0 m c n (by omega)).2.2) := by
  have h : ¬ (n + 1) % 16 = 0 := by have : cfg0.N = 16 := N_0; omega
  refine (outsAt0_B m c ⟨n + 1, hn⟩ h h).trans ?_
  refine Prod.ext ?_ (Prod.ext ?_ ?_)
  · frame_out
    simp only [read_unread_whole]
    rfl
  · rfl
  · rfl

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = t.val ∧ win0_4.index t 1 = 0 := by decide +kernel

/-- The gate's weights, cast. -/
def gateW (c : Dev nD) : FVec Ideal S2048x2048 .bf16 := k0_pay1 (m ((c : Thread nD τ).loc main_arg2))
/-- The embedding's weights, cast. -/
def embW (c : Dev nD) : FVec Ideal S256x2048 .bf16 := k0_pay2 (m ((c : Thread nD τ).loc main_arg3))

theorem iblk2_eq (c : Dev nD) (t : Fin cfg0.N) : iblk m c 2 t = m ((c : Thread nD τ).loc main_arg2) := by
  obtain ⟨e0, e1⟩ := index_2 t
  rw [← V_main_arg2 m c]
  funext j
  refine congrArg (V m c main_arg2) (funext fun a => Fin.ext ?_)
  match a with
  | ⟨0, _⟩ => show win0_2.index t 0 * 2048 + 1 * (j 0).val = (j 0).val; omega
  | ⟨1, _⟩ => show win0_2.index t 1 * 2048 + 1 * (j 1).val = (j 1).val; omega

theorem iblk3_eq (c : Dev nD) (t : Fin cfg0.N) : iblk m c 3 t = m ((c : Thread nD τ).loc main_arg3) := by
  obtain ⟨e0, e1⟩ := index_3 t
  rw [← V_main_arg3 m c]
  funext j
  refine congrArg (V m c main_arg3) (funext fun a => Fin.ext ?_)
  match a with
  | ⟨0, _⟩ => show win0_3.index t 0 * 256 + 1 * (j 0).val = (j 0).val; omega
  | ⟨1, _⟩ => show win0_3.index t 1 * 2048 + 1 * (j 1).val = (j 1).val; omega

/-- After every point the two scratch arrays hold the cast weights, and the output block is the gated sum with them. -/
theorem outs_eq (c : Dev nD) : ∀ (n : ℕ) (hn : n < cfg0.N),
    outsAt0 m c n hn = (k0_pay3 (iblk m c 0 ⟨n, hn⟩) (gateW m c) (iblk m c 1 ⟨n, hn⟩) (embW m c), gateW m c, embW m c)
  | 0, hn => by
    have e := outs_A m c ⟨0, hn⟩ rfl
    rw [iblk2_eq, iblk3_eq] at e
    exact e
  | n + 1, hn => by
    rw [outs_B m c n hn, outs_eq c n (by omega)]

/-- A block of rows read from the array. -/
theorem iblk0_at (c : Dev nD) (t : Fin cfg0.N) (r : Fin 512) (k : Fin 2048) (h : 512 * t.val + r.val < 8192) :
    iblk m c 0 t (ix2 r k) = m ((c : Thread nD τ).loc main_arg0) (ix2 (⟨512 * t.val + r.val, h⟩ : Fin 8192) k) := by
  obtain ⟨e0, e1⟩ := index_0 t
  rw [← V_main_arg0 m c]
  refine congrArg (V m c main_arg0) (funext fun a => Fin.ext ?_)
  match a with
  | ⟨0, _⟩ => show win0_0.index t 0 * 512 + 1 * r.val = 512 * t.val + r.val; omega
  | ⟨1, _⟩ => show win0_0.index t 1 * 2048 + 1 * k.val = k.val; omega

theorem iblk1_at (c : Dev nD) (t : Fin cfg0.N) (r : Fin 512) (k : Fin 256) (h : 512 * t.val + r.val < 8192) :
    iblk m c 1 t (ix2 r k) = m ((c : Thread nD τ).loc main_arg1) (ix2 (⟨512 * t.val + r.val, h⟩ : Fin 8192) k) := by
  obtain ⟨e0, e1⟩ := index_1 t
  rw [← V_main_arg1 m c]
  refine congrArg (V m c main_arg1) (funext fun a => Fin.ext ?_)
  match a with
  | ⟨0, _⟩ => show win0_1.index t 0 * 512 + 1 * r.val = 512 * t.val + r.val; omega
  | ⟨1, _⟩ => show win0_1.index t 1 * 256 + 1 * k.val = k.val; omega

/-- The gated sum at a row and a column. -/
def pleAt (x : Fin 2048 → EReal) (xe : EReal) (g : Fin 2048 → EReal) (p w : Fin 256 → EReal) : EReal :=
  xe + Ideal.logistic (∑ k, x k * g k) * ∑ k, p k * w k

/-- The array the call computes. -/
def pleArr (c : Dev nD) : S8192x2048.Idx → EReal := fun i =>
  pleAt (fun k => m ((c : Thread nD τ).loc main_arg0) (ix2 (i 0) k)) (m ((c : Thread nD τ).loc main_arg0) (ix2 (i 0) (i 1)))
    (fun k => m ((c : Thread nD τ).loc main_arg2) (ix2 k (i 1)))
    (fun k => m ((c : Thread nD τ).loc main_arg1) (ix2 (i 0) k)) (fun k => m ((c : Thread nD τ).loc main_arg3) (ix2 k (i 1)))

theorem gateW_at (c : Dev nD) (r k : Fin 2048) : gateW m c (ix2 r k) = m ((c : Thread nD τ).loc main_arg2) (ix2 r k) := by
  unfold gateW
  pointwise [k0_pay1]

theorem embW_at (c : Dev nD) (r : Fin 256) (k : Fin 2048) : embW m c (ix2 r k) = m ((c : Thread nD τ).loc main_arg3) (ix2 r k) := by
  unfold embW
  pointwise [k0_pay2]

theorem pay_at (x : FVec Ideal S512x2048 .f32) (g : FVec Ideal S2048x2048 .bf16) (p : FVec Ideal S512x256 .f32) (w : FVec Ideal S256x2048 .bf16) (r : Fin 512) (k : Fin 2048) :
    k0_pay3 (F := Ideal) x g p w (ix2 r k)
      = pleAt (fun j => x (ix2 r j)) (x (ix2 r k)) (fun j => g (ix2 j k)) (fun j => p (ix2 r j)) (fun j => w (ix2 j k)) := by
  pointwise [k0_pay3]
  rfl

theorem block_at (c : Dev nD) (t : Fin cfg0.N) (r : Fin 512) (k : Fin 2048) (h : 512 * t.val + r.val < 8192) :
    k0_pay3 (F := Ideal) (iblk m c 0 t) (gateW m c) (iblk m c 1 t) (embW m c) (ix2 r k)
      = pleArr m c (ix2 (⟨512 * t.val + r.val, h⟩ : Fin 8192) k) := by
  rw [pay_at]
  simp only [iblk0_at m c t r _ h, iblk1_at m c t r _ h, gateW_at, embW_at]
  rfl

theorem flushed4 (c : Dev nD) (t : Fin cfg0.N) : (dats m 0 c).flushed 4 t = (win0_4.blk t).view.read (Elt Ideal) (pleArr m c) := by
  rw [Value.flushed4, outs_eq]
  obtain ⟨e0, e1⟩ := index_4 t
  have ht : t.val < 16 := lt_of_lt_of_eq t.isLt N_0
  funext j
  have hj0 : (j 0).val < 512 := (j 0).isLt
  have hj1 : (j 1).val < 2048 := (j 1).isLt
  have ej : j = ix2 (⟨(j 0).val, hj0⟩ : Fin 512) (⟨(j 1).val, hj1⟩ : Fin 2048) := funext fun a => by
    match a with
    | ⟨0, _⟩ => rfl
    | ⟨1, _⟩ => rfl
  refine (show _ = k0_pay3 (F := Ideal) (iblk m c 0 t) (gateW m c) (iblk m c 1 t) (embW m c) (ix2 (⟨(j 0).val, hj0⟩ : Fin 512) (⟨(j 1).val, hj1⟩ : Fin 2048)) from
    congrArg (k0_pay3 (F := Ideal) (iblk m c 0 t) (gateW m c) (iblk m c 1 t) (embW m c)) ej).trans ?_
  refine (block_at m c t _ _ (by show 512 * t.val + (j 0).val < 8192; omega)).trans ?_
  refine congrArg (pleArr m c) (funext fun a => Fin.ext ?_)
  match a with
  | ⟨0, _⟩ => show 512 * t.val + (j 0).val = win0_4.index t 0 * 512 + 1 * (j 0).val; omega
  | ⟨1, _⟩ => show (j 1).val = win0_4.index t 1 * 2048 + 1 * (j 1).val; omega

/-- Every row lies in the block of one point, and the array ends as the gated sum. -/
theorem final4 (c : Dev nD) : (dats m 0 c).arrAt 4 cfg0.N = pleArr m c :=
  Dat.arrAt_eq_of_cover (dats m 0 c) 4 (pleArr m c) (fun t _ => flushed4 m c t) fun i => (Value.covered_iff4 i).2 (by
    have h0 : (i 0).val < 8192 := (i 0).isLt
    have h1 : (i 1).val < 2048 := (i 1).isLt
    omega)

/-- The run, with its result array named. -/
theorem run (ρ : Dev nD → PrngReg) : θ_run defs (onTc (τ := τ) (main (F := Ideal))) ⟨m, fun _ => 0, ρ⟩ fun r => ∀ c : Dev nD,
      r.2.mem ((c.tc : Thread nD τ).loc main_v0) = pleArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2⟩) (Value.run_blocks m ρ)

end Cert.Proof.Kernel3Ideal

end
-- ==== Proof.Algebraic3.lean ====
module

public import proofs.«01_k».proof.Defs
public import proofs.«01_k».proof.Proof.Ple
public import proofs.«01_k».proof.Proof.Gen.Reference3Ideal
public import proofs.«01_k».proof.Proof.Gen.Reference3Ideal.Run

@[expose] public section

set_option maxRecDepth 16384

noncomputable section

namespace Cert.Proof.Reference3Ideal

open Cert.Reference3Ideal Cert.Reference3Ideal.Gen
open Idealize.ShloMosaic Idealize.ShloMosaic.TcCoe Idealize.SL.Sem

/-! The gated embedding and its reference end with equal arrays. -/

/-- The reference's result as a term of its arguments. -/
def out (x : FVec Ideal S8192x2048 .f32) (p : FVec Ideal S8192x256 .f32) (wg : FVec Ideal S2048x2048 .f32) (wp : FVec Ideal S256x2048 .f32) : FVec Ideal S8192x2048 .f32 :=
  addf x (mulf (Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (Host.dotGeneral dot_S8192x2048_S2048x2048_S8192x2048_1_0_0_1_n_n none x wg)))))
    (Host.dotGeneral dot_S8192x256_S256x2048_S8192x2048_1_0_0_1_n_n none p wp))

/-- The reference at a row and a column. -/
theorem out_at (x : FVec Ideal S8192x2048 .f32) (p : FVec Ideal S8192x256 .f32) (wg : FVec Ideal S2048x2048 .f32) (wp : FVec Ideal S256x2048 .f32) (s : Fin 8192) (e : Fin 2048) :
    out x p wg wp (ix2 s e) = Kernel3Ideal.pleAt (fun j => x (ix2 s j)) (x (ix2 s e)) (fun j => wg (ix2 j e)) (fun j => p (ix2 s j)) (fun j => wp (ix2 j e)) := by
  pointwise [out]
  rfl

end Cert.Proof.Reference3Ideal

namespace Cert.Proof

open Idealize.ShloMosaic Idealize.ShloMosaic.TcCoe Idealize.SL.Sem

/-- The reference's array is the kernel's. -/
theorem ref_k3 (m : (ℓ : Loc Cert.Kernel3Ideal.nD Cert.Kernel3Ideal.τ Cert.Kernel3Ideal.sig) → Buf (Elt Ideal) ℓ) (c : Dev Cert.Kernel3Ideal.nD) :
    Reference3Ideal.out (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) = Kernel3Ideal.pleArr m c := by
  funext j
  have hj0 : (j 0).val < 8192 := (j 0).isLt
  have hj1 : (j 1).val < 2048 := (j 1).isLt
  have ej : j = ix2 (⟨(j 0).val, hj0⟩ : Fin 8192) (⟨(j 1).val, hj1⟩ : Fin 2048) := funext fun a => by
    match a with
    | ⟨0, _⟩ => rfl
    | ⟨1, _⟩ => rfl
  rw [ej]
  exact Reference3Ideal.out_at _ _ _ _ _ _

/-- The gated embedding and its reference end with equal results and their arguments unchanged. -/
theorem algebraic_k3 : Cert.algebraic_Kernel3Ideal_Reference3Ideal := fun m ρ m' ρ' _ hag =>
  ⟨fun c => Kernel3Ideal.pleArr m c, Kernel3Ideal.run m ρ,
    (θ_run Cert.Reference3Ideal.defs _ _).mono (fun r h c =>
      ⟨(h c).1.trans ((show _ = Reference3Ideal.out _ _ _ _ by rw [(hag c).1, (hag c).2.1, (hag c).2.2.1, (hag c).2.2.2]; rfl).trans (ref_k3 m c)),
        (h c).2⟩) (Cert.Reference3Ideal.Value.run (F := Ideal) m' ρ')⟩

end Cert.Proof

end
-- ==== Proof.RestValue.lean ====
module

public import proofs.«01_k».proof.Proof.Rest
public import proofs.«01_k».proof.Proof.Ffn
public import proofs.«01_k».proof.Proof.FfnMath
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Proof.Kernel4Ideal

open Cert.Kernel4Ideal Cert.Kernel4Ideal.Gen
open Idealize.ShloMosaic Idealize.ShloMosaic.TcCoe Idealize.SL.Sem
open Idealize.ShloMosaic.Pipeline (Dat)
open Cert.Proof.Ffn
open Cert.Proof.Kernel2Ideal (ld_rows)

/-! What the first feed-forward block's output array holds at the end, given its first rows. -/

variable (m : (ℓ : Loc nD τ sig) → Buf (Elt Ideal) ℓ)

/-- The first column tile starts the sum. -/
theorem outs_A (c : Dev nD) (t : Fin cfg0.N) (hb : 11 ≤ t.val) (h : t.val % 11 = 0) :
    left m c t.val t.isLt = k0_pay2 (k0_pay1 (F := Ideal)) (iblk m c 0 t) (iblk m c 1 t) (iblk m c 2 t) (iblk m c 3 t) := by
  rw [left_first m c t hb h]
  unfold firstAt outFirst
  frame_out

/-- The middle tiles add to what the point before left. -/
theorem outs_B (c : Dev nD) (t : Fin cfg0.N) (hb : 11 ≤ t.val) (h : ¬ t.val % 11 = 0) (h' : t.val % 11 ≤ 9) (hp : t.val - 1 < cfg0.N) :
    left m c t.val t.isLt = k0_pay2 (left m c (t.val - 1) hp) (iblk m c 0 t) (iblk m c 1 t) (iblk m c 2 t) (iblk m c 3 t) := by
  rw [left_next m c t hb h h']
  unfold nextAt outNext
  frame_out

section
variable (r : Fin 256) (k : Fin 2048) (x o x' : FVec Ideal S256x2048 .f32) (w1 w3 : FVec Ideal S2048x512 .bf16) (w2 : FVec Ideal S512x2048 .bf16) (g b : FVec Ideal S1x2048 .f32)

/-- A tile's step at a row and a column. -/
theorem pay2_at (o x : FVec Ideal S1024x2048 .f32) (r : Fin 1024) : k0_pay2 (F := Ideal) o x w1 w3 w2 (ix2 r k)
    = o (ix2 r k) + tileSum (fun j => x (ix2 r j)) (fun j u => w1 (ix2 j u)) (fun j u => w3 (ix2 j u)) (fun u => w2 (ix2 u k)) := by
  pointwise [k0_pay2]
  rfl

/-- The first group of rows at the last tile. -/
theorem group0_at : k0_pay5 (F := Ideal) g b (k0_pay3 x o x' w1 w3 w2) (k0_pay4 x o x' w1 w3 w2) (FloatOps.ofBits (F := Ideal) FTy.f32 1157627904#32) (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay3, k0_pay4, k0_pay5]
  rfl

/-- The second group of rows at the last tile. -/
theorem group1_at : k0_pay7 (F := Ideal) (k0_pay6 x o x' w1 w3 w2) g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay6, k0_pay7]
  rfl

/-- The third group of rows at the last tile. -/
theorem group2_at : k0_pay13 (F := Ideal) (k0_pay8 x) (k0_pay9 o) (k0_pay11 x' w3) (k0_pay12 x' w1) w2 g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay8, k0_pay9, k0_pay11, k0_pay12, k0_pay13]
  rfl

/-- The fourth group of rows at the last tile. -/
theorem group3_at : k0_pay16 (F := Ideal) (k0_pay14 x) (k0_pay15 o) x' w1 w3 w2 g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay14, k0_pay15, k0_pay16]
  rfl
end

/-- The last tile ends the sum, mixes in the row and takes the layer norm. -/
theorem outs_C (c : Dev nD) (t : Fin cfg0.N) (hb : 11 ≤ t.val) (h : t.val % 11 = 10) (hp : t.val - 1 < cfg0.N) (r : Fin 1024) (k : Fin 2048) :
    left m c t.val t.isLt (ix2 r k)
      = lastAt (fun j => iblk m c 0 t (ix2 r j)) (fun j => left m c (t.val - 1) hp (ix2 r j)) (fun j => iblk m c 0 t (ix2 r j))
        (fun j u => iblk m c 1 t (ix2 j u)) (fun j u => iblk m c 2 t (ix2 j u)) (fun u k => iblk m c 3 t (ix2 u k))
        (fun j => iblk m c 4 t (ix2 0 j)) (fun j => iblk m c 5 t (ix2 0 j)) k := by
  rw [left_end m c t hb h]
  unfold endAt outLast
  frame_open
  simp (disch := decide) only [↓ View.readCov_skip, ↓ View.readCov_cons_toLoadRect, ↓ View.readCov_fill]
  frame_out
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals intro x hx
  all_goals
    obtain ⟨r', rfl⟩ : ∃ r' : Fin 256, x = ix2 r' k := ⟨⟨(x 0).val, (x 0).isLt⟩, funext fun a => by
      match a with
      | ⟨0, _⟩ => rfl
      | ⟨1, _⟩ => exact Fin.ext (((Nat.zero_add _).symm.trans (hx 1).symm))⟩
  · refine (group3_at _ _ _ _ _ _ _ _ _ _).trans ?_
    exact lastAt_congr (funext fun j => ld_rows _ ![768, 0] inb_S1024x2048_S256x2048_768_0 r r' j (hx 0) rfl) (funext fun j => ld_rows _ ![768, 0] inb_S1024x2048_S256x2048_768_0 r r' j (hx 0) rfl) (funext fun j => ld_rows _ ![768, 0] inb_S1024x2048_S256x2048_768_0 r r' j (hx 0) rfl)
  · refine (group2_at _ _ _ _ _ _ _ _ _ _).trans ?_
    exact lastAt_congr (funext fun j => ld_rows _ ![512, 0] inb_S1024x2048_S256x2048_512_0 r r' j (hx 0) rfl) (funext fun j => ld_rows _ ![512, 0] inb_S1024x2048_S256x2048_512_0 r r' j (hx 0) rfl) (funext fun j => ld_rows _ ![512, 0] inb_S1024x2048_S256x2048_512_0 r r' j (hx 0) rfl)
  · refine (group1_at _ _ _ _ _ _ _ _ _ _).trans ?_
    exact lastAt_congr (funext fun j => ld_rows _ ![256, 0] inb_S1024x2048_S256x2048_256_0 r r' j (hx 0) rfl) (funext fun j => ld_rows _ ![256, 0] inb_S1024x2048_S256x2048_256_0 r r' j (hx 0) rfl) (funext fun j => ld_rows _ ![256, 0] inb_S1024x2048_S256x2048_256_0 r r' j (hx 0) rfl)
  · refine (group0_at _ _ _ _ _ _ _ _ _ _).trans ?_
    exact lastAt_congr (funext fun j => ld_rows _ ![0, 0] inb_S1024x2048_S256x2048_0_0 r r' j (hx 0) rfl) (funext fun j => ld_rows _ ![0, 0] inb_S1024x2048_S256x2048_0_0 r r' j (hx 0) rfl) (funext fun j => ld_rows _ ![0, 0] inb_S1024x2048_S256x2048_0_0 r r' j (hx 0) rfl)

/-! ## The blocks the points read -/

/-- The block of rows: the first block reads the second one's rows and does not use them. -/
theorem index_0 : ∀ t : Fin cfg0.N, win0_0.index t 0 = max (t.val / 11) 1 ∧ win0_0.index t 1 = 0 := by decide +kernel
/-- The tile of each of the three weights. -/
theorem index_1 : ∀ t : Fin cfg0.N, win0_1.index t 0 = 0 ∧ win0_1.index t 1 = if t.val < 11 then 0 else t.val % 11 := by decide +kernel
theorem index_2 : ∀ t : Fin cfg0.N, win0_2.index t 0 = 0 ∧ win0_2.index t 1 = if t.val < 11 then 0 else t.val % 11 := by decide +kernel
theorem index_3 : ∀ t : Fin cfg0.N, win0_3.index t 0 = (if t.val < 11 then 0 else t.val % 11) ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val / 11 ∧ win0_6.index t 1 = 0 := by decide +kernel

/-- The rows. -/
def X (c : Dev nD) (s : Fin 8192) (j : Fin 2048) : EReal := m ((c : Thread nD τ).loc main_arg0) (ix2 s j)
/-- The gate's weights. -/
def W1 (c : Dev nD) (j : Fin 2048) (u : Fin 5632) : EReal := m ((c : Thread nD τ).loc main_arg1) (ix2 j u)
/-- The other factor's weights. -/
def W3 (c : Dev nD) (j : Fin 2048) (u : Fin 5632) : EReal := m ((c : Thread nD τ).loc main_arg2) (ix2 j u)
/-- The weights back to the row. -/
def W2 (c : Dev nD) (u : Fin 5632) (k : Fin 2048) : EReal := m ((c : Thread nD τ).loc main_arg3) (ix2 u k)
/-- The layer norm's factors. -/
def G (c : Dev nD) (k : Fin 2048) : EReal := m ((c : Thread nD τ).loc main_arg4) (ix2 (0 : Fin 1) k)
/-- The layer norm's offsets. -/
def B (c : Dev nD) (k : Fin 2048) : EReal := m ((c : Thread nD τ).loc main_arg5) (ix2 (0 : Fin 1) k)

theorem v0_at (c : Dev nD) (j : Fin 2048) (u : Fin 5632) : (V m c main_v0 (ix2 j u) : EReal) = W1 m c j u := by
  unfold V W1
  after_reads_at

theorem v1_at (c : Dev nD) (j : Fin 2048) (u : Fin 5632) : (V m c main_v1 (ix2 j u) : EReal) = W3 m c j u := by
  unfold V W3
  after_reads_at

theorem v2_at (c : Dev nD) (u : Fin 5632) (k : Fin 2048) : (V m c main_v2 (ix2 u k) : EReal) = W2 m c u k := by
  unfold V W2
  after_reads_at

/-- A block of rows. -/
theorem iblk0_at (c : Dev nD) (t : Fin cfg0.N) (hb : 11 ≤ t.val) (r : Fin 1024) (k : Fin 2048) (h : 1024 * (t.val / 11) + r.val < 8192) :
    (iblk m c 0 t (ix2 r k) : EReal) = X m c ⟨1024 * (t.val / 11) + r.val, h⟩ k := by
  obtain ⟨e0, e1⟩ := index_0 t
  unfold X
  rw [← V_main_arg0 m c]
  refine congrArg (V m c main_arg0) (funext fun a => Fin.ext ?_)
  match a with
  | ⟨0, _⟩ => show win0_0.index t 0 * 1024 + 1 * r.val = 1024 * (t.val / 11) + r.val; omega
  | ⟨1, _⟩ => show win0_0.index t 1 * 2048 + 1 * k.val = k.val; omega

/-- A tile of the gate's weights. -/
theorem iblk1_at (c : Dev nD) (t : Fin cfg0.N) (hb : 11 ≤ t.val) (j : Fin 2048) (u : Fin 512) (h : 512 * (t.val % 11) + u.val < 5632) :
    (iblk m c 1 t (ix2 j u) : EReal) = W1 m c j ⟨512 * (t.val % 11) + u.val, h⟩ := by
  obtain ⟨e0, e1⟩ := index_1 t
  rw [if_neg (by omega)] at e1
  rw [← v0_at]
  refine congrArg (V m c main_v0) (funext fun a => Fin.ext ?_)
  match a with
  | ⟨0, _⟩ => show win0_1.index t 0 * 2048 + 1 * j.val = j.val; omega
  | ⟨1, _⟩ => show win0_1.index t 1 * 512 + 1 * u.val = 512 * (t.val % 11) + u.val; omega

/-- A tile of the other factor's weights. -/
theorem iblk2_at (c : Dev nD) (t : Fin cfg0.N) (hb : 11 ≤ t.val) (j : Fin 2048) (u : Fin 512) (h : 512 * (t.val % 11) + u.val < 5632) :
    (iblk m c 2 t (ix2 j u) : EReal) = W3 m c j ⟨512 * (t.val % 11) + u.val, h⟩ := by
  obtain ⟨e0, e1⟩ := index_2 t
  rw [if_neg (by omega)] at e1
  rw [← v1_at]
  refine congrArg (V m c main_v1) (funext fun a => Fin.ext ?_)
  match a with
  | ⟨0, _⟩ => show win0_2.index t 0 * 2048 + 1 * j.val = j.val; omega
  | ⟨1, _⟩ => show win0_2.index t 1 * 512 + 1 * u.val = 512 * (t.val % 11) + u.val; omega

/-- A tile of the weights back to the row. -/
theorem iblk3_at (c : Dev nD) (t : Fin cfg0.N) (hb : 11 ≤ t.val) (u : Fin 512) (k : Fin 2048) (h : 512 * (t.val % 11) + u.val < 5632) :
    (iblk m c 3 t (ix2 u k) : EReal) = W2 m c ⟨512 * (t.val % 11) + u.val, h⟩ k := by
  obtain ⟨e0, e1⟩ := index_3 t
  rw [if_neg (by omega)] at e0
  rw [← v2_at]
  refine congrArg (V m c main_v2) (funext fun a => Fin.ext ?_)
  match a with
  | ⟨0, _⟩ => show win0_3.index t 0 * 512 + 1 * u.val = 512 * (t.val % 11) + u.val; omega
  | ⟨1, _⟩ => show win0_3.index t 1 * 2048 + 1 * k.val = k.val; omega

/-- The layer norm's factors. -/
theorem iblk4_at (c : Dev nD) (t : Fin cfg0.N) (k : Fin 2048) : (iblk m c 4 t (ix2 (0 : Fin 1) k) : EReal) = G m c k := by
  obtain ⟨e0, e1⟩ := index_4 t
  unfold G
  rw [← V_main_arg4 m c]
  refine congrArg (V m c main_arg4) (funext fun a => Fin.ext ?_)
  match a with
  | ⟨0, _⟩ => show win0_4.index t 0 * 1 + 1 * 0 = 0; omega
  | ⟨1, _⟩ => show win0_4.index t 1 * 2048 + 1 * k.val = k.val; omega

/-- The layer norm's offsets. -/
theorem iblk5_at (c : Dev nD) (t : Fin cfg0.N) (k : Fin 2048) : (iblk m c 5 t (ix2 (0 : Fin 1) k) : EReal) = B m c k := by
  obtain ⟨e0, e1⟩ := index_5 t
  unfold B
  rw [← V_main_arg5 m c]
  refine congrArg (V m c main_arg5) (funext fun a => Fin.ext ?_)
  match a with
  | ⟨0, _⟩ => show win0_5.index t 0 * 1 + 1 * 0 = 0; omega
  | ⟨1, _⟩ => show win0_5.index t 1 * 2048 + 1 * k.val = k.val; omega

/-! ## The sum over the tiles -/

/-- The hidden units' terms at a row and a column. -/
abbrev term (c : Dev nD) (s : Fin 8192) (k : Fin 2048) : Fin 5632 → EReal := unitAt (X m c s) (W1 m c) (W3 m c) (W2 m c) k

/-- What one tile adds. -/
theorem tile_at (c : Dev nD) (t : Fin cfg0.N) (hb : 11 ≤ t.val) (r : Fin 1024) (k : Fin 2048) (h : 1024 * (t.val / 11) + r.val < 8192) :
    tileSum (fun j => iblk m c 0 t (ix2 r j)) (fun j u => iblk m c 1 t (ix2 j u)) (fun j u => iblk m c 2 t (ix2 j u)) (fun u => iblk m c 3 t (ix2 u k))
      = ∑ u : Fin 512, term m c ⟨1024 * (t.val / 11) + r.val, h⟩ k ⟨512 * (t.val % 11) + u.val, by omega⟩ := by
  unfold tileSum term unitAt
  refine Finset.sum_congr rfl fun u _ => ?_
  have hu : 512 * (t.val % 11) + u.val < 5632 := by omega
  simp only [iblk0_at m c t hb r _ h, iblk1_at m c t hb _ u hu, iblk2_at m c t hb _ u hu, iblk3_at m c t hb u _ hu]

/-- The first step, from zeros. -/
theorem acc_first (c : Dev nD) (r : Fin 1024) (k : Fin 2048) (n : ℕ) (hn : n < cfg0.N) (hb : 11 ≤ n) (h0 : n % 11 = 0) (h : 1024 * (n / 11) + r.val < 8192) :
    (left m c n hn (ix2 r k) : EReal) = upTo (term m c ⟨1024 * (n / 11) + r.val, h⟩ k) (n % 11 + 1) := by
  have e := congrFun (outs_A m c ⟨n, hn⟩ hb h0) (ix2 r k)
  rw [pay2_at, tile_at m c ⟨n, hn⟩ hb r k h] at e
  refine e.trans ?_
  rw [← upTo_succ _ _ (by omega)]
  refine congrArg (· + _) ?_
  rw [h0, upTo_zero]
  pointwise [k0_pay1]

/-- A later step, from what the step before left. -/
theorem acc_next (c : Dev nD) (r : Fin 1024) (k : Fin 2048) (n : ℕ) (hn : n + 1 < cfg0.N) (hb : 11 ≤ n + 1) (h0 : ¬ (n + 1) % 11 = 0) (h9 : (n + 1) % 11 ≤ 9)
    (h : 1024 * ((n + 1) / 11) + r.val < 8192)
    (ih : (left m c n (by omega) (ix2 r k) : EReal) = upTo (term m c ⟨1024 * ((n + 1) / 11) + r.val, h⟩ k) ((n + 1) % 11)) :
    (left m c (n + 1) hn (ix2 r k) : EReal) = upTo (term m c ⟨1024 * ((n + 1) / 11) + r.val, h⟩ k) ((n + 1) % 11 + 1) := by
  have e := congrFun (outs_B m c ⟨n + 1, hn⟩ hb h0 h9 (by show n < _; omega)) (ix2 r k)
  rw [pay2_at, tile_at m c ⟨n + 1, hn⟩ hb r k h] at e
  refine e.trans ?_
  rw [← upTo_succ _ _ (by omega)]
  exact congrArg (· + _) ih

/-- Before the last tile, the block holds the sum over the tiles so far. -/
theorem acc_at (c : Dev nD) (r : Fin 1024) (k : Fin 2048) : ∀ (n : ℕ) (hn : n < cfg0.N) (_ : 11 ≤ n) (_ : n % 11 ≤ 9) (h : 1024 * (n / 11) + r.val < 8192),
    (left m c n hn (ix2 r k) : EReal) = upTo (term m c ⟨1024 * (n / 11) + r.val, h⟩ k) (n % 11 + 1) := by
  intro n
  induction n with
  | zero => exact fun hn hb _ h => absurd hb (by decide)
  | succ n ih =>
    intro hn hb h9 h
    by_cases h0 : (n + 1) % 11 = 0
    · exact acc_first m c r k (n + 1) hn hb h0 h
    · refine acc_next m c r k n hn hb h0 h9 h ((ih (by omega) (by omega) (by omega) (by omega)).trans ?_)
      have ed : n / 11 = (n + 1) / 11 := by omega
      have em : n % 11 + 1 = (n + 1) % 11 := by omega
      simp only [ed, em]

/-- The rows given. -/
def H (c : Dev nD) (s : Fin 1024) (k : Fin 2048) : EReal := m ((c : Thread nD τ).loc main_arg6) (ix2 s k)

/-- The array the call computes: the rows given, then the feed-forward block's. -/
def ffnArr (c : Dev nD) : S8192x2048.Idx → EReal := fun i =>
  if h : (i 0).val < 1024 then H m c ⟨(i 0).val, h⟩ (i 1) else ffnAt (X m c (i 0)) (W1 m c) (W3 m c) (W2 m c) (G m c) (B m c) (i 1)

/-- Its first rows. -/
theorem ffnArr_head (c : Dev nD) (s : Fin 8192) (k : Fin 2048) (hs : s.val < 1024) : ffnArr m c (ix2 s k) = H m c ⟨s.val, hs⟩ k := dif_pos hs

/-- Its other rows. -/
theorem ffnArr_rest (c : Dev nD) (s : Fin 8192) (k : Fin 2048) (hs : ¬ s.val < 1024) :
    ffnArr m c (ix2 s k) = ffnAt (X m c s) (W1 m c) (W3 m c) (W2 m c) (G m c) (B m c) k := dif_neg hs

/-- After the last tile, the block holds the rows of the result. -/
theorem last_at (c : Dev nD) (t : Fin cfg0.N) (hb : 11 ≤ t.val) (ht : t.val % 11 = 10) (r : Fin 1024) (k : Fin 2048) (h : 1024 * (t.val / 11) + r.val < 8192) :
    (left m c t.val t.isLt (ix2 r k) : EReal) = ffnArr m c (ix2 (⟨1024 * (t.val / 11) + r.val, h⟩ : Fin 8192) k) := by
  have hp : t.val - 1 < cfg0.N := lt_of_le_of_lt (Nat.sub_le _ _) t.isLt
  rw [show ffnArr m c (ix2 (⟨1024 * (t.val / 11) + r.val, h⟩ : Fin 8192) k) = ffnAt (X m c ⟨1024 * (t.val / 11) + r.val, h⟩) (W1 m c) (W3 m c) (W2 m c) (G m c) (B m c) k from
    dif_neg (by show ¬ 1024 * (t.val / 11) + r.val < 1024; omega)]
  rw [outs_C m c t hb ht hp r k]
  unfold lastAt
  simp only [iblk4_at, iblk5_at]
  show lnAt _ (G m c) (B m c) k = lnAt _ (G m c) (B m c) k
  refine congrArg (fun y => lnAt y (G m c) (B m c) k) ?_
  refine (congrArg (fun s => mix _ s) (funext fun k' => ?_)).trans (congrArg (fun x => mix x _) (funext fun j => iblk0_at m c t hb r j h))
  have e := acc_at m c r k' (t.val - 1) hp (by omega) (by omega) (by omega)
  have ed : (t.val - 1) / 11 = t.val / 11 := by omega
  have em : (t.val - 1) % 11 + 1 = 10 := by omega
  simp only [ed, em] at e
  rw [e, tile_at m c t hb r k' h]
  simp only [ht]
  rw [upTo_succ _ 10 (by omega), upTo_all]

/-- The first point leaves the rows given. -/
theorem copy_at (c : Dev nD) (t : Fin cfg0.N) (h : t.val = 0) (r : Fin 1024) (k : Fin 2048) : (copyAt m c t h (ix2 r k) : EReal) = H m c r k := by
  unfold copyAt outCopy H
  rw [← V_main_arg6 m c]
  frame_out
  exact (congrArg (View.canon _) (funext fun a => Fin.ext (by show _ = 0 + 1 * _; omega))).trans (View.canon_cons_emb (Rect.whole S1024x2048) _ [] (ix2 r k))

/-- So does the first block. -/
theorem head_at (c : Dev nD) (r : Fin 1024) (k : Fin 2048) : ∀ (n : ℕ) (hn : n < cfg0.N) (_ : n < 11), (left m c n hn (ix2 r k) : EReal) = H m c r k := by
  intro n
  induction n with
  | zero => exact fun hn _ => copy_at m c ⟨0, hn⟩ rfl r k
  | succ n ih =>
    intro hn h
    rw [show left m c (n + 1) hn = left m c n (by omega) from left_idle m c ⟨n + 1, hn⟩ (by simp) (by show ¬ 11 ≤ n + 1; omega)]
    exact ih (by omega) (by omega)

/-- A block written back holds its rows of the result. -/
theorem block_at (c : Dev nD) (t : Fin cfg0.N) (ht : t.val % 11 = 10) (r : Fin 1024) (k : Fin 2048) (h : 1024 * (t.val / 11) + r.val < 8192) :
    (left m c t.val t.isLt (ix2 r k) : EReal) = ffnArr m c (ix2 (⟨1024 * (t.val / 11) + r.val, h⟩ : Fin 8192) k) := by
  by_cases hb : 11 ≤ t.val
  · exact last_at m c t hb ht r k h
  · refine (head_at m c r k t.val t.isLt (by omega)).trans ?_
    have e : 1024 * (t.val / 11) + r.val = r.val := by omega
    refine Eq.trans ?_ (dif_pos (show 1024 * (t.val / 11) + r.val < 1024 by omega)).symm
    exact congrArg (fun s => H m c s k) (Fin.ext e.symm)

theorem xsize_6 : ∀ t : Fin cfg0.N, win0_6.xsize (grid0.coords t) 0 = 1024 ∧ win0_6.xsize (grid0.coords t) 1 = 2048 := by decide +kernel

/-- Every block written back is the block of the result. -/
theorem flushed6 (c : Dev nD) (t : Fin cfg0.N) (ht : t.val % 11 = 10) : (dats m 0 c).flushed 6 t = (win0_6.blk t).view.read (Elt Ideal) (ffnArr m c) := by
  unfold Dat.flushed
  rw [after0_6]
  obtain ⟨e0, e1⟩ := index_6 t
  have hN : t.val < 88 := lt_of_lt_of_eq t.isLt N_0
  funext j
  have hj0 : (j 0).val < 1024 := (j 0).isLt
  have hj1 : (j 1).val < 2048 := (j 1).isLt
  have ej : j = ix2 (⟨(j 0).val, hj0⟩ : Fin 1024) (⟨(j 1).val, hj1⟩ : Fin 2048) := funext fun a => by
    match a with
    | ⟨0, _⟩ => rfl
    | ⟨1, _⟩ => rfl
  refine (show _ = left m c t.val t.isLt (ix2 (⟨(j 0).val, hj0⟩ : Fin 1024) (⟨(j 1).val, hj1⟩ : Fin 2048)) from
    congrArg (left m c t.val t.isLt) ej).trans ?_
  refine (block_at m c t ht _ _ (by show 1024 * (t.val / 11) + (j 0).val < 8192; omega)).trans ?_
  refine congrArg (ffnArr m c) (funext fun a => Fin.ext ?_)
  match a with
  | ⟨0, _⟩ => show 1024 * (t.val / 11) + (j 0).val = win0_6.index t 0 * 1024 + 1 * (j 0).val; omega
  | ⟨1, _⟩ => show (j 1).val = win0_6.index t 1 * 2048 + 1 * (j 1).val; omega

/-- Every row lies in a block that is written back. -/
theorem cover6 (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 88 := N_0
  have hlt : 11 * ((i 0).val / 1024) + 10 < cfg0.N := by omega
  refine ⟨⟨11 * ((i 0).val / 1024) + 10, hlt⟩, (flush0_6 _).mpr (by show (11 * ((i 0).val / 1024) + 10) % 11 = 10; omega), ?_⟩
  show i ∈ ((View.whole main_v3).slice (win0_6.rect ⟨_, hlt⟩)).set
  rw [View.set_slice_whole, Rect.mem_set_unit]
  obtain ⟨e0, e1⟩ := index_6 ⟨_, hlt⟩
  obtain ⟨x0, x1⟩ := xsize_6 ⟨_, hlt⟩
  dsimp only at e0 e1
  intro a
  match a with
  | ⟨0, _⟩ =>
    show win0_6.index ⟨_, hlt⟩ 0 * 1024 ≤ (i 0).val ∧ (i 0).val < win0_6.index ⟨_, hlt⟩ 0 * 1024 + win0_6.xsize (grid0.coords ⟨_, hlt⟩) 0
    omega
  | ⟨1, _⟩ =>
    show win0_6.index ⟨_, hlt⟩ 1 * 2048 ≤ (i 1).val ∧ (i 1).val < win0_6.index ⟨_, hlt⟩ 1 * 2048 + win0_6.xsize (grid0.coords ⟨_, hlt⟩) 1
    omega

/-- The array ends as the feed-forward block's. -/
theorem final6 (c : Dev nD) : (dats m 0 c).arrAt 6 cfg0.N = ffnArr m c :=
  Dat.arrAt_eq_of_cover (dats m 0 c) 6 (ffnArr m c) (fun t hf => flushed6 m c t ((flush0_6 t).mp hf)) cover6

/-- The run, with its result array named. -/
theorem run (ρ : Dev nD → PrngReg) : θ_run defs (onTc (τ := τ) (main (F := Ideal))) ⟨m, fun _ => 0, ρ⟩ fun r => ∀ c : Dev nD,
      r.2.mem ((c.tc : Thread nD τ).loc main_v3) = ffnArr m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) :=
  (θ_run defs _ _).mono (fun r h c => ⟨((h.1 c).1 6).trans (final6 m c), h.2 c⟩) (θ_run_and (run_main m ρ) (unchanged m ρ))

end Cert.Proof.Kernel4Ideal

end
-- ==== Proof.Algebraic4.lean ====
module

public import proofs.«01_k».proof.Defs
public import proofs.«01_k».proof.Proof.RestValue
public import proofs.«01_k».proof.Proof.Gen.Reference4Ideal
public import proofs.«01_k».proof.Proof.Gen.Reference4Ideal.Run

@[expose] public section

set_option maxRecDepth 16384

noncomputable section

namespace Cert.Proof.Reference4Ideal

open Cert.Reference4Ideal Cert.Reference4Ideal.Gen
open Idealize.ShloMosaic Idealize.ShloMosaic.TcCoe Idealize.SL.Sem
open Cert.Proof.Ffn

/-! The first feed-forward block after its first rows, and its reference, end with equal arrays. -/

section
variable (h : FVec Ideal S7168x2048 .f32) (w1 w3 : FVec Ideal S2048x5632 .f32) (w2 : FVec Ideal S5632x2048 .f32) (g b : FVec Ideal S1x2048 .f32)

/-- The hidden units: `silu (h w1) * (h w3)`. -/
def hidden : FVec Ideal S7168x5632 .f32 :=
  mulf (mulf (Host.dotGeneral dot_S7168x2048_S2048x5632_S7168x5632_1_0_0_1_n_n none h w1)
    (Host.divf (broadcastInDim S7168x5632 ![] bcast_S_S7168x5632 (constant S_ .f32 0x3F800000#32))
      (addf (broadcastInDim S7168x5632 ![] bcast_S_S7168x5632 (constant S_ .f32 0x3F800000#32))
        (Host.exp (Host.negf (Host.dotGeneral dot_S7168x2048_S2048x5632_S7168x5632_1_0_0_1_n_n none h w1))))))
    (Host.dotGeneral dot_S7168x2048_S2048x5632_S7168x5632_1_0_0_1_n_n none h w3)

/-- The residual sum with the hidden units' rows `e`. -/
def resid (e : FVec Ideal S7168x5632 .f32) : FVec Ideal S7168x2048 .f32 :=
  addf (mulf (broadcastInDim S7168x2048 ![] bcast_S_S7168x2048 (constant S_ .f32 0x3F9837F0#32)) h)
    (mulf (broadcastInDim S7168x2048 ![] bcast_S_S7168x2048 (constant S_ .f32 0x3F000000#32))
      (Host.dotGeneral dot_S7168x5632_S5632x2048_S7168x2048_1_0_0_1_n_n none e w2))

/-- A row's mean. -/
def mean (y : FVec Ideal S7168x2048 .f32) : FVec Ideal S7168x1 .f32 :=
  Host.divf (broadcastInDim S7168x1 ![0] bcast_S7168_S7168x1_0 (Host.reduceAdd y (constant S_ .f32 0x00000000#32) reducesTo_S7168x2048_S7168_d1 h_S_))
    (broadcastInDim S7168x1 ![] bcast_S_S7168x1 (constant S_ .f32 0x45000000#32))

/-- The rows with their means subtracted. -/
def centred (y : FVec Ideal S7168x2048 .f32) : FVec Ideal S7168x2048 .f32 :=
  subf y (broadcastInDim S7168x2048 ![0, 1] bcast_S7168x1_S7168x2048_0_1 (mean y))

/-- The layer norm of centred rows. -/
def norm (yc : FVec Ideal S7168x2048 .f32) : FVec Ideal S7168x2048 .f32 :=
  addf (mulf (mulf yc (broadcastInDim S7168x2048 ![0, 1] bcast_S7168x1_S7168x2048_0_1
      (Host.rsqrt (addf (mean (mulf yc yc)) (broadcastInDim S7168x1 ![] bcast_S_S7168x1 (constant S_ .f32 0x3727C5AC#32))))))
    (broadcastInDim S7168x2048 ![0, 1] bcast_S1x2048_S7168x2048_0_1 g))
    (broadcastInDim S7168x2048 ![0, 1] bcast_S1x2048_S7168x2048_0_1 b)

/-- The rows after the first ones, as a term of the arguments. -/
def rest : FVec Ideal S7168x2048 .f32 := norm g b (centred (resid h w2 (hidden h w1 w3)))

/-- The rows of the argument after the first ones. -/
def tail (x : FVec Ideal S8192x2048 .f32) : FVec Ideal S7168x2048 .f32 := extractStridedSlice S7168x2048 ![1024, 0] x slices_S8192x2048_S7168x2048_1024_0

/-- The reference's result as a term of its arguments. -/
def out (x : FVec Ideal S8192x2048 .f32) (hd : FVec Ideal S1024x2048 .f32) : FVec Ideal S8192x2048 .f32 :=
  concatenate S8192x2048 0 [⟨S1024x2048, hd⟩, ⟨S7168x2048, rest (tail x) w1 w3 w2 g b⟩] concatenates_S1024x2048_S7168x2048_S8192x2048_d0

/-- A hidden unit. -/
theorem hidden_at (s : Fin 7168) (u : Fin 5632) : hidden h w1 w3 (ix2 s u) = hid (fun j => h (ix2 s j)) (fun j => w1 (ix2 j u)) (fun j => w3 (ix2 j u)) := by
  pointwise [hidden]
  rfl

/-- The residual sum at a row and a column. -/
theorem resid_at (e : FVec Ideal S7168x5632 .f32) (s : Fin 7168) (k : Fin 2048) :
    resid h w2 e (ix2 s k) = mix (fun j => h (ix2 s j)) (fun k => ∑ u, e (ix2 s u) * w2 (ix2 u k)) k := by
  pointwise [resid]
  rfl

/-- A row's mean. -/
theorem mean_at (y : FVec Ideal S7168x2048 .f32) (s : Fin 7168) (z : Fin 1) : mean y (ix2 s z) = Ideal.div (∑ j : Fin 2048, y (ix2 s j)) (Ideal.ofBits .f32 0x45000000#32) := by
  pointwise [mean]

/-- The layer norm at a row and a column. -/
theorem norm_at (y : FVec Ideal S7168x2048 .f32) (s : Fin 7168) (k : Fin 2048) :
    norm g b (centred y) (ix2 s k) = lnAt (fun j => y (ix2 s j)) (fun j => g (ix2 (0 : Fin 1) j)) (fun j => b (ix2 (0 : Fin 1) j)) k := by
  have ec : ∀ j : Fin 2048, centred y (ix2 s j) = y (ix2 s j) - Ideal.div (∑ j : Fin 2048, y (ix2 s j)) (Ideal.ofBits .f32 0x45000000#32) := fun j => by
    pointwise [centred]
    rw [mean_at]
  pointwise [norm]
  rw [mean_at, ec]
  pointwise [norm]
  simp only [ec]
  rfl

/-- A row after the first ones. -/
theorem rest_at (s : Fin 7168) (k : Fin 2048) : rest h w1 w3 w2 g b (ix2 s k)
    = ffnAt (fun j => h (ix2 s j)) (fun j u => w1 (ix2 j u)) (fun j u => w3 (ix2 j u)) (fun u k => w2 (ix2 u k)) (fun j => g (ix2 (0 : Fin 1) j)) (fun j => b (ix2 (0 : Fin 1) j)) k := by
  unfold rest
  rw [norm_at]
  simp only [resid_at, hidden_at]
  rfl

/-- The argument's rows after the first ones. -/
theorem tail_at (x : FVec Ideal S8192x2048 .f32) (s : Fin 7168) (j : Fin 2048) (s' : Fin 8192) (hs : s'.val = 1024 + s.val) : tail x (ix2 s j) = x (ix2 s' j) := by
  obtain ⟨n, hn⟩ := s'
  obtain rfl : n = 1024 + s.val := hs
  pointwise [tail]

/-- The reference's first rows are those given. -/
theorem out_head (x : FVec Ideal S8192x2048 .f32) (hd : FVec Ideal S1024x2048 .f32) (s : Fin 8192) (k : Fin 2048) (hs : s.val < 1024) :
    out w1 w3 w2 g b x hd (ix2 s k) = hd (ix2 (⟨s.val, hs⟩ : Fin 1024) k) := by
  pointwise [out]
  exact dif_pos hs

/-- The reference's other rows are the feed-forward block's. -/
theorem out_rest (x : FVec Ideal S8192x2048 .f32) (hd : FVec Ideal S1024x2048 .f32) (s : Fin 8192) (k : Fin 2048) (hs : ¬ s.val < 1024) :
    out w1 w3 w2 g b x hd (ix2 s k)
      = ffnAt (fun j => x (ix2 s j)) (fun j u => w1 (ix2 j u)) (fun j u => w3 (ix2 j u)) (fun u k => w2 (ix2 u k)) (fun j => g (ix2 (0 : Fin 1) j)) (fun j => b (ix2 (0 : Fin 1) j)) k := by
  refine Eq.trans ?_ ((rest_at (tail x) w1 w3 w2 g b ⟨s.val - 1024, by omega⟩ k).trans ?_)
  · pointwise [out]
    exact dif_neg hs
  · exact congrArg (fun y => ffnAt y _ _ _ _ _ k) (funext fun j => tail_at x _ j s (by show s.val = 1024 + (s.val - 1024); omega))
end

/-- The run's result is that term. -/
theorem res_eq (m : (ℓ : Loc nD τ sig) → Buf (Elt Ideal) ℓ) (c : Dev nD) : Value.res_main_v31 m c
    = out (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg6)) := rfl

end Cert.Proof.Reference4Ideal

namespace Cert.Proof

open Idealize.ShloMosaic Idealize.ShloMosaic.TcCoe Idealize.SL.Sem

/-- The reference's array is the kernel's. -/
theorem ref_k4 (m : (ℓ : Loc Cert.Kernel4Ideal.nD Cert.Kernel4Ideal.τ Cert.Kernel4Ideal.sig) → Buf (Elt Ideal) ℓ) (c : Dev Cert.Kernel4Ideal.nD) :
    Reference4Ideal.out (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg6)) = Kernel4Ideal.ffnArr m c := by
  funext j
  have hj0 : (j 0).val < 8192 := (j 0).isLt
  have hj1 : (j 1).val < 2048 := (j 1).isLt
  have ej : j = ix2 (⟨(j 0).val, hj0⟩ : Fin 8192) (⟨(j 1).val, hj1⟩ : Fin 2048) := funext fun a => by
    match a with
    | ⟨0, _⟩ => rfl
    | ⟨1, _⟩ => rfl
  rw [ej]
  by_cases hs : (j 0).val < 1024
  · exact (Reference4Ideal.out_head _ _ _ _ _ _ _ _ _ hs).trans (Kernel4Ideal.ffnArr_head m c _ _ hs).symm
  · exact (Reference4Ideal.out_rest _ _ _ _ _ _ _ _ _ hs).trans (Kernel4Ideal.ffnArr_rest m c _ _ hs).symm

/-- The first feed-forward block's second call and its reference end with equal results and their arguments unchanged. -/
theorem algebraic_k4 : Cert.algebraic_Kernel4Ideal_Reference4Ideal := fun m ρ m' ρ' _ hag =>
  ⟨fun c => Kernel4Ideal.ffnArr m c, Kernel4Ideal.run m ρ,
    (θ_run Cert.Reference4Ideal.defs _ _).mono (fun r h c =>
      ⟨(h c).1.trans ((show _ = Reference4Ideal.out _ _ _ _ _ _ _ by
          rw [Reference4Ideal.res_eq, (hag c).1, (hag c).2.1, (hag c).2.2.1, (hag c).2.2.2.1, (hag c).2.2.2.2.1, (hag c).2.2.2.2.2.1, (hag c).2.2.2.2.2.2]).trans (ref_k4 m c)),
        (h c).2⟩) (Cert.Reference4Ideal.Value.run (F := Ideal) m' ρ')⟩

end Cert.Proof

end
-- ==== Proof.OutProj.lean ====
module

public import proofs.«01_k».proof.Proof.Gen.Kernel5Ideal.Value
public import proofs.«01_k».proof.Proof.FfnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Kernel5Ideal

open Cert.Kernel5Ideal Cert.Kernel5Ideal.Gen
open Idealize.ShloMosaic Idealize.ShloMosaic.TcCoe Idealize.SL.Sem
open Idealize.ShloMosaic.Pipeline (Dat)
open Cert.Proof.Ffn

/-! What the output projection's array holds at the end. -/

variable (m : (ℓ : Loc nD τ sig) → Buf (Elt Ideal) ℓ)

/-- The RMS norm of a row of 1024 numbers at column `j`. -/
def rmsAt (y g : Fin 1024 → EReal) (j : Fin 1024) : EReal :=
  y j * Ideal.rsqrt (Ideal.div (∑ j, y j * y j) (Ideal.ofBits .f32 0x44800000#32) + Ideal.ofBits .f32 0x3727C5AC#32) * g j

/-- The residual sum with the two attentions' projections, layer-normed, at column `k`. -/
def projAt (y z : Fin 1024 → EReal) (h : Fin 2048 → EReal) (p q : Fin 1024 → EReal) (u w : Fin 1024 → Fin 2048 → EReal) (g b : Fin 2048 → EReal) (k : Fin 2048) : EReal :=
  lnAt (fun k => Ideal.ofBits .f32 0x3F9837F0#32 * h k + (∑ j, rmsAt y p j * u j k + ∑ j, rmsAt z q j * w j k)) g b k

section
variable (r : Fin 256) (k : Fin 2048) (y z : FVec Ideal S256x1024 .f32) (h : FVec Ideal S256x2048 .f32) (p q : FVec Ideal S1x1024 .f32) (u w : FVec Ideal S1024x2048 .bf16) (g b : FVec Ideal S1x2048 .f32)

/-- The first group of rows. -/
theorem group0_at : k0_pay5 (F := Ideal) (k0_pay3 z q) (k0_pay4 y p u) w (constant S256x2048 .f32 0x00000000#32) h g b (ix2 r k)
    = projAt (fun j => y (ix2 r j)) (fun j => z (ix2 r j)) (fun j => h (ix2 r j)) (fun j => p (ix2 0 j)) (fun j => q (ix2 0 j)) (fun j k => u (ix2 j k)) (fun j k => w (ix2 j k))
      (fun j => g (ix2 0 j)) (fun j => b (ix2 0 j)) k := by
  pointwise [k0_pay3, k0_pay4, k0_pay5]
  rfl

/-- The second group of rows. -/
theorem group1_at : k0_pay1 (F := Ideal) g b (k0_pay7 y p (k0_pay6 y) z q u w h) (ix2 r k)
    = projAt (fun j => y (ix2 r j)) (fun j => z (ix2 r j)) (fun j => h (ix2 r j)) (fun j => p (ix2 0 j)) (fun j => q (ix2 0 j)) (fun j k => u (ix2 j k)) (fun j k => w (ix2 j k))
      (fun j => g (ix2 0 j)) (fun j => b (ix2 0 j)) k := by
  pointwise [k0_pay1, k0_pay6, k0_pay7]
  rfl
end

/-- Rows loaded from a block, read at their own row. -/
theorem ld_rows {R C n : ℕ} {ty : EltTy} (X : Vec Ideal ⟨2, ![R, C]⟩ ty) (off : Fin 2 → ℕ) (inb : ∀ a, off a + ![n, C] a ≤ (⟨2, ![R, C]⟩ : Shape).size a) (r : Fin R) (r' : Fin n) (j : Fin C)
    (h : r.val = off 0 + r'.val) (h1 : off 1 = 0) :
    View.ld X (Rect.unit (s := ⟨2, ![R, C]⟩) off ![n, C] inb) (ix2 r' j) = X (ix2 r j) :=
  View.ld_unit_apply_of X off ![n, C] inb (ix2 r' j) (ix2 r j) fun a => by
    match a with
    | ⟨0, _⟩ => exact h
    | ⟨1, _⟩ => show j.val = off 1 + j.val; omega

/-- Equal rows and equal weights give equal results. -/
theorem projAt_congr {y y' z z' : Fin 1024 → EReal} {h h' : Fin 2048 → EReal} {p q : Fin 1024 → EReal} {u u' w w' : Fin 1024 → Fin 2048 → EReal} {g b : Fin 2048 → EReal} {k : Fin 2048}
    (e1 : y = y') (e2 : z = z') (e3 : h = h') (e4 : u = u') (e5 : w = w') : projAt y z h p q u w g b k = projAt y' z' h' p q u' w' g b k := by
  rw [e1, e2, e3, e4, e5]

section
variable (Y Z : FVec Ideal S512x1024 .f32) (H : FVec Ideal S512x2048 .f32) (p q : FVec Ideal S1x1024 .f32) (s : FVec Ideal S2048x2048 .bf16) (g b : FVec Ideal S1x2048 .f32)
  (r : Fin 512) (k : Fin 2048)

/-- A block of 512 rows at a row and a column. -/
def blockAt : EReal :=
  projAt (fun j => Y (ix2 r j)) (fun j => Z (ix2 r j)) (fun j => H (ix2 r j)) (fun j => p (ix2 0 j)) (fun j => q (ix2 0 j))
    (fun j k => s (ix2 (⟨j.val, by omega⟩ : Fin 2048) k)) (fun j k => s (ix2 (⟨1024 + j.val, by omega⟩ : Fin 2048) k))
    (fun j => g (ix2 0 j)) (fun j => b (ix2 0 j)) k

/-- The second group of rows is the block's second half. -/
theorem tile1 : View.TileAt (Val := Elt Ideal) (e := .f32) (S := S512x2048) (ix2 r k) ![256, 0] ![256, 2048]
    (k0_pay1 (F := Ideal) g b (k0_pay7 (View.ld (Val := Elt Ideal) (e' := .f32) Y (Rect.unit (s := S512x1024) ![256, 0] ![256, 1024] inb_S512x1024_S256x1024_256_0)) p
      (k0_pay6 (View.ld (Val := Elt Ideal) (e' := .f32) Y (Rect.unit (s := S512x1024) ![256, 0] ![256, 1024] inb_S512x1024_S256x1024_256_0)))
      (View.ld (Val := Elt Ideal) (e' := .f32) Z (Rect.unit (s := S512x1024) ![256, 0] ![256, 1024] inb_S512x1024_S256x1024_256_0)) q
      (View.ld (Val := Elt Ideal) (e' := .bf16) s (Rect.unit (s := S2048x2048) ![0, 0] ![1024, 2048] inb_S2048x2048_S1024x2048_0_0)) (View.ld (Val := Elt Ideal) (e' := .bf16) s (Rect.unit (s := S2048x2048) ![1024, 0] ![1024, 2048] inb_S2048x2048_S1024x2048_1024_0))
      (View.ld (Val := Elt Ideal) (e' := .f32) H (Rect.unit (s := S512x2048) ![256, 0] ![256, 2048] inb_S512x2048_S256x2048_256_0)))) (blockAt Y Z H p q s g b r k) := by
  intro x hx
  obtain ⟨r', rfl⟩ : ∃ r' : Fin 256, x = ix2 r' k := ⟨⟨(x 0).val, (x 0).isLt⟩, funext fun a => by
    match a with
    | ⟨0, _⟩ => rfl
    | ⟨1, _⟩ => exact Fin.ext (((Nat.zero_add _).symm.trans (hx 1).symm))⟩
  refine (group1_at _ _ _ _ _ _ _ _ _ _ _).trans ?_
  exact projAt_congr (funext fun j => ld_rows (ty := .f32) Y ![256, 0] inb_S512x1024_S256x1024_256_0 r r' j (hx 0) rfl) (funext fun j => ld_rows (ty := .f32) Z ![256, 0] inb_S512x1024_S256x1024_256_0 r r' j (hx 0) rfl)
    (funext fun j => ld_rows (ty := .f32) H ![256, 0] inb_S512x2048_S256x2048_256_0 r r' j (hx 0) rfl)
    (funext fun j => funext fun k => ld_rows (ty := .bf16) s ![0, 0] inb_S2048x2048_S1024x2048_0_0 ⟨j.val, by omega⟩ j k (Nat.zero_add _).symm rfl)
    (funext fun j => funext fun k => ld_rows (ty := .bf16) s ![1024, 0] inb_S2048x2048_S1024x2048_1024_0 ⟨1024 + j.val, by omega⟩ j k rfl rfl)

/-- The first group of rows is the block's first half. -/
theorem tile0 : View.TileAt (Val := Elt Ideal) (e := .f32) (S := S512x2048) (ix2 r k) ![0, 0] ![256, 2048]
    (k0_pay5 (F := Ideal) (k0_pay3 (View.ld (Val := Elt Ideal) (e' := .f32) Z (Rect.unit (s := S512x1024) ![0, 0] ![256, 1024] inb_S512x1024_S256x1024_0_0)) q)
      (k0_pay4 (View.ld (Val := Elt Ideal) (e' := .f32) Y (Rect.unit (s := S512x1024) ![0, 0] ![256, 1024] inb_S512x1024_S256x1024_0_0)) p (View.ld (Val := Elt Ideal) (e' := .bf16) s (Rect.unit (s := S2048x2048) ![0, 0] ![1024, 2048] inb_S2048x2048_S1024x2048_0_0)))
      (View.ld (Val := Elt Ideal) (e' := .bf16) s (Rect.unit (s := S2048x2048) ![1024, 0] ![1024, 2048] inb_S2048x2048_S1024x2048_1024_0)) (constant S256x2048 FTy.f32 0#32)
      (View.ld (Val := Elt Ideal) (e' := .f32) H (Rect.unit (s := S512x2048) ![0, 0] ![256, 2048] inb_S512x2048_S256x2048_0_0)) g b) (blockAt Y Z H p q s g b r k) := by
  intro x hx
  obtain ⟨r', rfl⟩ : ∃ r' : Fin 256, x = ix2 r' k := ⟨⟨(x 0).val, (x 0).isLt⟩, funext fun a => by
    match a with
    | ⟨0, _⟩ => rfl
    | ⟨1, _⟩ => exact Fin.ext (((Nat.zero_add _).symm.trans (hx 1).symm))⟩
  refine (group0_at _ _ _ _ _ _ _ _ _ _ _).trans ?_
  exact projAt_congr (funext fun j => ld_rows (ty := .f32) Y ![0, 0] inb_S512x1024_S256x1024_0_0 r r' j (hx 0) rfl) (funext fun j => ld_rows (ty := .f32) Z ![0, 0] inb_S512x1024_S256x1024_0_0 r r' j (hx 0) rfl)
    (funext fun j => ld_rows (ty := .f32) H ![0, 0] inb_S512x2048_S256x2048_0_0 r r' j (hx 0) rfl)
    (funext fun j => funext fun k => ld_rows (ty := .bf16) s ![0, 0] inb_S2048x2048_S1024x2048_0_0 ⟨j.val, by omega⟩ j k (Nat.zero_add _).symm rfl)
    (funext fun j => funext fun k => ld_rows (ty := .bf16) s ![1024, 0] inb_S2048x2048_S1024x2048_1024_0 ⟨1024 + j.val, by omega⟩ j k rfl rfl)
end

/-- The first point leaves the cast weights in the scratch array. -/
theorem scr_A (c : Dev nD) (t : Fin cfg0.N) (h : t.val % 16 = 0) : (outsAt0 m c t.val t.isLt).2 = k0_pay2 (iblk m c 5 t) := by
  rw [outsAt0_A m c t h]
  frame_out

/-- The later points leave it as it was. -/
theorem scr_B (c : Dev nD) (t : Fin cfg0.N) (h : ¬ t.val % 16 = 0) (hp : t.val - 1 < cfg0.N) : (outsAt0 m c t.val t.isLt).2 = (outsAt0 m c (t.val - 1) hp).2 := by
  rw [outsAt0_B m c t h]
  rfl

/-- The block the first point leaves. -/
theorem outs_A (c : Dev nD) (t : Fin cfg0.N) (h : t.val % 16 = 0) (r : Fin 512) (k : Fin 2048) :
    (outsAt0 m c t.val t.isLt).1 (ix2 r k)
      = blockAt (iblk m c 0 t) (iblk m c 1 t) (iblk m c 2 t) (iblk m c 3 t) (iblk m c 4 t) (k0_pay2 (iblk m c 5 t)) (iblk m c 6 t) (iblk m c 7 t) r k := by
  rw [outsAt0_A m c t h]
  frame_open
  simp (disch := decide) only [↓ View.readCov_skip, ↓ View.readCov_cons_toLoadRect, ↓ View.readCov_fill]
  frame_out
  refine View.canon_eq_of_allAt _ _ _ (View.cover_of_tiled_head _ _ _ rfl _) ?_
  exact View.allAt_cons_unit _ _ _ _ _ (tile1 _ _ _ _ _ _ _ _ r k) (View.allAt_cons_unit _ _ _ _ _ (tile0 _ _ _ _ _ _ _ _ r k) (View.allAt_nil _ _))

/-- The block a later point leaves. -/
theorem outs_B (c : Dev nD) (t : Fin cfg0.N) (h : ¬ t.val % 16 = 0) (hp : t.val - 1 < cfg0.N) (r : Fin 512) (k : Fin 2048) :
    (outsAt0 m c t.val t.isLt).1 (ix2 r k)
      = blockAt (iblk m c 0 t) (iblk m c 1 t) (iblk m c 2 t) (iblk m c 3 t) (iblk m c 4 t) (outsAt0 m c (t.val - 1) hp).2 (iblk m c 6 t) (iblk m c 7 t) r k := by
  rw [outsAt0_B m c t h]
  frame_open
  simp (disch := decide) only [↓ View.readCov_skip, ↓ View.readCov_cons_toLoadRect, ↓ View.readCov_fill]
  frame_out
  simp only [read_unread_whole]
  refine View.canon_eq_of_allAt _ _ _ (View.cover_of_tiled_head _ _ _ rfl _) ?_
  exact View.allAt_cons_unit _ _ _ _ _ (tile1 _ _ _ _ _ _ _ _ r k) (View.allAt_cons_unit _ _ _ _ _ (tile0 _ _ _ _ _ _ _ _ r k) (View.allAt_nil _ _))

/-! ## The blocks the points read -/

/-- Where window 0's block of a point lies. -/
theorem index_0 : ∀ t : Fin cfg0.N, win0_0.index t 0 = t.val ∧ win0_0.index t 1 = 0 := by decide +kernel
/-- Where window 1's block of a point lies. -/
theorem index_1 : ∀ t : Fin cfg0.N, win0_1.index t 0 = t.val ∧ win0_1.index t 1 = 0 := by decide +kernel
/-- Where window 2's block of a point lies. -/
theorem index_2 : ∀ t : Fin cfg0.N, win0_2.index t 0 = t.val ∧ win0_2.index t 1 = 0 := by decide +kernel
/-- Where window 3's block of a point lies. -/
theorem index_3 : ∀ t : Fin cfg0.N, win0_3.index t 0 = 0 ∧ win0_3.index t 1 = 0 := by decide +kernel
/-- Where window 4's block of a point lies. -/
theorem index_4 : ∀ t : Fin cfg0.N, win0_4.index t 0 = 0 ∧ win0_4.index t 1 = 0 := by decide +kernel
/-- Where window 5's block of a point lies. -/
theorem index_5 : ∀ t : Fin cfg0.N, win0_5.index t 0 = 0 ∧ win0_5.index t 1 = 0 := by decide +kernel
/-- Where window 6's block of a point lies. -/
theorem index_6 : ∀ t : Fin cfg0.N, win0_6.index t 0 = 0 ∧ win0_6.index t 1 = 0 := by decide +kernel
/-- Where window 7's block of a point lies. -/
theorem index_7 : ∀ t : Fin cfg0.N, win0_7.index t 0 = 0 ∧ win0_7.index t 1 = 0 := by decide +kernel
/-- Where window 8's block of a point lies. -/
theorem index_8 : ∀ t : Fin cfg0.N, win0_8.index t 0 = t.val ∧ win0_8.index t 1 = 0 := by decide +kernel

/-- The scratch array's weights. -/
def castW (c : Dev nD) : FVec Ideal S2048x2048 .bf16 := k0_pay2 (m ((c : Thread nD τ).loc main_arg5))

/-- The cast keeps the weights. -/
theorem castW_at (c : Dev nD) (r k : Fin 2048) : castW m c (ix2 r k) = m ((c : Thread nD τ).loc main_arg5) (ix2 r k) := by
  unfold castW
  pointwise [k0_pay2]

/-- Argument 3 is read whole. -/
theorem iblk3_eq (c : Dev nD) (t : Fin cfg0.N) : iblk m c 3 t = m ((c : Thread nD τ).loc main_arg3) := by
  obtain ⟨e0, e1⟩ := index_3 t
  rw [← V_main_arg3 m c]
  funext j
  refine congrArg (V m c main_arg3) (funext fun a => Fin.ext ?_)
  match a with
  | ⟨0, _⟩ => show win0_3.index t 0 * 1 + 1 * (j 0).val = (j 0).val; omega
  | ⟨1, _⟩ => show win0_3.index t 1 * 1024 + 1 * (j 1).val = (j 1).val; omega

/-- Argument 4 is read whole. -/
theorem iblk4_eq (c : Dev nD) (t : Fin cfg0.N) : iblk m c 4 t = m ((c : Thread nD τ).loc main_arg4) := by
  obtain ⟨e0, e1⟩ := index_4 t
  rw [← V_main_arg4 m c]
  funext j
  refine congrArg (V m c main_arg4) (funext fun a => Fin.ext ?_)
  match a with
  | ⟨0, _⟩ => show win0_4.index t 0 * 1 + 1 * (j 0).val = (j 0).val; omega
  | ⟨1, _⟩ => show win0_4.index t 1 * 1024 + 1 * (j 1).val = (j 1).val; omega

/-- Argument 5 is read whole. -/
theorem iblk5_eq (c : Dev nD) (t : Fin cfg0.N) : iblk m c 5 t = m ((c : Thread nD τ).loc main_arg5) := by
  obtain ⟨e0, e1⟩ := index_5 t
  rw [← V_main_arg5 m c]
  funext j
  refine congrArg (V m c main_arg5) (funext fun a => Fin.ext ?_)
  match a with
  | ⟨0, _⟩ => show win0_5.index t 0 * 2048 + 1 * (j 0).val = (j 0).val; omega
  | ⟨1, _⟩ => show win0_5.index t 1 * 2048 + 1 * (j 1).val = (j 1).val; omega

/-- Argument 6 is read whole. -/
theorem iblk6_eq (c : Dev nD) (t : Fin cfg0.N) : iblk m c 6 t = m ((c : Thread nD τ).loc main_arg6) := by
  obtain ⟨e0, e1⟩ := index_6 t
  rw [← V_main_arg6 m c]
  funext j
  refine congrArg (V m c main_arg6) (funext fun a => Fin.ext ?_)
  match a with
  | ⟨0, _⟩ => show win0_6.index t 0 * 1 + 1 * (j 0).val = (j 0).val; omega
  | ⟨1, _⟩ => show win0_6.index t 1 * 2048 + 1 * (j 1).val = (j 1).val; omega

/-- Argument 7 is read whole. -/
theorem iblk7_eq (c : Dev nD) (t : Fin cfg0.N) : iblk m c 7 t = m ((c : Thread nD τ).loc main_arg7) := by
  obtain ⟨e0, e1⟩ := index_7 t
  rw [← V_main_arg7 m c]
  funext j
  refine congrArg (V m c main_arg7) (funext fun a => Fin.ext ?_)
  match a with
  | ⟨0, _⟩ => show win0_7.index t 0 * 1 + 1 * (j 0).val = (j 0).val; omega
  | ⟨1, _⟩ => show win0_7.index t 1 * 2048 + 1 * (j 1).val = (j 1).val; omega

/-- A block of argument 0's rows. -/
theorem iblk0_at (c : Dev nD) (t : Fin cfg0.N) (r : Fin 512) (k : Fin 1024) (h : 512 * t.val + r.val < 8192) :
    iblk m c 0 t (ix2 r k) = m ((c : Thread nD τ).loc main_arg0) (ix2 (⟨512 * t.val + r.val, h⟩ : Fin 8192) k) := by
  obtain ⟨e0, e1⟩ := index_0 t
  rw [← V_main_arg0 m c]
  refine congrArg (V m c main_arg0) (funext fun a => Fin.ext ?_)
  match a with
  | ⟨0, _⟩ => show win0_0.index t 0 * 512 + 1 * r.val = 512 * t.val + r.val; omega
  | ⟨1, _⟩ => show win0_0.index t 1 * 1024 + 1 * k.val = k.val; omega

/-- A block of argument 1's rows. -/
theorem iblk1_at (c : Dev nD) (t : Fin cfg0.N) (r : Fin 512) (k : Fin 1024) (h : 512 * t.val + r.val < 8192) :
    iblk m c 1 t (ix2 r k) = m ((c : Thread nD τ).loc main_arg1) (ix2 (⟨512 * t.val + r.val, h⟩ : Fin 8192) k) := by
  obtain ⟨e0, e1⟩ := index_1 t
  rw [← V_main_arg1 m c]
  refine congrArg (V m c main_arg1) (funext fun a => Fin.ext ?_)
  match a with
  | ⟨0, _⟩ => show win0_1.index t 0 * 512 + 1 * r.val = 512 * t.val + r.val; omega
  | ⟨1, _⟩ => show win0_1.index t 1 * 1024 + 1 * k.val = k.val; omega

/-- A block of argument 2's rows. -/
theorem iblk2_at (c : Dev nD) (t : Fin cfg0.N) (r : Fin 512) (k : Fin 2048) (h : 512 * t.val + r.val < 8192) :
    iblk m c 2 t (ix2 r k) = m ((c : Thread nD τ).loc main_arg2) (ix2 (⟨512 * t.val + r.val, h⟩ : Fin 8192) k) := by
  obtain ⟨e0, e1⟩ := index_2 t
  rw [← V_main_arg2 m c]
  refine congrArg (V m c main_arg2) (funext fun a => Fin.ext ?_)
  match a with
  | ⟨0, _⟩ => show win0_2.index t 0 * 512 + 1 * r.val = 512 * t.val + r.val; omega
  | ⟨1, _⟩ => show win0_2.index t 1 * 2048 + 1 * k.val = k.val; omega

/-- After every point the scratch array holds the cast weights. -/
theorem scr_eq (c : Dev nD) : ∀ (n : ℕ) (hn : n < cfg0.N), (outsAt0 m c n hn).2 = castW m c
  | 0, hn => by
    have e := scr_A m c ⟨0, hn⟩ rfl
    rw [iblk5_eq] at e
    exact e
  | n + 1, hn => by
    have hN : cfg0.N = 16 := N_0
    exact (scr_B m c ⟨n + 1, hn⟩ (by show ¬ (n + 1) % 16 = 0; omega) (by show n < _; omega)).trans (scr_eq c n (by omega))

/-- The array the call computes. -/
def projArr (c : Dev nD) : S8192x2048.Idx → EReal := fun i =>
  projAt (fun j => m ((c : Thread nD τ).loc main_arg0) (ix2 (i 0) j)) (fun j => m ((c : Thread nD τ).loc main_arg1) (ix2 (i 0) j))
    (fun j => m ((c : Thread nD τ).loc main_arg2) (ix2 (i 0) j)) (fun j => m ((c : Thread nD τ).loc main_arg3) (ix2 (0 : Fin 1) j)) (fun j => m ((c : Thread nD τ).loc main_arg4) (ix2 (0 : Fin 1) j))
    (fun j k => m ((c : Thread nD τ).loc main_arg5) (ix2 (⟨j.val, by omega⟩ : Fin 2048) k)) (fun j k => m ((c : Thread nD τ).loc main_arg5) (ix2 (⟨1024 + j.val, by omega⟩ : Fin 2048) k))
    (fun j => m ((c : Thread nD τ).loc main_arg6) (ix2 (0 : Fin 1) j)) (fun j => m ((c : Thread nD τ).loc main_arg7) (ix2 (0 : Fin 1) j)) (i 1)

/-- Every point leaves its block of rows. -/
theorem outs_at (c : Dev nD) (t : Fin cfg0.N) (r : Fin 512) (k : Fin 2048) (h : 512 * t.val + r.val < 8192) :
    (outsAt0 m c t.val t.isLt).1 (ix2 r k) = projArr m c (ix2 (⟨512 * t.val + r.val, h⟩ : Fin 8192) k) := by
  have e : (outsAt0 m c t.val t.isLt).1 (ix2 r k)
      = blockAt (iblk m c 0 t) (iblk m c 1 t) (iblk m c 2 t) (iblk m c 3 t) (iblk m c 4 t) (castW m c) (iblk m c 6 t) (iblk m c 7 t) r k := by
    by_cases h0 : t.val % 16 = 0
    · rw [outs_A m c t h0 r k, iblk5_eq]; rfl
    · have hp : t.val - 1 < cfg0.N := lt_of_le_of_lt (Nat.sub_le _ _) t.isLt
      rw [outs_B m c t h0 hp r k, scr_eq m c _ hp]
  rw [e, iblk3_eq, iblk4_eq, iblk6_eq, iblk7_eq]
  unfold blockAt
  simp only [iblk0_at m c t r _ h, iblk1_at m c t r _ h, iblk2_at m c t r _ h, castW_at]
  rfl

/-- What a point writes back is its block of the result. -/
theorem flushed8 (c : Dev nD) (t : Fin cfg0.N) : (dats m 0 c).flushed 8 t = (win0_8.blk t).view.read (Elt Ideal) (projArr m c) := by
  rw [Value.flushed8]
  obtain ⟨e0, e1⟩ := index_8 t
  have ht : t.val < 16 := lt_of_lt_of_eq t.isLt N_0
  funext j
  have hj0 : (j 0).val < 512 := (j 0).isLt
  have hj1 : (j 1).val < 2048 := (j 1).isLt
  have ej : j = ix2 (⟨(j 0).val, hj0⟩ : Fin 512) (⟨(j 1).val, hj1⟩ : Fin 2048) := funext fun a => by
    match a with
    | ⟨0, _⟩ => rfl
    | ⟨1, _⟩ => rfl
  refine (show _ = (outsAt0 m c t.val t.isLt).1 (ix2 (⟨(j 0).val, hj0⟩ : Fin 512) (⟨(j 1).val, hj1⟩ : Fin 2048)) from
    congrArg (outsAt0 m c t.val t.isLt).1 ej).trans ?_
  refine (outs_at m c t _ _ (by show 512 * t.val + (j 0).val < 8192; omega)).trans ?_
  refine congrArg (projArr m c) (funext fun a => Fin.ext ?_)
  match a with
  | ⟨0, _⟩ => show 512 * t.val + (j 0).val = win0_8.index t 0 * 512 + 1 * (j 0).val; omega
  | ⟨1, _⟩ => show (j 1).val = win0_8.index t 1 * 2048 + 1 * (j 1).val; omega

/-- Every row lies in the block of one point, and the array ends as the layer norm of the projected sum. -/
theorem final8 (c : Dev nD) : (dats m 0 c).arrAt 8 cfg0.N = projArr m c :=
  Dat.arrAt_eq_of_cover (dats m 0 c) 8 (projArr m c) (fun t _ => flushed8 m c t) fun i => (Value.covered_iff8 i).2 (by
    have h0 : (i 0).val < 8192 := (i 0).isLt
    have h1 : (i 1).val < 2048 := (i 1).isLt
    omega)

/-- The run, with its result array named. -/
theorem run (ρ : Dev nD → PrngReg) : θ_run defs (onTc (τ := τ) (main (F := Ideal))) ⟨m, fun _ => 0, ρ⟩ fun r => ∀ c : Dev nD,
      r.2.mem ((c.tc : Thread nD τ).loc main_v0) = projArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final8 m c), (h c).2⟩) (Value.run_blocks m ρ)

end Cert.Proof.Kernel5Ideal

end
-- ==== Proof.Algebraic5.lean ====
module

public import proofs.«01_k».proof.Defs
public import proofs.«01_k».proof.Proof.OutProj
public import proofs.«01_k».proof.Proof.Gen.Reference5Ideal
public import proofs.«01_k».proof.Proof.Gen.Reference5Ideal.Run

@[expose] public section

set_option maxRecDepth 16384

noncomputable section

namespace Cert.Proof.Reference5Ideal

open Cert.Reference5Ideal Cert.Reference5Ideal.Gen
open Idealize.ShloMosaic Idealize.ShloMosaic.TcCoe Idealize.SL.Sem
open Cert.Proof.Ffn

/-! The output projection and its reference end with equal arrays. -/

section
variable (y z : FVec Ideal S8192x1024 .f32) (h : FVec Ideal S8192x2048 .f32) (p q : FVec Ideal S1x1024 .f32) (w : FVec Ideal S2048x2048 .f32) (g b : FVec Ideal S1x2048 .f32)

/-- The RMS norm of rows of 1024 numbers. -/
def rms (y : FVec Ideal S8192x1024 .f32) (p : FVec Ideal S1x1024 .f32) : FVec Ideal S8192x1024 .f32 :=
  mulf (mulf y (broadcastInDim S8192x1024 ![0, 1] bcast_S8192x1_S8192x1024_0_1
      (Host.rsqrt (addf (Host.divf (broadcastInDim S8192x1 ![0] bcast_S8192_S8192x1_0 (Host.reduceAdd (mulf y y) (constant S_ .f32 0x00000000#32) reducesTo_S8192x1024_S8192_d1 h_S_))
        (broadcastInDim S8192x1 ![] bcast_S_S8192x1 (constant S_ .f32 0x44800000#32))) (broadcastInDim S8192x1 ![] bcast_S_S8192x1 (constant S_ .f32 0x3727C5AC#32))))))
    (broadcastInDim S8192x1024 ![0, 1] bcast_S1x1024_S8192x1024_0_1 p)

/-- The two attentions' rows side by side. -/
def both (y z : FVec Ideal S8192x1024 .f32) : FVec Ideal S8192x2048 .f32 :=
  concatenate S8192x2048 1 [⟨S8192x1024, y⟩, ⟨S8192x1024, z⟩] concatenates_S8192x1024_S8192x1024_S8192x2048_d1

/-- The residual sum with the rows `e` projected. -/
def resid (e : FVec Ideal S8192x2048 .f32) : FVec Ideal S8192x2048 .f32 :=
  addf (mulf (broadcastInDim S8192x2048 ![] bcast_S_S8192x2048 (constant S_ .f32 0x3F9837F0#32)) h)
    (Host.dotGeneral dot_S8192x2048_S2048x2048_S8192x2048_1_0_0_1_n_n none e w)

/-- A row's mean. -/
def mean (y : FVec Ideal S8192x2048 .f32) : FVec Ideal S8192x1 .f32 :=
  Host.divf (broadcastInDim S8192x1 ![0] bcast_S8192_S8192x1_0 (Host.reduceAdd y (constant S_ .f32 0x00000000#32) reducesTo_S8192x2048_S8192_d1 h_S_))
    (broadcastInDim S8192x1 ![] bcast_S_S8192x1 (constant S_ .f32 0x45000000#32))

/-- The rows with their means subtracted. -/
def centred (y : FVec Ideal S8192x2048 .f32) : FVec Ideal S8192x2048 .f32 :=
  subf y (broadcastInDim S8192x2048 ![0, 1] bcast_S8192x1_S8192x2048_0_1 (mean y))

/-- The layer norm of centred rows. -/
def norm (yc : FVec Ideal S8192x2048 .f32) : FVec Ideal S8192x2048 .f32 :=
  addf (mulf (mulf yc (broadcastInDim S8192x2048 ![0, 1] bcast_S8192x1_S8192x2048_0_1
      (Host.rsqrt (addf (mean (mulf yc yc)) (broadcastInDim S8192x1 ![] bcast_S_S8192x1 (constant S_ .f32 0x3727C5AC#32))))))
    (broadcastInDim S8192x2048 ![0, 1] bcast_S1x2048_S8192x2048_0_1 g))
    (broadcastInDim S8192x2048 ![0, 1] bcast_S1x2048_S8192x2048_0_1 b)

/-- The reference's result as a term of its arguments. -/
def out : FVec Ideal S8192x2048 .f32 := norm g b (centred (resid h w (both (rms y p) (rms z q))))

/-- The RMS norm at a row and a column. -/
theorem rms_at (s : Fin 8192) (j : Fin 1024) : rms y p (ix2 s j) = Kernel5Ideal.rmsAt (fun j => y (ix2 s j)) (fun j => p (ix2 (0 : Fin 1) j)) j := by
  pointwise [rms]
  rfl

/-- The first 1024 columns are the first attention's. -/
theorem both_fst (s : Fin 8192) (j : Fin 1024) : both y z (ix2 s (Fin.castAdd 1024 j : Fin 2048)) = y (ix2 s j) := by
  have h : j.val < 1024 := j.isLt
  pointwise [both]
  exact dif_pos h

/-- The last 1024 columns are the second attention's. -/
theorem both_snd (s : Fin 8192) (j : Fin 1024) : both y z (ix2 s (Fin.natAdd 1024 j : Fin 2048)) = z (ix2 s j) := by
  have h : ¬ 1024 + j.val < 1024 := by omega
  pointwise [both]
  refine (dif_neg h).trans (congrArg (fun k => z (ix2 s k)) (Fin.ext ?_))
  exact Nat.add_sub_cancel_left 1024 j.val

/-- The residual sum at a row and a column: the sum over the columns side by side is the sum of the two sums. -/
theorem resid_at (s : Fin 8192) (k : Fin 2048) : resid h w (both y z) (ix2 s k)
    = Ideal.ofBits .f32 0x3F9837F0#32 * h (ix2 s k) + (∑ j : Fin 1024, y (ix2 s j) * w (ix2 (⟨j.val, by omega⟩ : Fin 2048) k) + ∑ j : Fin 1024, z (ix2 s j) * w (ix2 (⟨1024 + j.val, by omega⟩ : Fin 2048) k)) := by
  have e : resid h w (both y z) (ix2 s k) = Ideal.ofBits .f32 0x3F9837F0#32 * h (ix2 s k) + ∑ j : Fin (1024 + 1024), both y z (ix2 s j) * w (ix2 j k) := by
    pointwise [resid]
  rw [e, Fin.sum_univ_add]
  simp only [both_fst, both_snd]
  rfl

/-- A row's mean. -/
theorem mean_at (y : FVec Ideal S8192x2048 .f32) (s : Fin 8192) (z : Fin 1) : mean y (ix2 s z) = Ideal.div (∑ j : Fin 2048, y (ix2 s j)) (Ideal.ofBits .f32 0x45000000#32) := by
  pointwise [mean]

/-- The layer norm at a row and a column. -/
theorem norm_at (y : FVec Ideal S8192x2048 .f32) (s : Fin 8192) (k : Fin 2048) :
    norm g b (centred y) (ix2 s k) = lnAt (fun j => y (ix2 s j)) (fun j => g (ix2 (0 : Fin 1) j)) (fun j => b (ix2 (0 : Fin 1) j)) k := by
  have ec : ∀ j : Fin 2048, centred y (ix2 s j) = y (ix2 s j) - Ideal.div (∑ j : Fin 2048, y (ix2 s j)) (Ideal.ofBits .f32 0x45000000#32) := fun j => by
    pointwise [centred]
    rw [mean_at]
  pointwise [norm]
  rw [mean_at, ec]
  pointwise [norm]
  simp only [ec]
  rfl

/-- The reference at a row and a column. -/
theorem out_at (s : Fin 8192) (k : Fin 2048) : out y z h p q w g b (ix2 s k)
    = Kernel5Ideal.projAt (fun j => y (ix2 s j)) (fun j => z (ix2 s j)) (fun j => h (ix2 s j)) (fun j => p (ix2 (0 : Fin 1) j)) (fun j => q (ix2 (0 : Fin 1) j))
      (fun j k => w (ix2 (⟨j.val, by omega⟩ : Fin 2048) k)) (fun j k => w (ix2 (⟨1024 + j.val, by omega⟩ : Fin 2048) k))
      (fun j => g (ix2 (0 : Fin 1) j)) (fun j => b (ix2 (0 : Fin 1) j)) k := by
  unfold out
  rw [norm_at]
  simp only [resid_at, rms_at]
  rfl
end

/-- The run's result is that term. -/
theorem res_eq (m : (ℓ : Loc nD τ sig) → Buf (Elt Ideal) ℓ) (c : Dev nD) : Value.res_main_v48 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.Proof.Reference5Ideal

namespace Cert.Proof

open Idealize.ShloMosaic Idealize.ShloMosaic.TcCoe Idealize.SL.Sem

/-- The reference's array is the kernel's. -/
theorem ref_k5 (m : (ℓ : Loc Cert.Kernel5Ideal.nD Cert.Kernel5Ideal.τ Cert.Kernel5Ideal.sig) → Buf (Elt Ideal) ℓ) (c : Dev Cert.Kernel5Ideal.nD) :
    Reference5Ideal.out (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5))
      (m ((c.tc : Thread Cert.Kernel5Ideal.nD Cert.Kernel5Ideal.τ).loc Cert.Kernel5Ideal.main_arg6))
      (m ((c.tc : Thread Cert.Kernel5Ideal.nD Cert.Kernel5Ideal.τ).loc Cert.Kernel5Ideal.main_arg7)) = Kernel5Ideal.projArr m c := by
  funext j
  have hj0 : (j 0).val < 8192 := (j 0).isLt
  have hj1 : (j 1).val < 2048 := (j 1).isLt
  have ej : j = ix2 (⟨(j 0).val, hj0⟩ : Fin 8192) (⟨(j 1).val, hj1⟩ : Fin 2048) := funext fun a => by
    match a with
    | ⟨0, _⟩ => rfl
    | ⟨1, _⟩ => rfl
  rw [ej]
  exact Reference5Ideal.out_at _ _ _ _ _ _ _ _ _ _

/-- The output projection and its reference end with equal results and their arguments unchanged. -/
theorem algebraic_k5 : Cert.algebraic_Kernel5Ideal_Reference5Ideal := fun m ρ m' ρ' _ hag =>
  ⟨fun c => Kernel5Ideal.projArr m c, Kernel5Ideal.run m ρ,
    (θ_run Cert.Reference5Ideal.defs _ _).mono (fun r h c =>
      ⟨(h c).1.trans ((show _ = Reference5Ideal.out _ _ _ _ _ _ _ _ by
          rw [Reference5Ideal.res_eq, (hag c).1, (hag c).2.1, (hag c).2.2.1, (hag c).2.2.2.1, (hag c).2.2.2.2.1, (hag c).2.2.2.2.2.1, (hag c).2.2.2.2.2.2.1, (hag c).2.2.2.2.2.2.2]).trans (ref_k5 m c)),
        (h c).2⟩) (Cert.Reference5Ideal.Value.run (F := Ideal) m' ρ')⟩

end Cert.Proof

end
-- ==== Proof.Head.lean ====
module

public import proofs.«01_k».proof.Proof.Gen.Kernel6Ideal.Value
public import proofs.«01_k».proof.Proof.OutProj

@[expose] public section

set_option maxRecDepth 16384

noncomputable section

namespace Cert.Proof.Kernel6Ideal

open Cert.Kernel6Ideal Cert.Kernel6Ideal.Gen
open Idealize.ShloMosaic Idealize.ShloMosaic.TcCoe Idealize.SL.Sem
open Idealize.ShloMosaic.Pipeline (Dat)
open Cert.Proof.Ffn
open Cert.Proof.Kernel5Ideal (ld_rows)

/-! What the first feed-forward block's first call leaves: its first rows, and the weights' copies. -/

variable (m : (ℓ : Loc nD τ sig) → Buf (Elt Ideal) ℓ)

section
variable (r : Fin 256) (k : Fin 2048) (x o : FVec Ideal S256x2048 .f32) (x' : FVec Ideal S256x2048 .bf16) (w1 w3 : FVec Ideal S2048x256 .bf16) (w2 : FVec Ideal S256x2048 .bf16) (g b : FVec Ideal S1x2048 .f32)

/-- A tile's step at a row and a column. -/
theorem pay6_at (o : FVec Ideal S1024x2048 .f32) (x : FVec Ideal S1024x2048 .bf16) (r : Fin 1024) : k0_pay6 (F := Ideal) o x w1 w3 w2 (ix2 r k)
    = o (ix2 r k) + tileSum (fun j => x (ix2 r j)) (fun j u => w1 (ix2 j u)) (fun j u => w3 (ix2 j u)) (fun u => w2 (ix2 u k)) := by
  pointwise [k0_pay6]
  rfl

/-- The first group of rows at the last tile. -/
theorem group0_at : k0_pay13 (F := Ideal) (k0_pay11 x) (k0_pay12 o x' w1 w3 w2) g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay11, k0_pay12, k0_pay13]
  rfl

/-- The second group of rows at the last tile. -/
theorem group1_at : k0_pay17 (F := Ideal) (k0_pay14 x) (k0_pay15 o) x' (k0_pay16 x' w1) w3 w2 g b (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay14, k0_pay15, k0_pay16, k0_pay17]
  rfl

/-- The third group of rows at the last tile. -/
theorem group2_at : k0_pay21 (F := Ideal) g b (k0_pay19 (k0_pay18 x) o x' w1 w3 w2) (k0_pay20 (k0_pay18 x) o x' w1 w3 w2) (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay18, k0_pay19, k0_pay20, k0_pay21]
  rfl

/-- The fourth group of rows at the last tile. -/
theorem group3_at : k0_pay7 (F := Ideal) (k0_pay22 x o x' w1 w3 w2) g b (k0_pay23 x o x' w1 w3 w2) (k0_pay24 (F := Ideal)) (ix2 r k)
    = lastAt (fun j => x (ix2 r j)) (fun j => o (ix2 r j)) (fun j => x' (ix2 r j)) (fun j u => w1 (ix2 j u)) (fun j u => w3 (ix2 j u)) (fun u k => w2 (ix2 u k))
      (fun j => g (ix2 0 j)) (fun j => b (ix2 0 j)) k := by
  pointwise [k0_pay7, k0_pay22, k0_pay23, k0_pay24]
  rfl
end

/-- The first tile starts the sum. -/
theorem outs_A (c : Dev nD) (t : Fin cfg0.N) (h : t.val % 22 = 0) :
    (outsAt0 m c t.val t.isLt).1 = k0_pay6 (k0_pay2 (F := Ideal)) (k0_pay1 (iblk m c 0 t)) (k0_pay3 (iblk m c 1 t)) (k0_pay4 (iblk m c 2 t)) (k0_pay5 (iblk m c 3 t)) := by
  rw [outsAt0_A m c t h (by have := t.isLt; have : cfg0.N = 22 := N_0; omega) (by omega)]
  frame_out

/-- The rows' copy is made at the first tile. -/
theorem scr_A (c : Dev nD) (t : Fin cfg0.N) (h : t.val % 22 = 0) : (outsAt0 m c t.val t.isLt).2.2.2.2 = (k0_pay1 (iblk m c 0 t)) := by
  rw [outsAt0_A m c t h (by have := t.isLt; have : cfg0.N = 22 := N_0; omega) (by omega)]
  frame_out

/-- The copy of the gate's tile. -/
theorem copy7_A (c : Dev nD) (t : Fin cfg0.N) (h : t.val % 22 = 0) : (outsAt0 m c t.val t.isLt).2.1 = k0_pay3 (iblk m c 1 t) := by
  rw [outsAt0_A m c t h (by have := t.isLt; have : cfg0.N = 22 := N_0; omega) (by omega)]
  frame_out

/-- The copy of the other factor's tile. -/
theorem copy8_A (c : Dev nD) (t : Fin cfg0.N) (h : t.val % 22 = 0) : (outsAt0 m c t.val t.isLt).2.2.1 = k0_pay4 (iblk m c 2 t) := by
  rw [outsAt0_A m c t h (by have := t.isLt; have : cfg0.N = 22 := N_0; omega) (by omega)]
  frame_out

/-- The copy of the way back's tile. -/
theorem copy9_A (c : Dev nD) (t : Fin cfg0.N) (h : t.val % 22 = 0) : (outsAt0 m c t.val t.isLt).2.2.2.1 = k0_pay5 (iblk m c 3 t) := by
  rw [outsAt0_A m c t h (by have := t.isLt; have : cfg0.N = 22 := N_0; omega) (by omega)]
  frame_out

/-- The middle tiles add to what the point before left. -/
theorem outs_B (c : Dev nD) (t : Fin cfg0.N) (h : ¬ t.val % 22 = 0) (h' : t.val < 21) (hp : t.val - 1 < cfg0.N) :
    (outsAt0 m c t.val t.isLt).1 = k0_pay6 (outsAt0 m c (t.val - 1) hp).1 (outsAt0 m c (t.val - 1) hp).2.2.2.2 (k0_pay3 (iblk m c 1 t)) (k0_pay4 (iblk m c 2 t)) (k0_pay5 (iblk m c 3 t)) := by
  rw [outsAt0_B m c t h h' (by omega)]
  frame_out
  simp only [read_unread_whole]

/-- The rows' copy stays. -/
theorem scr_B (c : Dev nD) (t : Fin cfg0.N) (h : ¬ t.val % 22 = 0) (h' : t.val < 21) (hp : t.val - 1 < cfg0.N) : (outsAt0 m c t.val t.isLt).2.2.2.2 = (outsAt0 m c (t.val - 1) hp).2.2.2.2 := by
  rw [outsAt0_B m c t h h' (by omega)]
  rfl

/-- The copy of the gate's tile. -/
theorem copy7_B (c : Dev nD) (t : Fin cfg0.N) (h : ¬ t.val % 22 = 0) (h' : t.val < 21) (hp : t.val - 1 < cfg0.N) : (outsAt0 m c t.val t.isLt).2.1 = k0_pay3 (iblk m c 1 t) := by
  rw [outsAt0_B m c t h h' (by omega)]
  frame_out

/-- The copy of the other factor's tile. -/
theorem copy8_B (c : Dev nD) (t : Fin cfg0.N) (h : ¬ t.val % 22 = 0) (h' : t.val < 21) (hp : t.val - 1 < cfg0.N) : (outsAt0 m c t.val t.isLt).2.2.1 = k0_pay4 (iblk m c 2 t) := by
  rw [outsAt0_B m c t h h' (by omega)]
  frame_out

/-- The copy of the way back's tile. -/
theorem copy9_B (c : Dev nD) (t : Fin cfg0.N) (h : ¬ t.val % 22 = 0) (h' : t.val < 21) (hp : t.val - 1 < cfg0.N) : (outsAt0 m c t.val t.isLt).2.2.2.1 = k0_pay5 (iblk m c 3 t) := by
  rw [outsAt0_B m c t h h' (by omega)]
  frame_out

/-- The copy of the gate's last tile. -/
theorem copy7_C (c : Dev nD) (t : Fin cfg0.N) (h : t.val % 22 = 21) : (outsAt0 m c t.val t.isLt).2.1 = k0_pay3 (iblk m c 1 t) := by
  rw [outsAt0_C m c t (by omega) (by omega) h]
  frame_out
  rfl

/-- The copy of the other factor's last tile. -/
theorem copy8_C (c : Dev nD) (t : Fin cfg0.N) (h : t.val % 22 = 21) : (outsAt0 m c t.val t.isLt).2.2.1 = k0_pay4 (iblk m c 2 t) := by
  rw [outsAt0_C m c t (by omega) (by omega) h]
  frame_out
  rfl

/-- The copy of the way back's last tile. -/
theorem copy9_C (c : Dev nD) (t : Fin cfg0.N) (h : t.val % 22 = 21) : (outsAt0 m c t.val t.isLt).2.2.2.1 = k0_pay5 (iblk m c 3 t) := by
  rw [outsAt0_C m c t (by omega) (by omega) h]
  frame_out
  rfl

/-- The last tile ends the sum, mixes in the row and takes the layer norm. -/
theorem outs_C (c : Dev nD) (t : Fin cfg0.N) (h : t.val % 22 = 21) (hp : t.val - 1 < cfg0.N) (r : Fin 1024) (k : Fin 2048) :
    (outsAt0 m c t.val t.isLt).1 (ix2 r k)
      = lastAt (fun j => iblk m c 0 t (ix2 r j)) (fun j => (outsAt0 m c (t.val - 1) hp).1 (ix2 r j)) (fun j => (outsAt0 m c (t.val - 1) hp).2.2.2.2 (ix2 r j))
        (fun j u => k0_pay3 (F := Ideal) (iblk m c 1 t) (ix2 j u)) (fun j u => k0_pay4 (F := Ideal) (iblk m c 2 t) (ix2 j u)) (fun u k => k0_pay5 (F := Ideal) (iblk m c 3 t) (ix2 u k))
        (fun j => iblk m c 4 t (ix2 0 j)) (fun j => iblk m c 5 t (ix2 0 j)) k := by
  rw [outsAt0_C m c t (by omega) (by omega) h]
  frame_open
  simp (disch := decide) only [↓ View.readCov_skip, ↓ View.readCov_cons_toLoadRect, ↓ View.readCov_fill]
  frame_out
  simp only [read_unread_whole]
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals intro x hx
  all_goals
    obtain ⟨r', rfl⟩ : ∃ r' : Fin 256, x = ix2 r' k := ⟨⟨(x 0).val, (x 0).isLt⟩, funext fun a => by
      match a with
      | ⟨0, _⟩ => rfl
      | ⟨1, _⟩ => exact Fin.ext (((Nat.zero_add _).symm.trans (hx 1).symm))⟩
  · refine (group3_at _ _ _ _ _ _ _ _ _ _).trans ?_
    exact lastAt_congr (funext fun j => ld_rows (ty := .f32) _ ![768, 0] inb_S1024x2048_S256x2048_768_0 r r' j (hx 0) rfl) (funext fun j => ld_rows (ty := .f32) _ ![768, 0] inb_S1024x2048_S256x2048_768_0 r r' j (hx 0) rfl) (funext fun j => ld_rows (ty := .bf16) _ ![768, 0] inb_S1024x2048_S256x2048_768_0 r r' j (hx 0) rfl)
  · refine (group2_at _ _ _ _ _ _ _ _ _ _).trans ?_
    exact lastAt_congr (funext fun j => ld_rows (ty := .f32) _ ![512, 0] inb_S1024x2048_S256x2048_512_0 r r' j (hx 0) rfl) (funext fun j => ld_rows (ty := .f32) _ ![512, 0] inb_S1024x2048_S256x2048_512_0 r r' j (hx 0) rfl) (funext fun j => ld_rows (ty := .bf16) _ ![512, 0] inb_S1024x2048_S256x2048_512_0 r r' j (hx 0) rfl)
  · refine (group1_at _ _ _ _ _ _ _ _ _ _).trans ?_
    exact lastAt_congr (funext fun j => ld_rows (ty := .f32) _ ![256, 0] inb_S1024x2048_S256x2048_256_0 r r' j (hx 0) rfl) (funext fun j => ld_rows (ty := .f32) _ ![256, 0] inb_S1024x2048_S256x2048_256_0 r r' j (hx 0) rfl) (funext fun j => ld_rows (ty := .bf16) _ ![256, 0] inb_S1024x2048_S256x2048_256_0 r r' j (hx 0) rfl)
  · refine (group0_at _ _ _ _ _ _ _ _ _ _).trans ?_
    exact lastAt_congr (funext fun j => ld_rows (ty := .f32) _ ![0, 0] inb_S1024x2048_S256x2048_0_0 r r' j (hx 0) rfl) (funext fun j => ld_rows (ty := .f32) _ ![0, 0] inb_S1024x2048_S256x2048_0_0 r r' j (hx 0) rfl) (funext fun j => ld_rows (ty := .bf16) _ ![0, 0] inb_S1024x2048_S256x2048_0_0 r r' j (hx 0) rfl)

/-! ## The blocks the points read -/

/-- Where window 0's block of a point lies. -/
theorem index_0 : ∀ t : Fin cfg0.N, win0_0.index t 0 = 0 ∧ win0_0.index t 1 = 0 := by decide +kernel
/-- Where window 1's block of a point lies. -/
theorem index_1 : ∀ t : Fin cfg0.N, win0_1.index t 0 = 0 ∧ win0_1.index t 1 = t.val := by decide +kernel
/-- Where window 2's block of a point lies. -/
theorem index_2 : ∀ t : Fin cfg0.N, win0_2.index t 0 = 0 ∧ win0_2.index t 1 = t.val := by decide +kernel
/-- Where window 3's block of a point lies. -/
theorem index_3 : ∀ t : Fin cfg0.N, win0_3.index t 0 = t.val ∧ win0_3.index t 1 = 0 := by decide +kernel
/-- Where window 4's block of a point lies. -/
theorem index_4 : ∀ t : Fin cfg0.N, win0_4.index t 0 = 0 ∧ win0_4.index t 1 = 0 := by decide +kernel
/-- Where window 5's block of a point lies. -/
theorem index_5 : ∀ t : Fin cfg0.N, win0_5.index t 0 = 0 ∧ win0_5.index t 1 = 0 := by decide +kernel
/-- Where window 6's block of a point lies. -/
theorem index_6 : ∀ t : Fin cfg0.N, win0_6.index t 0 = 0 ∧ win0_6.index t 1 = 0 := by decide +kernel
/-- Where window 7's block of a point lies. -/
theorem index_7 : ∀ t : Fin cfg0.N, win0_7.index t 0 = 0 ∧ win0_7.index t 1 = t.val := by decide +kernel
/-- Where window 8's block of a point lies. -/
theorem index_8 : ∀ t : Fin cfg0.N, win0_8.index t 0 = 0 ∧ win0_8.index t 1 = t.val := by decide +kernel
/-- Where window 9's block of a point lies. -/
theorem index_9 : ∀ t : Fin cfg0.N, win0_9.index t 0 = t.val ∧ win0_9.index t 1 = 0 := by decide +kernel

/-- The first rows. -/
def X (c : Dev nD) (s : Fin 1024) (j : Fin 2048) : EReal := m ((c : Thread nD τ).loc main_arg0) (ix2 (⟨s.val, by omega⟩ : Fin 8192) j)
/-- The gate's weights. -/
def W1 (c : Dev nD) (j : Fin 2048) (u : Fin 5632) : EReal := m ((c : Thread nD τ).loc main_arg1) (ix2 j u)
/-- The other factor's weights. -/
def W3 (c : Dev nD) (j : Fin 2048) (u : Fin 5632) : EReal := m ((c : Thread nD τ).loc main_arg2) (ix2 j u)
/-- The weights back to the row. -/
def W2 (c : Dev nD) (u : Fin 5632) (k : Fin 2048) : EReal := m ((c : Thread nD τ).loc main_arg3) (ix2 u k)
/-- The layer norm's factors. -/
def G (c : Dev nD) (k : Fin 2048) : EReal := m ((c : Thread nD τ).loc main_arg4) (ix2 (0 : Fin 1) k)
/-- The layer norm's offsets. -/
def B (c : Dev nD) (k : Fin 2048) : EReal := m ((c : Thread nD τ).loc main_arg5) (ix2 (0 : Fin 1) k)

/-- The rows. -/
theorem iblk0_at (c : Dev nD) (t : Fin cfg0.N) (r : Fin 1024) (k : Fin 2048) : (iblk m c 0 t (ix2 r k) : EReal) = X m c r k := by
  obtain ⟨e0, e1⟩ := index_0 t
  unfold X
  rw [← V_main_arg0 m c]
  refine congrArg (V m c main_arg0) (funext fun a => Fin.ext ?_)
  match a with
  | ⟨0, _⟩ => show win0_0.index t 0 * 1024 + 1 * r.val = r.val; omega
  | ⟨1, _⟩ => show win0_0.index t 1 * 2048 + 1 * k.val = k.val; omega

/-- A tile of the gate's weights. -/
theorem iblk1_at (c : Dev nD) (t : Fin cfg0.N) (j : Fin 2048) (u : Fin 256) (h : 256 * t.val + u.val < 5632) : (iblk m c 1 t (ix2 j u) : EReal) = W1 m c j ⟨256 * t.val + u.val, h⟩ := by
  obtain ⟨e0, e1⟩ := index_1 t
  unfold W1
  rw [← V_main_arg1 m c]
  refine congrArg (V m c main_arg1) (funext fun a => Fin.ext ?_)
  match a with
  | ⟨0, _⟩ => show win0_1.index t 0 * 2048 + 1 * j.val = j.val; omega
  | ⟨1, _⟩ => show win0_1.index t 1 * 256 + 1 * u.val = 256 * t.val + u.val; omega

/-- Its copy. -/
theorem copy1_at (c : Dev nD) (t : Fin cfg0.N) (j : Fin 2048) (u : Fin 256) (h : 256 * t.val + u.val < 5632) : k0_pay3 (F := Ideal) (iblk m c 1 t) (ix2 j u) = W1 m c j ⟨256 * t.val + u.val, h⟩ := by
  rw [← iblk1_at m c t j u h]
  pointwise [k0_pay3]

/-- A tile of the other factor's weights. -/
theorem iblk2_at (c : Dev nD) (t : Fin cfg0.N) (j : Fin 2048) (u : Fin 256) (h : 256 * t.val + u.val < 5632) : (iblk m c 2 t (ix2 j u) : EReal) = W3 m c j ⟨256 * t.val + u.val, h⟩ := by
  obtain ⟨e0, e1⟩ := index_2 t
  unfold W3
  rw [← V_main_arg2 m c]
  refine congrArg (V m c main_arg2) (funext fun a => Fin.ext ?_)
  match a with
  | ⟨0, _⟩ => show win0_2.index t 0 * 2048 + 1 * j.val = j.val; omega
  | ⟨1, _⟩ => show win0_2.index t 1 * 256 + 1 * u.val = 256 * t.val + u.val; omega

/-- Its copy. -/
theorem copy2_at (c : Dev nD) (t : Fin cfg0.N) (j : Fin 2048) (u : Fin 256) (h : 256 * t.val + u.val < 5632) : k0_pay4 (F := Ideal) (iblk m c 2 t) (ix2 j u) = W3 m c j ⟨256 * t.val + u.val, h⟩ := by
  rw [← iblk2_at m c t j u h]
  pointwise [k0_pay4]

/-- A tile of the weights back to the row. -/
theorem iblk3_at (c : Dev nD) (t : Fin cfg0.N) (u : Fin 256) (k : Fin 2048) (h : 256 * t.val + u.val < 5632) : (iblk m c 3 t (ix2 u k) : EReal) = W2 m c ⟨256 * t.val + u.val, h⟩ k := by
  obtain ⟨e0, e1⟩ := index_3 t
  unfold W2
  rw [← V_main_arg3 m c]
  refine congrArg (V m c main_arg3) (funext fun a => Fin.ext ?_)
  match a with
  | ⟨0, _⟩ => show win0_3.index t 0 * 256 + 1 * u.val = 256 * t.val + u.val; omega
  | ⟨1, _⟩ => show win0_3.index t 1 * 2048 + 1 * k.val = k.val; omega

/-- Its copy. -/
theorem copy3_at (c : Dev nD) (t : Fin cfg0.N) (u : Fin 256) (k : Fin 2048) (h : 256 * t.val + u.val < 5632) : k0_pay5 (F := Ideal) (iblk m c 3 t) (ix2 u k) = W2 m c ⟨256 * t.val + u.val, h⟩ k := by
  rw [← iblk3_at m c t u k h]
  pointwise [k0_pay5]

/-- The layer norm's factors. -/
theorem iblk4_at (c : Dev nD) (t : Fin cfg0.N) (k : Fin 2048) : (iblk m c 4 t (ix2 (0 : Fin 1) k) : EReal) = G m c k := by
  obtain ⟨e0, e1⟩ := index_4 t
  unfold G
  rw [← V_main_arg4 m c]
  refine congrArg (V m c main_arg4) (funext fun a => Fin.ext ?_)
  match a with
  | ⟨0, _⟩ => show win0_4.index t 0 * 1 + 1 * 0 = 0; omega
  | ⟨1, _⟩ => show win0_4.index t 1 * 2048 + 1 * k.val = k.val; omega

/-- The layer norm's offsets. -/
theorem iblk5_at (c : Dev nD) (t : Fin cfg0.N) (k : Fin 2048) : (iblk m c 5 t (ix2 (0 : Fin 1) k) : EReal) = B m c k := by
  obtain ⟨e0, e1⟩ := index_5 t
  unfold B
  rw [← V_main_arg5 m c]
  refine congrArg (V m c main_arg5) (funext fun a => Fin.ext ?_)
  match a with
  | ⟨0, _⟩ => show win0_5.index t 0 * 1 + 1 * 0 = 0; omega
  | ⟨1, _⟩ => show win0_5.index t 1 * 2048 + 1 * k.val = k.val; omega

/-- Until the last tile, the scratch array holds the rows. -/
theorem scr_at (c : Dev nD) (r : Fin 1024) (j : Fin 2048) : ∀ (n : ℕ) (hn : n < cfg0.N) (_ : n < 21), ((outsAt0 m c n hn).2.2.2.2 (ix2 r j) : EReal) = X m c r j
  | 0, hn, _ => by
    have e := congrFun (scr_A m c ⟨0, hn⟩ rfl) (ix2 r j)
    refine e.trans ?_
    rw [← iblk0_at m c ⟨0, hn⟩ r j]
    pointwise [k0_pay1]
  | n + 1, hn, h => (congrFun (scr_B m c ⟨n + 1, hn⟩ (by show ¬ (n + 1) % 22 = 0; omega) h (by show n < _; omega)) (ix2 r j)).trans (scr_at c r j n (by omega) (by omega))

/-! ## The sum over the tiles -/

/-- The hidden units' terms at a row and a column. -/
abbrev term (c : Dev nD) (s : Fin 1024) (k : Fin 2048) : Fin 5632 → EReal := unitAt (X m c s) (W1 m c) (W3 m c) (W2 m c) k

/-- What one tile adds. -/
theorem tile_at (c : Dev nD) (t : Fin cfg0.N) (y : Fin 2048 → EReal) (r : Fin 1024) (k : Fin 2048) (hy : ∀ j, y j = X m c r j) (ht : 256 * t.val + 256 ≤ 5632) :
    tileSum y (fun j u => k0_pay3 (F := Ideal) (iblk m c 1 t) (ix2 j u)) (fun j u => k0_pay4 (F := Ideal) (iblk m c 2 t) (ix2 j u)) (fun u => k0_pay5 (F := Ideal) (iblk m c 3 t) (ix2 u k))
      = ∑ u : Fin 256, term m c r k ⟨256 * t.val + u.val, by omega⟩ := by
  obtain rfl : y = X m c r := funext hy
  unfold tileSum term unitAt
  refine Finset.sum_congr rfl fun u _ => ?_
  have hu : 256 * t.val + u.val < 5632 := by omega
  simp only [copy1_at m c t _ u hu, copy2_at m c t _ u hu, copy3_at m c t u _ hu]

/-- Before the last tile, the block holds the sum over the tiles so far. -/
theorem acc_at (c : Dev nD) (r : Fin 1024) (k : Fin 2048) : ∀ (n : ℕ) (hn : n < cfg0.N) (_ : n < 21),
    ((outsAt0 m c n hn).1 (ix2 r k) : EReal) = sumTo (term m c r k) (256 * n + 256)
  | 0, hn, h => by
    have e := congrFun (outs_A m c ⟨0, hn⟩ rfl) (ix2 r k)
    rw [pay6_at, tile_at m c ⟨0, hn⟩ _ r k (fun j => ?_) (by show 256 * 0 + 256 ≤ 5632; omega)] at e
    · refine e.trans ?_
      rw [← sumTo_add _ (256 * 0) 256 (by decide)]
      refine congrArg (· + _) ?_
      rw [Nat.mul_zero, sumTo_zero]
      pointwise [k0_pay2]
    · rw [← iblk0_at m c ⟨0, hn⟩ r j]
      pointwise [k0_pay1]
  | n + 1, hn, h => by
    have hp : n < cfg0.N := by omega
    have e := congrFun (outs_B m c ⟨n + 1, hn⟩ (by show ¬ (n + 1) % 22 = 0; omega) h hp) (ix2 r k)
    rw [pay6_at] at e
    refine e.trans ((congrArg (_ + ·) (tile_at m c ⟨n + 1, hn⟩ _ r k (fun j => scr_at m c r j n hp (by omega)) (by show 256 * (n + 1) + 256 ≤ 5632; omega))).trans ?_)
    rw [← sumTo_add _ (256 * (n + 1)) 256 (by omega)]
    exact congrArg (· + _) (acc_at c r k n hp (by omega))

/-- The rows the call computes. -/
def headArr (c : Dev nD) : S1024x2048.Idx → EReal := fun i => ffnAt (X m c (i 0)) (W1 m c) (W3 m c) (W2 m c) (G m c) (B m c) (i 1)

/-- After the last tile, the block holds the rows of the result. -/
theorem last_at (c : Dev nD) (t : Fin cfg0.N) (ht : t.val % 22 = 21) (r : Fin 1024) (k : Fin 2048) :
    ((outsAt0 m c t.val t.isLt).1 (ix2 r k) : EReal) = headArr m c (ix2 r k) := by
  have hN : t.val < 22 := lt_of_lt_of_eq t.isLt N_0
  have hp : t.val - 1 < cfg0.N := lt_of_le_of_lt (Nat.sub_le _ _) t.isLt
  have h21 : t.val = 21 := by omega
  rw [outs_C m c t ht hp r k]
  unfold lastAt
  simp only [iblk4_at, iblk5_at]
  show lnAt _ (G m c) (B m c) k = lnAt _ (G m c) (B m c) k
  refine congrArg (fun y => lnAt y (G m c) (B m c) k) ?_
  refine (congrArg (fun s => mix _ s) (funext fun k' => ?_)).trans (congrArg (fun x => mix x _) (funext fun j => iblk0_at m c t r j))
  rw [tile_at m c t _ r k' (fun j => scr_at m c r j (t.val - 1) hp (by omega)) (by omega), acc_at m c r k' (t.val - 1) hp (by omega), ← sumTo_all]
  have e := sumTo_add (term m c r k') (256 * t.val) 256 (by omega)
  have e1 : 256 * (t.val - 1) + 256 = 256 * t.val := by omega
  have e2 : 256 * t.val + 256 = 5632 := by omega
  rw [e1, e, e2]
  rfl

/-- The last point writes the rows back. -/
theorem flushed6 (c : Dev nD) (t : Fin cfg0.N) (ht : t.val % 22 = 21) : (dats m 0 c).flushed 6 t = (win0_6.blk t).view.read (Elt Ideal) (headArr m c) := by
  rw [Value.flushed6]
  obtain ⟨e0, e1⟩ := index_6 t
  funext j
  have hj0 : (j 0).val < 1024 := (j 0).isLt
  have hj1 : (j 1).val < 2048 := (j 1).isLt
  have ej : j = ix2 (⟨(j 0).val, hj0⟩ : Fin 1024) (⟨(j 1).val, hj1⟩ : Fin 2048) := funext fun a => by
    match a with
    | ⟨0, _⟩ => rfl
    | ⟨1, _⟩ => rfl
  refine (show _ = (outsAt0 m c t.val t.isLt).1 (ix2 (⟨(j 0).val, hj0⟩ : Fin 1024) (⟨(j 1).val, hj1⟩ : Fin 2048)) from
    congrArg (outsAt0 m c t.val t.isLt).1 ej).trans ?_
  refine (last_at m c t ht _ _).trans ?_
  refine congrArg (headArr m c) (funext fun a => Fin.ext ?_)
  match a with
  | ⟨0, _⟩ => show (j 0).val = win0_6.index t 0 * 1024 + 1 * (j 0).val; omega
  | ⟨1, _⟩ => show (j 1).val = win0_6.index t 1 * 2048 + 1 * (j 1).val; omega

/-- So the first result ends as the feed-forward block's rows. -/
theorem final6 (c : Dev nD) : (dats m 0 c).arrAt 6 cfg0.N = headArr m c :=
  Dat.arrAt_eq_of_cover (dats m 0 c) 6 (headArr m c) (fun t hf => flushed6 m c t ((flush0_6 t).mp hf)) fun i => (Value.covered_iff6 i).2 (by
    have h0 : (i 0).val < 1024 := (i 0).isLt
    have h1 : (i 1).val < 2048 := (i 1).isLt
    omega)

/-- The gate's weights. -/
def copyArr7 (c : Dev nD) : S2048x5632.Idx → EReal := fun i => m ((c : Thread nD τ).loc main_arg1) i

/-- Every point copies its tile of the gate's weights. -/
theorem copied7 (c : Dev nD) (t : Fin cfg0.N) : (outsAt0 m c t.val t.isLt).2.1 = k0_pay3 (iblk m c 1 t) := by
  have hN : t.val < 22 := lt_of_lt_of_eq t.isLt N_0
  rcases Nat.eq_zero_or_pos t.val with h | h
  · exact copy7_A m c t (by omega)
  · by_cases h' : t.val < 21
    · exact copy7_B m c t (by omega) h' (by omega)
    · exact copy7_C m c t (by omega)

/-- What a point writes back is its tile of the gate's weights. -/
theorem flushed7 (c : Dev nD) (t : Fin cfg0.N) : (dats m 0 c).flushed 7 t = (win0_7.blk t).view.read (Elt Ideal) (copyArr7 m c) := by
  rw [Value.flushed7, copied7]
  obtain ⟨e0, e1⟩ := index_7 t
  have hN : t.val < 22 := lt_of_lt_of_eq t.isLt N_0
  funext j
  have hj0 : (j 0).val < 2048 := (j 0).isLt
  have hj1 : (j 1).val < 256 := (j 1).isLt
  have ej : j = ix2 (⟨(j 0).val, hj0⟩ : Fin 2048) (⟨(j 1).val, hj1⟩ : Fin 256) := funext fun a => by
    match a with
    | ⟨0, _⟩ => rfl
    | ⟨1, _⟩ => rfl
  refine (show _ = k0_pay3 (F := Ideal) (iblk m c 1 t) (ix2 (⟨(j 0).val, hj0⟩ : Fin 2048) (⟨(j 1).val, hj1⟩ : Fin 256)) from
    congrArg (k0_pay3 (F := Ideal) (iblk m c 1 t)) ej).trans ?_
  refine (copy1_at m c t _ _ (by show 256 * t.val + (j 1).val < 5632; omega)).trans ?_
  refine congrArg (copyArr7 m c) (funext fun a => Fin.ext ?_)
  match a with
  | ⟨0, _⟩ => show (j 0).val = win0_7.index t 0 * 2048 + 1 * (j 0).val; omega
  | ⟨1, _⟩ => show 256 * t.val + (j 1).val = win0_7.index t 1 * 256 + 1 * (j 1).val; omega

/-- So that result ends as the gate's weights. -/
theorem final7 (c : Dev nD) : (dats m 0 c).arrAt 7 cfg0.N = copyArr7 m c :=
  Dat.arrAt_eq_of_cover (dats m 0 c) 7 (copyArr7 m c) (fun t _ => flushed7 m c t) fun i => (Value.covered_iff7 i).2 (by
    have h0 : (i 0).val < 2048 := (i 0).isLt
    have h1 : (i 1).val < 5632 := (i 1).isLt
    omega)

/-- The other factor's weights. -/
def copyArr8 (c : Dev nD) : S2048x5632.Idx → EReal := fun i => m ((c : Thread nD τ).loc main_arg2) i

/-- Every point copies its tile of the other factor's weights. -/
theorem copied8 (c : Dev nD) (t : Fin cfg0.N) : (outsAt0 m c t.val t.isLt).2.2.1 = k0_pay4 (iblk m c 2 t) := by
  have hN : t.val < 22 := lt_of_lt_of_eq t.isLt N_0
  rcases Nat.eq_zero_or_pos t.val with h | h
  · exact copy8_A m c t (by omega)
  · by_cases h' : t.val < 21
    · exact copy8_B m c t (by omega) h' (by omega)
    · exact copy8_C m c t (by omega)

/-- What a point writes back is its tile of the other factor's weights. -/
theorem flushed8 (c : Dev nD) (t : Fin cfg0.N) : (dats m 0 c).flushed 8 t = (win0_8.blk t).view.read (Elt Ideal) (copyArr8 m c) := by
  rw [Value.flushed8, copied8]
  obtain ⟨e0, e1⟩ := index_8 t
  have hN : t.val < 22 := lt_of_lt_of_eq t.isLt N_0
  funext j
  have hj0 : (j 0).val < 2048 := (j 0).isLt
  have hj1 : (j 1).val < 256 := (j 1).isLt
  have ej : j = ix2 (⟨(j 0).val, hj0⟩ : Fin 2048) (⟨(j 1).val, hj1⟩ : Fin 256) := funext fun a => by
    match a with
    | ⟨0, _⟩ => rfl
    | ⟨1, _⟩ => rfl
  refine (show _ = k0_pay4 (F := Ideal) (iblk m c 2 t) (ix2 (⟨(j 0).val, hj0⟩ : Fin 2048) (⟨(j 1).val, hj1⟩ : Fin 256)) from
    congrArg (k0_pay4 (F := Ideal) (iblk m c 2 t)) ej).trans ?_
  refine (copy2_at m c t _ _ (by show 256 * t.val + (j 1).val < 5632; omega)).trans ?_
  refine congrArg (copyArr8 m c) (funext fun a => Fin.ext ?_)
  match a with
  | ⟨0, _⟩ => show (j 0).val = win0_8.index t 0 * 2048 + 1 * (j 0).val; omega
  | ⟨1, _⟩ => show 256 * t.val + (j 1).val = win0_8.index t 1 * 256 + 1 * (j 1).val; omega

/-- So that result ends as the other factor's weights. -/
theorem final8 (c : Dev nD) : (dats m 0 c).arrAt 8 cfg0.N = copyArr8 m c :=
  Dat.arrAt_eq_of_cover (dats m 0 c) 8 (copyArr8 m c) (fun t _ => flushed8 m c t) fun i => (Value.covered_iff8 i).2 (by
    have h0 : (i 0).val < 2048 := (i 0).isLt
    have h1 : (i 1).val < 5632 := (i 1).isLt
    omega)

/-- The way back's weights. -/
def copyArr9 (c : Dev nD) : S5632x2048.Idx → EReal := fun i => m ((c : Thread nD τ).loc main_arg3) i

/-- Every point copies its tile of the way back's weights. -/
theorem copied9 (c : Dev nD) (t : Fin cfg0.N) : (outsAt0 m c t.val t.isLt).2.2.2.1 = k0_pay5 (iblk m c 3 t) := by
  have hN : t.val < 22 := lt_of_lt_of_eq t.isLt N_0
  rcases Nat.eq_zero_or_pos t.val with h | h
  · exact copy9_A m c t (by omega)
  · by_cases h' : t.val < 21
    · exact copy9_B m c t (by omega) h' (by omega)
    · exact copy9_C m c t (by omega)

/-- What a point writes back is its tile of the way back's weights. -/
theorem flushed9 (c : Dev nD) (t : Fin cfg0.N) : (dats m 0 c).flushed 9 t = (win0_9.blk t).view.read (Elt Ideal) (copyArr9 m c) := by
  rw [Value.flushed9, copied9]
  obtain ⟨e0, e1⟩ := index_9 t
  have hN : t.val < 22 := lt_of_lt_of_eq t.isLt N_0
  funext j
  have hj0 : (j 0).val < 256 := (j 0).isLt
  have hj1 : (j 1).val < 2048 := (j 1).isLt
  have ej : j = ix2 (⟨(j 0).val, hj0⟩ : Fin 256) (⟨(j 1).val, hj1⟩ : Fin 2048) := funext fun a => by
    match a with
    | ⟨0, _⟩ => rfl
    | ⟨1, _⟩ => rfl
  refine (show _ = k0_pay5 (F := Ideal) (iblk m c 3 t) (ix2 (⟨(j 0).val, hj0⟩ : Fin 256) (⟨(j 1).val, hj1⟩ : Fin 2048)) from
    congrArg (k0_pay5 (F := Ideal) (iblk m c 3 t)) ej).trans ?_
  refine (copy3_at m c t _ _ (by show 256 * t.val + (j 0).val < 5632; omega)).trans ?_
  refine congrArg (copyArr9 m c) (funext fun a => Fin.ext ?_)
  match a with
  | ⟨0, _⟩ => show 256 * t.val + (j 0).val = win0_9.index t 0 * 256 + 1 * (j 0).val; omega
  | ⟨1, _⟩ => show (j 1).val = win0_9.index t 1 * 2048 + 1 * (j 1).val; omega

/-- So that result ends as the way back's weights. -/
theorem final9 (c : Dev nD) : (dats m 0 c).arrAt 9 cfg0.N = copyArr9 m c :=
  Dat.arrAt_eq_of_cover (dats m 0 c) 9 (copyArr9 m c) (fun t _ => flushed9 m c t) fun i => (Value.covered_iff9 i).2 (by
    have h0 : (i 0).val < 5632 := (i 0).isLt
    have h1 : (i 1).val < 2048 := (i 1).isLt
    omega)

/-- The run, with its result arrays named. -/
theorem run (ρ : Dev nD → PrngReg) : θ_run defs (onTc (τ := τ) (main (F := Ideal))) ⟨m, fun _ => 0, ρ⟩ fun r => ∀ c : Dev nD,
      r.2.mem ((c.tc : Thread nD τ).loc main_v0_0) = headArr m c
      ∧ r.2.mem ((c.tc : Thread nD τ).loc main_v0_1) = copyArr7 m c
      ∧ r.2.mem ((c.tc : Thread nD τ).loc main_v0_2) = copyArr8 m c
      ∧ r.2.mem ((c.tc : Thread nD τ).loc main_v0_3) = copyArr9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final6 m c), (h c).2.1.trans (final7 m c), (h c).2.2.1.trans (final8 m c), (h c).2.2.2.1.trans (final9 m c), (h c).2.2.2.2⟩) (Value.run_blocks m ρ)

end Cert.Proof.Kernel6Ideal

end
-- ==== Proof.Algebraic6.lean ====
module

public import proofs.«01_k».proof.Defs
public import proofs.«01_k».proof.Proof.Head
public import proofs.«01_k».proof.Proof.Gen.Reference6Ideal
public import proofs.«01_k».proof.Proof.Gen.Reference6Ideal.Run

@[expose] public section

set_option maxRecDepth 16384

noncomputable section

namespace Cert.Proof.Reference6Ideal

open Cert.Reference6Ideal Cert.Reference6Ideal.Gen
open Idealize.ShloMosaic Idealize.ShloMosaic.TcCoe Idealize.SL.Sem
open Cert.Proof.Ffn

/-! The first feed-forward block's first rows and weights' copies, and their reference, end with equal arrays. -/

section
variable (h : FVec Ideal S1024x2048 .f32) (w1 w3 : FVec Ideal S2048x5632 .f32) (w2 : FVec Ideal S5632x2048 .f32) (g b : FVec Ideal S1x2048 .f32)

/-- The hidden units: `silu (h w1) * (h w3)`. -/
def hidden : FVec Ideal S1024x5632 .f32 :=
  mulf (mulf (Host.dotGeneral dot_S1024x2048_S2048x5632_S1024x5632_1_0_0_1_n_n none h w1)
    (Host.divf (broadcastInDim S1024x5632 ![] bcast_S_S1024x5632 (constant S_ .f32 0x3F800000#32))
      (addf (broadcastInDim S1024x5632 ![] bcast_S_S1024x5632 (constant S_ .f32 0x3F800000#32))
        (Host.exp (Host.negf (Host.dotGeneral dot_S1024x2048_S2048x5632_S1024x5632_1_0_0_1_n_n none h w1))))))
    (Host.dotGeneral dot_S1024x2048_S2048x5632_S1024x5632_1_0_0_1_n_n none h w3)

/-- The residual sum with the hidden units' rows `e`. -/
def resid (e : FVec Ideal S1024x5632 .f32) : FVec Ideal S1024x2048 .f32 :=
  addf (mulf (broadcastInDim S1024x2048 ![] bcast_S_S1024x2048 (constant S_ .f32 0x3F9837F0#32)) h)
    (mulf (broadcastInDim S1024x2048 ![] bcast_S_S1024x2048 (constant S_ .f32 0x3F000000#32))
      (Host.dotGeneral dot_S1024x5632_S5632x2048_S1024x2048_1_0_0_1_n_n none e w2))

/-- A row's mean. -/
def mean (y : FVec Ideal S1024x2048 .f32) : FVec Ideal S1024x1 .f32 :=
  Host.divf (broadcastInDim S1024x1 ![0] bcast_S1024_S1024x1_0 (Host.reduceAdd y (constant S_ .f32 0x00000000#32) reducesTo_S1024x2048_S1024_d1 h_S_))
    (broadcastInDim S1024x1 ![] bcast_S_S1024x1 (constant S_ .f32 0x45000000#32))

/-- The rows with their means subtracted. -/
def centred (y : FVec Ideal S1024x2048 .f32) : FVec Ideal S1024x2048 .f32 :=
  subf y (broadcastInDim S1024x2048 ![0, 1] bcast_S1024x1_S1024x2048_0_1 (mean y))

/-- The layer norm of centred rows. -/
def norm (yc : FVec Ideal S1024x2048 .f32) : FVec Ideal S1024x2048 .f32 :=
  addf (mulf (mulf yc (broadcastInDim S1024x2048 ![0, 1] bcast_S1024x1_S1024x2048_0_1
      (Host.rsqrt (addf (mean (mulf yc yc)) (broadcastInDim S1024x1 ![] bcast_S_S1024x1 (constant S_ .f32 0x3727C5AC#32))))))
    (broadcastInDim S1024x2048 ![0, 1] bcast_S1x2048_S1024x2048_0_1 g))
    (broadcastInDim S1024x2048 ![0, 1] bcast_S1x2048_S1024x2048_0_1 b)

/-- The block's rows, as a term of the arguments. -/
def rows : FVec Ideal S1024x2048 .f32 := norm g b (centred (resid h w2 (hidden h w1 w3)))

/-- The first rows of the argument. -/
def first (x : FVec Ideal S8192x2048 .f32) : FVec Ideal S1024x2048 .f32 := extractStridedSlice S1024x2048 ![0, 0] x slices_S8192x2048_S1024x2048_0_0

/-- A hidden unit. -/
theorem hidden_at (s : Fin 1024) (u : Fin 5632) : hidden h w1 w3 (ix2 s u) = hid (fun j => h (ix2 s j)) (fun j => w1 (ix2 j u)) (fun j => w3 (ix2 j u)) := by
  pointwise [hidden]
  rfl

/-- The residual sum at a row and a column. -/
theorem resid_at (e : FVec Ideal S1024x5632 .f32) (s : Fin 1024) (k : Fin 2048) :
    resid h w2 e (ix2 s k) = mix (fun j => h (ix2 s j)) (fun k => ∑ u, e (ix2 s u) * w2 (ix2 u k)) k := by
  pointwise [resid]
  rfl

/-- A row's mean. -/
theorem mean_at (y : FVec Ideal S1024x2048 .f32) (s : Fin 1024) (z : Fin 1) : mean y (ix2 s z) = Ideal.div (∑ j : Fin 2048, y (ix2 s j)) (Ideal.ofBits .f32 0x45000000#32) := by
  pointwise [mean]

/-- The layer norm at a row and a column. -/
theorem norm_at (y : FVec Ideal S1024x2048 .f32) (s : Fin 1024) (k : Fin 2048) :
    norm g b (centred y) (ix2 s k) = lnAt (fun j => y (ix2 s j)) (fun j => g (ix2 (0 : Fin 1) j)) (fun j => b (ix2 (0 : Fin 1) j)) k := by
  have ec : ∀ j : Fin 2048, centred y (ix2 s j) = y (ix2 s j) - Ideal.div (∑ j : Fin 2048, y (ix2 s j)) (Ideal.ofBits .f32 0x45000000#32) := fun j => by
    pointwise [centred]
    rw [mean_at]
  pointwise [norm]
  rw [mean_at, ec]
  pointwise [norm]
  simp only [ec]
  rfl

/-- A row. -/
theorem rows_at (s : Fin 1024) (k : Fin 2048) : rows h w1 w3 w2 g b (ix2 s k)
    = ffnAt (fun j => h (ix2 s j)) (fun j u => w1 (ix2 j u)) (fun j u => w3 (ix2 j u)) (fun u k => w2 (ix2 u k)) (fun j => g (ix2 (0 : Fin 1) j)) (fun j => b (ix2 (0 : Fin 1) j)) k := by
  unfold rows
  rw [norm_at]
  simp only [resid_at, hidden_at]
  rfl

/-- The argument's first rows. -/
theorem first_at (x : FVec Ideal S8192x2048 .f32) (s : Fin 1024) (j : Fin 2048) : first x (ix2 s j) = x (ix2 (⟨s.val, by omega⟩ : Fin 8192) j) := by
  pointwise [first]
end

/-- The run's first result is that term. -/
theorem res_eq (m : (ℓ : Loc nD τ sig) → Buf (Elt Ideal) ℓ) (c : Dev nD) : Value.res_main_v30 m c
    = rows (first (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The cast keeps the weights. -/
theorem copied_in (w : FVec Ideal S2048x5632 .f32) : truncf .bf16 w bitsLt_bf16_f32 = w := by
  funext i
  pointwise []

/-- So it does on the way back. -/
theorem copied_out (w : FVec Ideal S5632x2048 .f32) : truncf .bf16 w bitsLt_bf16_f32 = w := by
  funext i
  pointwise []

end Cert.Proof.Reference6Ideal

namespace Cert.Proof

open Idealize.ShloMosaic Idealize.ShloMosaic.TcCoe Idealize.SL.Sem

/-- The reference's rows are the kernel's. -/
theorem ref_k6 (m : (ℓ : Loc Cert.Kernel6Ideal.nD Cert.Kernel6Ideal.τ Cert.Kernel6Ideal.sig) → Buf (Elt Ideal) ℓ) (c : Dev Cert.Kernel6Ideal.nD) :
    Reference6Ideal.rows (Reference6Ideal.first (m ((c.tc : Thread Cert.Kernel6Ideal.nD Cert.Kernel6Ideal.τ).loc Cert.Kernel6Ideal.main_arg0))) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) = Kernel6Ideal.headArr m c := by
  funext j
  have hj0 : (j 0).val < 1024 := (j 0).isLt
  have hj1 : (j 1).val < 2048 := (j 1).isLt
  have ej : j = ix2 (⟨(j 0).val, hj0⟩ : Fin 1024) (⟨(j 1).val, hj1⟩ : Fin 2048) := funext fun a => by
    match a with
    | ⟨0, _⟩ => rfl
    | ⟨1, _⟩ => rfl
  rw [ej, Reference6Ideal.rows_at]
  simp only [Reference6Ideal.first_at]
  rfl

/-- The first feed-forward block's first call and its reference end with equal results and their arguments unchanged. -/
theorem algebraic_k6 : Cert.algebraic_Kernel6Ideal_Reference6Ideal := fun m ρ m' ρ' _ hag =>
  ⟨fun c => Kernel6Ideal.headArr m c, fun c => Kernel6Ideal.copyArr7 m c, fun c => Kernel6Ideal.copyArr8 m c, fun c => Kernel6Ideal.copyArr9 m c, Kernel6Ideal.run m ρ,
    (θ_run Cert.Reference6Ideal.defs _ _).mono (fun r h c =>
      ⟨(h c).1.trans ((show _ = Reference6Ideal.rows (Reference6Ideal.first _) _ _ _ _ _ by
          rw [Reference6Ideal.res_eq, (hag c).1, (hag c).2.1, (hag c).2.2.1, (hag c).2.2.2.1, (hag c).2.2.2.2.1, (hag c).2.2.2.2.2]).trans (ref_k6 m c)),
        (h c).2.1.trans ((Reference6Ideal.copied_in _).trans (hag c).2.1), (h c).2.2.1.trans ((Reference6Ideal.copied_in _).trans (hag c).2.2.1),
        (h c).2.2.2.1.trans ((Reference6Ideal.copied_out _).trans (hag c).2.2.2.1), (h c).2.2.2.2⟩) (Cert.Reference6Ideal.Value.run (F := Ideal) m' ρ')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Frame
public import proofs.«01_k».proof.Proof.Bits.Frame
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Rest
public import proofs.«01_k».proof.Proof.Bits.Rest
public import proofs.«01_k».proof.Proof.Gen.Pre_finite_qk
public import proofs.«01_k».proof.Proof.Algebraic
public import proofs.«01_k».proof.Proof.Algebraic2
public import proofs.«01_k».proof.Proof.Algebraic3
public import proofs.«01_k».proof.Proof.Algebraic4
public import proofs.«01_k».proof.Proof.Algebraic5
public import proofs.«01_k».proof.Proof.Algebraic6

@[expose] public section

noncomputable section

namespace Cert.Proof

open Idealize.ShloMosaic Idealize.SL.Sem

/-! The claim, claim by claim. -/

/-- The attention runs and leaves its arguments as they were, every counter zero. -/
theorem frame_k : Cert.quiescent_Kernel := fun m ρ _ => Cert.Proof.Kernel.frame m ρ

/-- The same of its idealization. -/
theorem frame_ki : Cert.quiescent_KernelIdeal := fun m ρ _ => Cert.Proof.KernelIdeal.frame m ρ

/-- The second feed-forward block's frame. -/
theorem frame_k2 : Cert.quiescent_Kernel2 := fun m ρ _ => Cert.Kernel2.Gen.frame m ρ

/-- The same of its idealization. -/
theorem frame_ki2 : Cert.quiescent_Kernel2Ideal := fun m ρ _ => Cert.Kernel2Ideal.Gen.frame m ρ

/-- The per-layer embedding's frame. -/
theorem frame_k3 : Cert.quiescent_Kernel3 := fun m ρ _ => Cert.Kernel3.Gen.frame m ρ

/-- The same of its idealization. -/
theorem frame_ki3 : Cert.quiescent_Kernel3Ideal := fun m ρ _ => Cert.Kernel3Ideal.Gen.frame m ρ

/-- The frame of the first feed-forward block after its first rows. -/
theorem frame_k4 : Cert.quiescent_Kernel4 := Cert.Proof.Kernel4.frame

/-- The same of its idealization. -/
theorem frame_ki4 : Cert.quiescent_Kernel4Ideal := fun m ρ _ => Cert.Proof.Kernel4Ideal.frame m ρ

/-- The output projection's frame. -/
theorem frame_k5 : Cert.quiescent_Kernel5 := fun m ρ _ => Cert.Kernel5.Gen.frame m ρ

/-- The same of its idealization. -/
theorem frame_ki5 : Cert.quiescent_Kernel5Ideal := fun m ρ _ => Cert.Kernel5Ideal.Gen.frame m ρ

/-- The frame of the first feed-forward block on its first rows. -/
theorem frame_k6 : Cert.quiescent_Kernel6 := fun m ρ _ => Cert.Kernel6.Gen.frame m ρ

/-- The same of its idealization. -/
theorem frame_ki6 : Cert.quiescent_Kernel6Ideal := fun m ρ _ => Cert.Kernel6Ideal.Gen.frame m ρ

/-- The reference of program 1 runs on the host alone: its arguments stay, and it declares no semaphore. -/
theorem frame_ri : Cert.quiescent_ReferenceIdeal := fun m ρ _ =>
  (θ_run Cert.ReferenceIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
      Idealize.ShloMosaic.sem_eq_zero_of_no_sems (by decide) r.2⟩)
    (Cert.ReferenceIdeal.Value.run (F := Ideal) m ρ)

/-- The reference of program 2 runs on the host alone: its arguments stay, and it declares no semaphore. -/
theorem frame_ri2 : Cert.quiescent_Reference2Ideal := fun m ρ _ =>
  (θ_run Cert.Reference2Ideal.defs _ _).mono (fun r h => ⟨fun c => ⟨(h c).2.1, (h c).2.2.1, (h c).2.2.2.1, (h c).2.2.2.2.1, (h c).2.2.2.2.2.1, (h c).2.2.2.2.2.2⟩,
      Idealize.ShloMosaic.sem_eq_zero_of_no_sems (by decide) r.2⟩)
    (Cert.Reference2Ideal.Value.run (F := Ideal) m ρ)

/-- The reference of program 3 runs on the host alone: its arguments stay, and it declares no semaphore. -/
theorem frame_ri3 : Cert.quiescent_Reference3Ideal := fun m ρ _ =>
  (θ_run Cert.Reference3Ideal.defs _ _).mono (fun r h => ⟨fun c => ⟨(h c).2.1, (h c).2.2.1, (h c).2.2.2.1, (h c).2.2.2.2⟩,
      Idealize.ShloMosaic.sem_eq_zero_of_no_sems (by decide) r.2⟩)
    (Cert.Reference3Ideal.Value.run (F := Ideal) m ρ)

/-- The reference of program 4 runs on the host alone: its arguments stay, and it declares no semaphore. -/
theorem frame_ri4 : Cert.quiescent_Reference4Ideal := fun m ρ _ =>
  (θ_run Cert.Reference4Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩,
      Idealize.ShloMosaic.sem_eq_zero_of_no_sems (by decide) r.2⟩)
    (Cert.Reference4Ideal.Value.run (F := Ideal) m ρ)

/-- The reference of program 5 runs on the host alone: its arguments stay, and it declares no semaphore. -/
theorem frame_ri5 : Cert.quiescent_Reference5Ideal := fun m ρ _ =>
  (θ_run Cert.Reference5Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.Reference5Ideal.Value.run (F := Ideal) m ρ)

/-- The reference of program 6 runs on the host alone: its arguments stay, and it declares no semaphore. -/
theorem frame_ri6 : Cert.quiescent_Reference6Ideal := fun m ρ _ =>
  (θ_run Cert.Reference6Ideal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩,
      Idealize.ShloMosaic.sem_eq_zero_of_no_sems (by decide) r.2⟩)
    (Cert.Reference6Ideal.Value.run (F := Ideal) m ρ)

/-- The one named constant is minus infinity where the kernel writes its finite mask. -/
theorem preserves_k : Cert.preserves_Kernel_KernelIdeal :=
  IdealRules.named_const.statement Cert.KernelIdeal.κ "mask" .f32 0xF149F2CA#32 ⊥ rfl

/-- Every claim. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts,
  frame_k, frame_ki, fun m ρ _ => Cert.Proof.KernelIdeal.frame m ρ, frame_ri, fun m ρ _ => frame_ri m ρ trivial, frame_k2, frame_ki2, frame_ri2, frame_k3, frame_ki3, frame_ri3, frame_k4, frame_ki4, frame_ri4, frame_k5, frame_ki5, frame_ri5, frame_k6, frame_ki6, frame_ri6, preserves_k, algebraic_k, trivial, algebraic_k2, trivial, algebraic_k3, trivial, algebraic_k4, trivial, algebraic_k5, trivial, algebraic_k6⟩

end Cert.Proof

end
